-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mining_decided [hPre_mining_decided : Cert.Pre_mining_decided.Facts] (m : (ℓ : Loc Cert.KernelIdeal.nD Cert.KernelIdeal.τ Cert.KernelIdeal.sig) → Buf (Elt Ideal) ℓ) : Prop :=
  ∀ c : Dev Cert.KernelIdeal.nD,
    (Cert.Pre_mining_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mining_decided [hPre_mining_decided : Cert.Pre_mining_decided.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mining_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_mining_decided [hKernelIdeal : Cert.KernelIdeal.Facts] [hPre_mining_decided : Cert.Pre_mining_decided.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mining_decided m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_mining_decided [hReferenceIdeal : Cert.ReferenceIdeal.Facts] [hPre_mining_decided : Cert.Pre_mining_decided.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mining_decided m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_mining_decided [hKernelIdeal : Cert.KernelIdeal.Facts] [hReferenceIdeal : Cert.ReferenceIdeal.Facts] [hPre_mining_decided : Cert.Pre_mining_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mining_decided m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_mining_decided : Cert.Pre_mining_decided.Facts),
    quiescent_Kernel (hKernel := hKernel)
    ∧ quiescent_KernelIdeal (hKernelIdeal := hKernelIdeal)
    ∧ quiescent_KernelIdeal_pre_mining_decided (hKernelIdeal := hKernelIdeal) (hPre_mining_decided := hPre_mining_decided)
    ∧ quiescent_ReferenceIdeal (hReferenceIdeal := hReferenceIdeal)
    ∧ quiescent_ReferenceIdeal_pre_mining_decided (hReferenceIdeal := hReferenceIdeal) (hPre_mining_decided := hPre_mining_decided)
    ∧ preserves_Kernel_KernelIdeal
    ∧ algebraic_KernelIdeal_ReferenceIdeal_pre_mining_decided (hKernelIdeal := hKernelIdeal) (hReferenceIdeal := hReferenceIdeal) (hPre_mining_decided := hPre_mining_decided)
-- ==== Pre_mining_decided.lean ====
abbrev S64x8732x21 : Shape := ⟨3, ![64, 8732, 21]⟩
abbrev S64x8732x4 : Shape := ⟨3, ![64, 8732, 4]⟩
abbrev S64x8732 : Shape := ⟨2, ![64, 8732]⟩
abbrev S_ : Shape := ⟨0, ![]⟩
abbrev S64x8732x1 : Shape := ⟨3, ![64, 8732, 1]⟩
abbrev S64 : Shape := ⟨1, ![64]⟩
abbrev S64x1 : Shape := ⟨2, ![64, 1]⟩

class Facts : Prop where
  reducesTo_S64x8732x21_S64x8732_d2 : S64x8732x21.ReducesTo [2] S64x8732
  h_S_ : 0 < S_.numel
  bcast_S_S64x8732 : S_.BroadcastsInDim S64x8732 (![] : Fin 0 → Fin S64x8732.rank)
  bcast_S64x8732_S64x8732x1_0_1 : S64x8732.BroadcastsInDim S64x8732x1 (![0, 1] : Fin 2 → Fin S64x8732x1.rank)
  bcast_S64x8732x1_S64x8732x21_0_1_2 : S64x8732x1.BroadcastsInDim S64x8732x21 (![0, 1, 2] : Fin 3 → Fin S64x8732x21.rank)
  slices_S64x8732x21_S64x8732x1_0_0_0 : S64x8732x21.Slices ![0, 0, 0] S64x8732x1
  shapeCasts_S64x8732x1_S64x8732 : S64x8732x1.ShapeCasts S64x8732
  natLt_1_32 : 1 < 32
  reducesTo_S64x8732_S64_d1 : S64x8732.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x8732_0_1 : S64x1.BroadcastsInDim S64x8732 (![0, 1] : Fin 2 → Fin S64x8732.rank)
  bcast_S_S64x8732x21 : S_.BroadcastsInDim S64x8732x21 (![] : Fin 0 → Fin S64x8732x21.rank)

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def comparator_i32_i32_d1 : BitVec 32 × BitVec 32 → BitVec 32 × BitVec 32 → BitVec 1 :=
  fun l r =>
    let v2 := IntOp.cmpi .slt l.1 r.1
    v2

def fn_log_softmax {F : FTy → Type} [FloatOps F] (arg0 : FVec F S64x8732x21 .f32) : FVec F S64x8732x21 .f32 :=
  let cst : FVec F S_ .f32 := constant S_ .f32 0xFF800000#32
  let v0 : FVec F S64x8732 .f32 := (fun x v => Host.reduce FloatOps.maximumf x v reducesTo_S64x8732x21_S64x8732_d2 h_S_) arg0 cst
  let cst_0 : FVec F S_ .f32 := constant S_ .f32 0xFF800000#32
  let v1 : FVec F S64x8732 .f32 := broadcastInDim S64x8732 ![] bcast_S_S64x8732 cst_0
  let v2 : FVec F S64x8732 .f32 := maximumf v1 v0
  let v3 : FVec F S64x8732x1 .f32 := broadcastInDim S64x8732x1 ![0, 1] bcast_S64x8732_S64x8732x1_0_1 v2
  let v4 : FVec F S64x8732x21 .f32 := broadcastInDim S64x8732x21 ![0, 1, 2] bcast_S64x8732x1_S64x8732x21_0_1_2 v3
  let v5 : FVec F S64x8732x21 .f32 := subf arg0 v4
  let v6 : FVec F S64x8732x21 .f32 := Host.exp v5
  let cst_1 : FVec F S_ .f32 := constant S_ .f32 0x00000000#32
  let v7 : FVec F S64x8732 .f32 := (fun x v => Host.reduceAdd x v reducesTo_S64x8732x21_S64x8732_d2 h_S_) v6 cst_1
  let v8 : FVec F S64x8732x1 .f32 := broadcastInDim S64x8732x1 ![0, 1] bcast_S64x8732_S64x8732x1_0_1 v7
  let v9 : FVec F S64x8732x1 .f32 := Host.log v8
  let v10 : FVec F S64x8732x21 .f32 := broadcastInDim S64x8732x21 ![0, 1, 2] bcast_S64x8732x1_S64x8732x21_0_1_2 v9
  let v11 : FVec F S64x8732x21 .f32 := subf v5 v10
  v11

def fn_where {F : FTy → Type} [FloatOps F] (arg0 : IVec S64x8732 1) (arg1 : FVec F S_ .f32) (arg2 : FVec F S64x8732 .f32) : FVec F S64x8732 .f32 :=
  let v0 : FVec F S_ .f32 := id arg1
  let v1 : FVec F S64x8732 .f32 := broadcastInDim S64x8732 ![] bcast_S_S64x8732 v0
  let v2 : FVec F S64x8732 .f32 := select arg0 v1 arg2
  v2

def fn_argsort {F : FTy → Type} [FloatOps F] (arg0 : FVec F S64x8732 .f32) : IVec S64x8732 32 :=
  let v0 : IVec S64x8732 32 := iotaInDim S64x8732 32 1
  let v1_0 : FVec F S64x8732 .f32 := (fun x y => (Host.sort2 S64x8732 1 comparator_f32_i32_d1 x y).1) arg0 v0
  let v1_1 : IVec S64x8732 32 := (fun x y => (Host.sort2 S64x8732 1 comparator_f32_i32_d1 x y).2) arg0 v0
  v1_1

def fn_argsort_0 {F : FTy → Type} [FloatOps F] (arg0 : IVec S64x8732 32) : IVec S64x8732 32 :=
  let v0 : IVec S64x8732 32 := iotaInDim S64x8732 32 1
  let v1_0 : IVec S64x8732 32 := (fun x y => (Host.sort2 S64x8732 1 comparator_i32_i32_d1 x y).1) arg0 v0
  let v1_1 : IVec S64x8732 32 := (fun x y => (Host.sort2 S64x8732 1 comparator_i32_i32_d1 x y).2) arg0 v0
  v1_1

def fn_where_1 {F : FTy → Type} [FloatOps F] (arg0 : IVec S64x8732 1) (arg1 : FVec F S64x8732 .f32) (arg2 : FVec F S_ .f32) : FVec F S64x8732 .f32 :=
  let v0 : FVec F S_ .f32 := id arg2
  let v1 : FVec F S64x8732 .f32 := broadcastInDim S64x8732 ![] bcast_S_S64x8732 v0
  let v2 : FVec F S64x8732 .f32 := select arg0 arg1 v1
  v2

def fn_part3 {F : FTy → Type} [FloatOps F] (main_v54 : IVec S64x8732x1 1) (main_v55 : FVec F S64x8732x21 .f32) : IVec S64x8732x21 1 :=
  let main_cst_14 : FVec F S_ .f32 := constant S_ .f32 0x7F800000#32
  let main_v56 : FVec F S64x8732x21 .f32 := broadcastInDim S64x8732x21 ![] bcast_S_S64x8732x21 main_cst_14
  let main_v57 : IVec S64x8732x21 1 := cmpf .olt main_v55 main_v56
  let main_v58 : IVec S64x8732x21 1 := broadcastInDim S64x8732x21 ![0, 1, 2] bcast_S64x8732x1_S64x8732x21_0_1_2 main_v54
  let main_v59 : IVec S64x8732x21 1 := andi main_v58 main_v57
  main_v59

def fn_part2 {F : FTy → Type} [FloatOps F] (main_arg0 : FVec F S64x8732x21 .f32) (main_arg2 : IVec S64x8732 32) (main_v10 : IVec S64x1 32) (main_v16 : IVec S64x8732 1) (main_v29 : FVec F S64x1 .f32) (main_v35 : IVec S64x1 1) (main_cst_9 : FVec F S_ .f32) : IVec S64x8732x21 1 :=
  let main_v36 : FVec F S64x1 .f32 := broadcastInDim S64x1 ![] bcast_S_S64x1 main_cst_9
  let main_v37 : IVec S64x1 1 := cmpf .ole main_v29 main_v36
  let main_v38 : IVec S64x1 1 := andi main_v35 main_v37
  let main_v39 : IVec S64x8732 32 := (extui 32 · natLt_1_32) main_v16
  let main_c_10 : IVec S_ 32 := constantI S_ 32 0#32
  let main_v40 : IVec S64 32 := (fun x v => Host.reduce IntOp.addi x v reducesTo_S64x8732_S64_d1 h_S_) main_v39 main_c_10
  let main_v41 : IVec S64x1 32 := broadcastInDim S64x1 ![0] bcast_S64_S64x1_0 main_v40
  let main_v42 : IVec S64x1 1 := cmpi .sge main_v10 main_v41
  let main_c_11 : IVec S_ 32 := constantI S_ 32 3#32
  let main_v43 : IVec S64x1 32 := broadcastInDim S64x1 ![] bcast_S_S64x1 main_c_11
  let main_v44 : IVec S64x1 1 := cmpi .sge main_v10 main_v43
  let main_v45 : IVec S64x1 1 := ori main_v42 main_v38
  let main_v46 : IVec S64x1 1 := andi main_v44 main_v45
  let main_c_12 : IVec S_ 32 := constantI S_ 32 0#32
  let main_v47 : IVec S64x8732 32 := broadcastInDim S64x8732 ![] bcast_S_S64x8732 main_c_12
  let main_v48 : IVec S64x8732 1 := cmpi .sge main_arg2 main_v47
  let main_c_13 : IVec S_ 32 := constantI S_ 32 21#32
  let main_v49 : IVec S64x8732 32 := broadcastInDim S64x8732 ![] bcast_S_S64x8732 main_c_13
  let main_v50 : IVec S64x8732 1 := cmpi .slt main_arg2 main_v49
  let main_v51 : IVec S64x8732 1 := andi main_v48 main_v50
  let main_v52 : IVec S64x8732 1 := broadcastInDim S64x8732 ![0, 1] bcast_S64x1_S64x8732_0_1 main_v46
  let main_v53 : IVec S64x8732 1 := andi main_v51 main_v52
  let main_v54 : IVec S64x8732x1 1 := broadcastInDim S64x8732x1 ![0, 1] bcast_S64x8732_S64x8732x1_0_1 main_v53
  let main_v55 : FVec F S64x8732x21 .f32 := Host.absf main_arg0
  fn_part3 (F := F) main_v54 main_v55

def fn_part1 {F : FTy → Type} [FloatOps F] (main_arg0 : FVec F S64x8732x21 .f32) (main_arg2 : IVec S64x8732 32) (main_v3 : FVec F S64x8732 .f32) (main_v10 : IVec S64x1 32) (main_v14 : IVec S64x8732 32) (main_v16 : IVec S64x8732 1) (main_v18 : IVec S64x8732 1) : IVec S64x8732x21 1 :=
  let main_v19 : IVec S64x8732 1 := andi main_v16 main_v18
  let main_v20 : IVec S64x8732 32 := broadcastInDim S64x8732 ![0, 1] bcast_S64x1_S64x8732_0_1 main_v10
  let main_v21 : IVec S64x8732 1 := cmpi .slt main_v14 main_v20
  let main_v22 : IVec S64x8732 1 := noti main_v21
  let main_v23 : IVec S64x8732 1 := andi main_v16 main_v22
  let main_cst_3 : FVec F S_ .f32 := constant S_ .f32 0x7F800000#32
  let main_v24 : FVec F S64x8732 .f32 := fn_where_1 (F := F) main_v19 main_v3 main_cst_3
  let main_cst_4 : FVec F S_ .f32 := constant S_ .f32 0x7F800000#32
  let main_v25 : FVec F S64 .f32 := (fun x v => Host.reduce FloatOps.minimumf x v reducesTo_S64x8732_S64_d1 h_S_) main_v24 main_cst_4
  let main_v26 : FVec F S64x1 .f32 := broadcastInDim S64x1 ![0] bcast_S64_S64x1_0 main_v25
  let main_cst_5 : FVec F S_ .f32 := constant S_ .f32 0x00000000#32
  let main_v27 : FVec F S64x8732 .f32 := fn_where_1 (F := F) main_v23 main_v3 main_cst_5
  let main_cst_6 : FVec F S_ .f32 := constant S_ .f32 0xFF800000#32
  let main_v28 : FVec F S64 .f32 := (fun x v => Host.reduce FloatOps.maximumf x v reducesTo_S64x8732_S64_d1 h_S_) main_v27 main_cst_6
  let main_v29 : FVec F S64x1 .f32 := broadcastInDim S64x1 ![0] bcast_S64_S64x1_0 main_v28
  let main_v30 : FVec F S64x1 .f32 := subf main_v26 main_v29
  let main_cst_7 : FVec F S_ .f32 := constant S_ .f32 0x34000000#32
  let main_v31 : FVec F S64x1 .f32 := broadcastInDim S64x1 ![] bcast_S_S64x1 main_cst_7
  let main_v32 : FVec F S64x1 .f32 := mulf main_v26 main_v31
  let main_cst_8 : FVec F S_ .f32 := constant S_ .f32 0x0D800000#32
  let main_v33 : FVec F S64x1 .f32 := broadcastInDim S64x1 ![] bcast_S_S64x1 main_cst_8
  let main_v34 : FVec F S64x1 .f32 := maximumf main_v32 main_v33
  let main_v35 : IVec S64x1 1 := cmpf .oge main_v30 main_v34
  let main_cst_9 : FVec F S_ .f32 := constant S_ .f32 0x7F000000#32
  fn_part2 (F := F) main_arg0 main_arg2 main_v10 main_v16 main_v29 main_v35 main_cst_9

def fn {F : FTy → Type} [FloatOps F] (main_arg0 : FVec F S64x8732x21 .f32) (main_arg1 : FVec F S64x8732x4 .f32) (main_arg2 : IVec S64x8732 32) (main_arg3 : FVec F S64x8732x4 .f32) : IVec S64x8732x21 1 :=
  let main_v0 : FVec F S64x8732x21 .f32 := fn_log_softmax (F := F) main_arg0
  let main_v1 : FVec F S64x8732x1 .f32 := (extractStridedSlice S64x8732x1 ![0, 0, 0] · slices_S64x8732x21_S64x8732x1_0_0_0) main_v0
  let main_v2 : FVec F S64x8732 .f32 := shapeCast S64x8732 main_v1 shapeCasts_S64x8732x1_S64x8732
  let main_v3 : FVec F S64x8732 .f32 := Host.negf main_v2
  let main_c : IVec S_ 32 := constantI S_ 32 0#32
  let main_v4 : IVec S64x8732 32 := broadcastInDim S64x8732 ![] bcast_S_S64x8732 main_c
  let main_v5 : IVec S64x8732 1 := cmpi .sgt main_arg2 main_v4
  let main_v6 : IVec S64x8732 32 := (extui 32 · natLt_1_32) main_v5
  let main_c_0 : IVec S_ 32 := constantI S_ 32 0#32
  let main_v7 : IVec S64 32 := (fun x v => Host.reduce IntOp.addi x v reducesTo_S64x8732_S64_d1 h_S_) main_v6 main_c_0
  let main_v8 : IVec S64x1 32 := broadcastInDim S64x1 ![0] bcast_S64_S64x1_0 main_v7
  let main_c_1 : IVec S_ 32 := constantI S_ 32 3#32
  let main_v9 : IVec S64x1 32 := broadcastInDim S64x1 ![] bcast_S_S64x1 main_c_1
  let main_v10 : IVec S64x1 32 := muli main_v8 main_v9
  let main_cst : FVec F S_ .f32 := constant S_ .f32 0xFF800000#32
  let main_v11 : FVec F S64x8732 .f32 := fn_where (F := F) main_v5 main_cst main_v3
  let main_v12 : FVec F S64x8732 .f32 := Host.negf main_v11
  let main_v13 : IVec S64x8732 32 := fn_argsort (F := F) main_v12
  let main_v14 : IVec S64x8732 32 := fn_argsort_0 (F := F) main_v13
  let main_c_2 : IVec S_ 32 := constantI S_ 32 0#32
  let main_v15 : IVec S64x8732 32 := broadcastInDim S64x8732 ![] bcast_S_S64x8732 main_c_2
  let main_v16 : IVec S64x8732 1 := cmpi .eq main_arg2 main_v15
  let main_v17 : IVec S64x8732 32 := broadcastInDim S64x8732 ![0, 1] bcast_S64x1_S64x8732_0_1 main_v10
  let main_v18 : IVec S64x8732 1 := cmpi .slt main_v14 main_v17
  fn_part1 (F := F) main_arg0 main_arg2 main_v3 main_v10 main_v14 main_v16 main_v18
-- ==== Kernel.lean ====
abbrev S64x8732x21 : Shape := ⟨3, ![64, 8732, 21]⟩
abbrev S64x8732x4 : Shape := ⟨3, ![64, 8732, 4]⟩
abbrev S64x8732 : Shape := ⟨2, ![64, 8732]⟩
abbrev S21x64x8732 : Shape := ⟨3, ![21, 64, 8732]⟩
abbrev S4x64x8732 : Shape := ⟨3, ![4, 64, 8732]⟩
abbrev S1x1 : Shape := ⟨2, ![1, 1]⟩
abbrev S21x8x8832 : Shape := ⟨3, ![21, 8, 8832]⟩
abbrev S8x8832 : Shape := ⟨2, ![8, 8832]⟩
abbrev S4x8x8832 : Shape := ⟨3, ![4, 8, 8832]⟩
abbrev S3 : Shape := ⟨1, ![3]⟩
abbrev S64x8832 : Shape := ⟨2, ![64, 8832]⟩
abbrev S64x1 : Shape := ⟨2, ![64, 1]⟩
abbrev S1x8x8832 : Shape := ⟨3, ![1, 8, 8832]⟩
abbrev S1 : Shape := ⟨1, ![1]⟩
abbrev S1x1x1 : Shape := ⟨3, ![1, 1, 1]⟩
abbrev S8 : Shape := ⟨1, ![8]⟩
abbrev S8x1 : Shape := ⟨2, ![8, 1]⟩
abbrev S1x64x1 : Shape := ⟨3, ![1, 64, 1]⟩
abbrev S64 : Shape := ⟨1, ![64]⟩
abbrev S_ : Shape := ⟨0, ![]⟩

abbrev nBuf : Space → Nat
  | .hbm => 15
  | .vmem => 11
  | .smem => 4
  | _ => 0

abbrev bufTy : (tb : Table) → Fin (tcTables nBuf tb) → BufTy
  | .hbm, ⟨0, _⟩ => ⟨S64x8732x21, .f32⟩
  | .hbm, ⟨1, _⟩ => ⟨S64x8732x4, .f32⟩
  | .hbm, ⟨2, _⟩ => ⟨S64x8732, .i32⟩
  | .hbm, ⟨3, _⟩ => ⟨S64x8732x4, .f32⟩
  | .hbm, ⟨4, _⟩ => ⟨S21x64x8732, .f32⟩
  | .hbm, ⟨5, _⟩ => ⟨S4x64x8732, .f32⟩
  | .hbm, ⟨6, _⟩ => ⟨S4x64x8732, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S21x8x8832, .f32⟩
  | .local _ .vmem, ⟨1, _⟩ => ⟨S21x8x8832, .f32⟩
  | .local _ .vmem, ⟨2, _⟩ => ⟨S8x8832, .i32⟩
  | .local _ .vmem, ⟨3, _⟩ => ⟨S8x8832, .i32⟩
  | .local _ .vmem, ⟨4, _⟩ => ⟨S4x8x8832, .f32⟩
  | .local _ .vmem, ⟨5, _⟩ => ⟨S4x8x8832, .f32⟩
  | .local _ .vmem, ⟨6, _⟩ => ⟨S4x8x8832, .f32⟩
  | .local _ .vmem, ⟨7, _⟩ => ⟨S4x8x8832, .f32⟩
  | .local _ .vmem, ⟨8, _⟩ => ⟨S64x8832, .f32⟩
  | .local _ .vmem, ⟨9, _⟩ => ⟨S64x1, .f32⟩
  | .local _ .vmem, ⟨10, _⟩ => ⟨S64x1, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S3, .f32⟩
  | _, _ => ⟨S64x8732x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_stg4_0 : Ref sig .tc := ⟨.smem, 0, rfl⟩
abbrev cc0_stg5_0 : Ref sig .tc := ⟨.smem, 1, rfl⟩
abbrev cc0_stg6_0 : Ref sig .tc := ⟨.smem, 2, rfl⟩
abbrev cc0_scratch0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c8_i32_47 : BitVec 32 := 8#32
  let v160 : BitVec 32 := Scalar.muli arg0 c8_i32_47
  let v161 : Index := Scalar.indexCast v160
  let c0_48 : Index := 0#32
  ![v161.toNat, 0]
def k0_off2 (i : grid0.Coords) : Fin 2 → Nat :=
  let arg0 : BitVec 32 := BitVec.ofNat 32 (i 0).val
  let c8_i32_54 : BitVec 32 := 8#32
  let v176 : BitVec 32 := Scalar.muli arg0 c8_i32_54
  let v177 : Index := Scalar.indexCast v176
  let c0_55 : Index := 0#32
  ![v177.toNat, 0]
def k0_cond2 (i : grid0.Coords) : BitVec 1 :=
  let arg0 : BitVec 32 := BitVec.ofNat 32 (i 0).val
  let c7_i32_116 : BitVec 32 := 7#32
  let v294 : BitVec 1 := Scalar.cmpi .eq arg0 c7_i32_116
  let v295 : BitVec 32 := Scalar.extui v294
  let c0_i32_117 : BitVec 32 := 0#32
  let v296 : BitVec 1 := Scalar.cmpi .ne v295 c0_i32_117
  v296

@[reducible] def k0_t1_loop : Scf.Loop 32 :=
  let c0_i32_140 : BitVec 32 := 0#32
  let c31_i32 : BitVec 32 := 31#32
  let v325 : BitVec 32 := Scalar.addi c0_i32_140 c31_i32
  let c1_i32_141 : BitVec 32 := 1#32
  ⟨c0_i32_140, v325, c1_i32_141⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S21x8x8832 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8832 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x8832 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x8x8832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S64x8732x21 : Shape := ⟨3, ![64, 8732, 21]⟩
abbrev S64x8732x4 : Shape := ⟨3, ![64, 8732, 4]⟩
abbrev S64x8732 : Shape := ⟨2, ![64, 8732]⟩
abbrev S_ : Shape := ⟨0, ![]⟩
abbrev S64x8732x1 : Shape := ⟨3, ![64, 8732, 1]⟩
abbrev S64 : Shape := ⟨1, ![64]⟩
abbrev S64x1 : Shape := ⟨2, ![64, 1]⟩
abbrev S64x8732x1x1 : Shape := ⟨4, ![64, 8732, 1, 1]⟩
abbrev S1 : Shape := ⟨1, ![1]⟩
abbrev S1x1x1x1 : Shape := ⟨4, ![1, 1, 1, 1]⟩

abbrev nBuf : Space → Nat
  | .hbm => 104
  | .vmem => 0
  | .smem => 0
  | _ => 0

abbrev bufTy : (tb : Table) → Fin (tcTables nBuf tb) → BufTy
  | .hbm, ⟨0, _⟩ => ⟨S64x8732x21, .f32⟩
  | .hbm, ⟨1, _⟩ => ⟨S64x8732x4, .f32⟩
  | .hbm, ⟨2, _⟩ => ⟨S64x8732, .i32⟩
  | .hbm, ⟨3, _⟩ => ⟨S64x8732x4, .f32⟩
  | .hbm, ⟨4, _⟩ => ⟨S_, .f32⟩
  | .hbm, ⟨5, _⟩ => ⟨S64x8732, .f32⟩
  | .hbm, ⟨6, _⟩ => ⟨S_, .f32⟩
  | .hbm, ⟨7, _⟩ => ⟨S64x8732, .f32⟩
  | .hbm, ⟨8, _⟩ => ⟨S64x8732, .f32⟩
  | .hbm, ⟨9, _⟩ => ⟨S64x8732x1, .f32⟩
  | .hbm, ⟨10, _⟩ => ⟨S64x8732x21, .f32⟩
  | .hbm, ⟨11, _⟩ => ⟨S64x8732x21, .f32⟩
  | .hbm, ⟨12, _⟩ => ⟨S64x8732x21, .f32⟩
  | .hbm, ⟨13, _⟩ => ⟨S_, .f32⟩
  | .hbm, ⟨14, _⟩ => ⟨S64x8732, .f32⟩
  | .hbm, ⟨15, _⟩ => ⟨S64x8732x1, .f32⟩
  | .hbm, ⟨16, _⟩ => ⟨S64x8732x1, .f32⟩
  | .hbm, ⟨17, _⟩ => ⟨S64x8732x21, .f32⟩
  | .hbm, ⟨18, _⟩ => ⟨S64x8732x21, .f32⟩
  | .hbm, ⟨19, _⟩ => ⟨S64x8732x1, .f32⟩
  | .hbm, ⟨20, _⟩ => ⟨S64x8732, .f32⟩
  | .hbm, ⟨21, _⟩ => ⟨S64x8732, .f32⟩
  | .hbm, ⟨22, _⟩ => ⟨S_, .i32⟩
  | .hbm, ⟨23, _⟩ => ⟨S64x8732, .i32⟩
  | .hbm, ⟨24, _⟩ => ⟨S64x8732, .i1⟩
  | .hbm, ⟨25, _⟩ => ⟨S64x8732, .i32⟩
  | .hbm, ⟨26, _⟩ => ⟨S_, .i32⟩
  | .hbm, ⟨27, _⟩ => ⟨S64, .i32⟩
  | .hbm, ⟨28, _⟩ => ⟨S64x1, .i32⟩
  | .hbm, ⟨29, _⟩ => ⟨S_, .i32⟩
  | .hbm, ⟨30, _⟩ => ⟨S64x1, .i32⟩
  | .hbm, ⟨31, _⟩ => ⟨S64x1, .i32⟩
  | .hbm, ⟨32, _⟩ => ⟨S_, .f32⟩
  | .hbm, ⟨33, _⟩ => ⟨S_, .f32⟩
  | .hbm, ⟨34, _⟩ => ⟨S64x8732, .f32⟩
  | .hbm, ⟨35, _⟩ => ⟨S64x8732, .f32⟩
  | .hbm, ⟨36, _⟩ => ⟨S64x8732, .f32⟩
  | .hbm, ⟨37, _⟩ => ⟨S64x8732, .i32⟩
  | .hbm, ⟨38, _⟩ => ⟨S64x8732, .f32⟩
  | .hbm, ⟨39, _⟩ => ⟨S64x8732, .i32⟩
  | .hbm, ⟨40, _⟩ => ⟨S64x8732, .i32⟩
  | .hbm, ⟨41, _⟩ => ⟨S64x8732, .i32⟩
  | .hbm, ⟨42, _⟩ => ⟨S64x8732, .i32⟩
  | .hbm, ⟨43, _⟩ => ⟨S64x8732, .i32⟩
  | .hbm, ⟨44, _⟩ => ⟨S64x8732, .i1⟩
  | .hbm, ⟨45, _⟩ => ⟨S64x8732, .i1⟩
  | .hbm, ⟨46, _⟩ => ⟨S64x8732x1, .i32⟩
  | .hbm, ⟨47, _⟩ => ⟨S_, .i32⟩
  | .hbm, ⟨48, _⟩ => ⟨S64x8732x1, .i32⟩
  | .hbm, ⟨49, _⟩ => ⟨S64x8732x1, .i1⟩
  | .hbm, ⟨50, _⟩ => ⟨S_, .i32⟩
  | .hbm, ⟨51, _⟩ => ⟨S64x8732x1, .i32⟩
  | .hbm, ⟨52, _⟩ => ⟨S64x8732x1, .i32⟩
  | .hbm, ⟨53, _⟩ => ⟨S64x8732x1, .i32⟩
  | .hbm, ⟨54, _⟩ => ⟨S64x8732x1x1, .i32⟩
  | .hbm, ⟨55, _⟩ => ⟨S1, .i32⟩
  | .hbm, ⟨56, _⟩ => ⟨S_, .i32⟩
  | .hbm, ⟨57, _⟩ => ⟨S64x8732x1x1, .i32⟩
  | .hbm, ⟨58, _⟩ => ⟨S64x8732x1x1, .i1⟩
  | .hbm, ⟨59, _⟩ => ⟨S1x1x1x1, .i32⟩
  | .hbm, ⟨60, _⟩ => ⟨S64x8732x1x1, .i32⟩
  | .hbm, ⟨61, _⟩ => ⟨S64x8732x1x1, .i1⟩
  | .hbm, ⟨62, _⟩ => ⟨S64x8732x1x1, .i1⟩
  | .hbm, ⟨63, _⟩ => ⟨S_, .i1⟩
  | .hbm, ⟨64, _⟩ => ⟨S64x8732x1, .i1⟩
  | .hbm, ⟨65, _⟩ => ⟨S64x8732x1, .f32⟩
  | .hbm, ⟨66, _⟩ => ⟨S_, .f32⟩
  | .hbm, ⟨67, _⟩ => ⟨S64x8732x1, .f32⟩
  | .hbm, ⟨68, _⟩ => ⟨S64x8732x1, .f32⟩
  | .hbm, ⟨69, _⟩ => ⟨S64x8732, .f32⟩
  | .hbm, ⟨70, _⟩ => ⟨S64x8732, .f32⟩
  | .hbm, ⟨71, _⟩ => ⟨S_, .f32⟩
  | .hbm, ⟨72, _⟩ => ⟨S_, .f32⟩
  | .hbm, ⟨73, _⟩ => ⟨S64x8732, .f32⟩
  | .hbm, ⟨74, _⟩ => ⟨S64x8732, .f32⟩
  | .hbm, ⟨75, _⟩ => ⟨S_, .f32⟩
  | .hbm, ⟨76, _⟩ => ⟨S_, .f32⟩
  | .hbm, ⟨77, _⟩ => ⟨S64x8732x4, .f32⟩
  | .hbm, ⟨78, _⟩ => ⟨S64x8732x4, .f32⟩
  | .hbm, ⟨79, _⟩ => ⟨S_, .f32⟩
  | .hbm, ⟨80, _⟩ => ⟨S64x8732x4, .f32⟩
  | .hbm, ⟨81, _⟩ => ⟨S64x8732x4, .i1⟩
  | .hbm, ⟨82, _⟩ => ⟨S_, .f32⟩
  | .hbm, ⟨83, _⟩ => ⟨S64x8732x4, .f32⟩
  | .hbm, ⟨84, _⟩ => ⟨S64x8732x4, .f32⟩
  | .hbm, ⟨85, _⟩ => ⟨S64x8732x4, .f32⟩
  | .hbm, ⟨86, _⟩ => ⟨S_, .f32⟩
  | .hbm, ⟨87, _⟩ => ⟨S64x8732x4, .f32⟩
  | .hbm, ⟨88, _⟩ => ⟨S64x8732x4, .f32⟩
  | .hbm, ⟨89, _⟩ => ⟨S64x8732x4, .f32⟩
  | .hbm, ⟨90, _⟩ => ⟨S64x8732x1, .i1⟩
  | .hbm, ⟨91, _⟩ => ⟨S_, .f32⟩
  | .hbm, ⟨92, _⟩ => ⟨S_, .f32⟩
  | .hbm, ⟨93, _⟩ => ⟨S64x8732x4, .i1⟩
  | .hbm, ⟨94, _⟩ => ⟨S64x8732x4, .f32⟩
  | .hbm, ⟨95, _⟩ => ⟨S64x8732x4, .f32⟩
  | .hbm, ⟨96, _⟩ => ⟨S_, .f32⟩
  | .hbm, ⟨97, _⟩ => ⟨S_, .f32⟩
  | .hbm, ⟨98, _⟩ => ⟨S64x8732, .i32⟩
  | .hbm, ⟨99, _⟩ => ⟨S_, .i32⟩
  | .hbm, ⟨100, _⟩ => ⟨S_, .i32⟩
  | .hbm, ⟨101, _⟩ => ⟨S_, .f32⟩
  | .hbm, ⟨102, _⟩ => ⟨S_, .f32⟩
  | .hbm, ⟨103, _⟩ => ⟨S_, .f32⟩
  | _, _ => ⟨S64x8732x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_c_1 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_v11 : Ref sig .tc := ⟨.hbm, 35, rfl⟩
abbrev main_v12 : Ref sig .tc := ⟨.hbm, 36, rfl⟩
abbrev main_call2_v0 : Ref sig .tc := ⟨.hbm, 37, rfl⟩
abbrev main_call2_v1_0 : Ref sig .tc := ⟨.hbm, 38, rfl⟩
abbrev main_v13 : Ref sig .tc := ⟨.hbm, 39, rfl⟩
abbrev main_call3_v0 : Ref sig .tc := ⟨.hbm, 40, rfl⟩
abbrev main_call3_v1_0 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_call4_c : Ref sig .tc := ⟨.hbm, 47, rfl⟩
abbrev main_call4_v0 : Ref sig .tc := ⟨.hbm, 48, rfl⟩
abbrev main_call4_v1 : Ref sig .tc := ⟨.hbm, 49, rfl⟩
abbrev main_call4_c_0 : Ref sig .tc := ⟨.hbm, 50, rfl⟩
abbrev main_call4_v2 : Ref sig .tc := ⟨.hbm, 51, rfl⟩
abbrev main_call4_v3 : Ref sig .tc := ⟨.hbm, 52, rfl⟩
abbrev main_call4_v4 : Ref sig .tc := ⟨.hbm, 53, rfl⟩
abbrev main_call4_v5 : Ref sig .tc := ⟨.hbm, 54, rfl⟩
abbrev main_call4_c_1 : Ref sig .tc := ⟨.hbm, 55, rfl⟩
abbrev main_call4_c_2 : Ref sig .tc := ⟨.hbm, 56, rfl⟩
abbrev main_call4_v6 : Ref sig .tc := ⟨.hbm, 57, rfl⟩
abbrev main_call4_v7 : Ref sig .tc := ⟨.hbm, 58, rfl⟩
abbrev main_call4_v8 : Ref sig .tc := ⟨.hbm, 59, rfl⟩
abbrev main_call4_v9 : Ref sig .tc := ⟨.hbm, 60, rfl⟩
abbrev main_call4_v10 : Ref sig .tc := ⟨.hbm, 61, rfl⟩
abbrev main_call4_v11 : Ref sig .tc := ⟨.hbm, 62, rfl⟩
abbrev main_call4_c_3 : Ref sig .tc := ⟨.hbm, 63, rfl⟩
abbrev main_call4_v12 : Ref sig .tc := ⟨.hbm, 64, rfl⟩
abbrev main_call4_v13 : Ref sig .tc := ⟨.hbm, 65, rfl⟩
abbrev main_call4_cst : Ref sig .tc := ⟨.hbm, 66, rfl⟩
abbrev main_call4_v14 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_cst_2 : Ref sig .tc := ⟨.hbm, 71, rfl⟩
abbrev main_call5_v0 : Ref sig .tc := ⟨.hbm, 72, rfl⟩
abbrev main_call5_v1 : Ref sig .tc := ⟨.hbm, 73, rfl⟩
abbrev main_v22 : Ref sig .tc := ⟨.hbm, 74, rfl⟩
abbrev main_cst_3 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_cst_4 : Ref sig .tc := ⟨.hbm, 79, rfl⟩
abbrev main_v26 : Ref sig .tc := ⟨.hbm, 80, rfl⟩
abbrev main_v27 : Ref sig .tc := ⟨.hbm, 81, rfl⟩
abbrev main_cst_5 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_cst_6 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_cst_7 : Ref sig .tc := ⟨.hbm, 91, rfl⟩
abbrev main_call7_v0 : Ref sig .tc := ⟨.hbm, 92, rfl⟩
abbrev main_call7_v1 : Ref sig .tc := ⟨.hbm, 93, rfl⟩
abbrev main_call7_v2 : Ref sig .tc := ⟨.hbm, 94, rfl⟩
abbrev main_v35 : Ref sig .tc := ⟨.hbm, 95, rfl⟩
abbrev main_cst_8 : Ref sig .tc := ⟨.hbm, 96, rfl⟩
abbrev main_v36 : Ref sig .tc := ⟨.hbm, 97, rfl⟩
abbrev main_v37 : Ref sig .tc := ⟨.hbm, 98, rfl⟩
abbrev main_c_9 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩

abbrev nD : Nat := 1
abbrev τ : Topo := Topo.v7x

variable {F : FTy → Type} [FloatOps F]
-- ==== Proof.KernelIdealRun.Block.lean ====
module

public import proofs.«01_k».proof.Proof.Gen.KernelIdeal.Frame
public import proofs.«01_k».proof.Proof.Gen.KernelIdeal.Skeleton
public import Idealize.ShloMosaic.Lib.ValueIdxCore
public import Idealize.ShloMosaic.Lib.ValueLayout
public import Idealize.ShloMosaic.Lib.CellWrites

/-! What one grid point of the kernel computes from its four blocks, as functions of the blocks, and what those
functions are lane by lane. The columns past the arrays' end never matter: every result is masked by the column number. -/

@[expose] public section

set_option maxRecDepth 16384

noncomputable section

namespace Cert.KernelIdeal.Hand

open Idealize.ShloMosaic Idealize.ShloMosaic.TcCoe Idealize.ShloMosaic.Tactic
open Idealize.ShloMosaic.ValueIdx
open Cert.KernelIdeal.Gen

variable {F : FTy → Type} [FloatOps F]

/-! ## The loads of a block -/

/-- The whole block of labels, as the body loads it. -/
abbrev labs (X2 : S8x8832.Idx → Elt F .i32) : S8x8832.Idx → Elt F .i32 :=
  View.ld X2 (Rect.unit (s := S8x8832) ![0, 0] S8x8832.size inb_S8x8832_S8x8832_0_0)
/-- Class 0's plane of the confidences. -/
abbrev cl0 (X1 : S21x8x8832.Idx → Elt F .f32) : S1x8x8832.Idx → Elt F .f32 := View.ld X1 (Rect.unit (s := S21x8x8832) ![0, 0, 0] S1x8x8832.size inb_S21x8x8832_S1x8x8832_0_0_0)
/-- Class 1's plane of the confidences. -/
abbrev cl1 (X1 : S21x8x8832.Idx → Elt F .f32) : S1x8x8832.Idx → Elt F .f32 := View.ld X1 (Rect.unit (s := S21x8x8832) ![1, 0, 0] S1x8x8832.size inb_S21x8x8832_S1x8x8832_1_0_0)
/-- Class 2's plane of the confidences. -/
abbrev cl2 (X1 : S21x8x8832.Idx → Elt F .f32) : S1x8x8832.Idx → Elt F .f32 := View.ld X1 (Rect.unit (s := S21x8x8832) ![2, 0, 0] S1x8x8832.size inb_S21x8x8832_S1x8x8832_2_0_0)
/-- Class 3's plane of the confidences. -/
abbrev cl3 (X1 : S21x8x8832.Idx → Elt F .f32) : S1x8x8832.Idx → Elt F .f32 := View.ld X1 (Rect.unit (s := S21x8x8832) ![3, 0, 0] S1x8x8832.size inb_S21x8x8832_S1x8x8832_3_0_0)
/-- Class 4's plane of the confidences. -/
abbrev cl4 (X1 : S21x8x8832.Idx → Elt F .f32) : S1x8x8832.Idx → Elt F .f32 := View.ld X1 (Rect.unit (s := S21x8x8832) ![4, 0, 0] S1x8x8832.size inb_S21x8x8832_S1x8x8832_4_0_0)
/-- Class 5's plane of the confidences. -/
abbrev cl5 (X1 : S21x8x8832.Idx → Elt F .f32) : S1x8x8832.Idx → Elt F .f32 := View.ld X1 (Rect.unit (s := S21x8x8832) ![5, 0, 0] S1x8x8832.size inb_S21x8x8832_S1x8x8832_5_0_0)
/-- Class 6's plane of the confidences. -/
abbrev cl6 (X1 : S21x8x8832.Idx → Elt F .f32) : S1x8x8832.Idx → Elt F .f32 := View.ld X1 (Rect.unit (s := S21x8x8832) ![6, 0, 0] S1x8x8832.size inb_S21x8x8832_S1x8x8832_6_0_0)
/-- Class 7's plane of the confidences. -/
abbrev cl7 (X1 : S21x8x8832.Idx → Elt F .f32) : S1x8x8832.Idx → Elt F .f32 := View.ld X1 (Rect.unit (s := S21x8x8832) ![7, 0, 0] S1x8x8832.size inb_S21x8x8832_S1x8x8832_7_0_0)
/-- Class 8's plane of the confidences. -/
abbrev cl8 (X1 : S21x8x8832.Idx → Elt F .f32) : S1x8x8832.Idx → Elt F .f32 := View.ld X1 (Rect.unit (s := S21x8x8832) ![8, 0, 0] S1x8x8832.size inb_S21x8x8832_S1x8x8832_8_0_0)
/-- Class 9's plane of the confidences. -/
abbrev cl9 (X1 : S21x8x8832.Idx → Elt F .f32) : S1x8x8832.Idx → Elt F .f32 := View.ld X1 (Rect.unit (s := S21x8x8832) ![9, 0, 0] S1x8x8832.size inb_S21x8x8832_S1x8x8832_9_0_0)
/-- Class 10's plane of the confidences. -/
abbrev cl10 (X1 : S21x8x8832.Idx → Elt F .f32) : S1x8x8832.Idx → Elt F .f32 := View.ld X1 (Rect.unit (s := S21x8x8832) ![10, 0, 0] S1x8x8832.size inb_S21x8x8832_S1x8x8832_10_0_0)
/-- Class 11's plane of the confidences. -/
abbrev cl11 (X1 : S21x8x8832.Idx → Elt F .f32) : S1x8x8832.Idx → Elt F .f32 := View.ld X1 (Rect.unit (s := S21x8x8832) ![11, 0, 0] S1x8x8832.size inb_S21x8x8832_S1x8x8832_11_0_0)
/-- Class 12's plane of the confidences. -/
abbrev cl12 (X1 : S21x8x8832.Idx → Elt F .f32) : S1x8x8832.Idx → Elt F .f32 := View.ld X1 (Rect.unit (s := S21x8x8832) ![12, 0, 0] S1x8x8832.size inb_S21x8x8832_S1x8x8832_12_0_0)
/-- Class 13's plane of the confidences. -/
abbrev cl13 (X1 : S21x8x8832.Idx → Elt F .f32) : S1x8x8832.Idx → Elt F .f32 := View.ld X1 (Rect.unit (s := S21x8x8832) ![13, 0, 0] S1x8x8832.size inb_S21x8x8832_S1x8x8832_13_0_0)
/-- Class 14's plane of the confidences. -/
abbrev cl14 (X1 : S21x8x8832.Idx → Elt F .f32) : S1x8x8832.Idx → Elt F .f32 := View.ld X1 (Rect.unit (s := S21x8x8832) ![14, 0, 0] S1x8x8832.size inb_S21x8x8832_S1x8x8832_14_0_0)
/-- Class 15's plane of the confidences. -/
abbrev cl15 (X1 : S21x8x8832.Idx → Elt F .f32) : S1x8x8832.Idx → Elt F .f32 := View.ld X1 (Rect.unit (s := S21x8x8832) ![15, 0, 0] S1x8x8832.size inb_S21x8x8832_S1x8x8832_15_0_0)
/-- Class 16's plane of the confidences. -/
abbrev cl16 (X1 : S21x8x8832.Idx → Elt F .f32) : S1x8x8832.Idx → Elt F .f32 := View.ld X1 (Rect.unit (s := S21x8x8832) ![16, 0, 0] S1x8x8832.size inb_S21x8x8832_S1x8x8832_16_0_0)
/-- Class 17's plane of the confidences. -/
abbrev cl17 (X1 : S21x8x8832.Idx → Elt F .f32) : S1x8x8832.Idx → Elt F .f32 := View.ld X1 (Rect.unit (s := S21x8x8832) ![17, 0, 0] S1x8x8832.size inb_S21x8x8832_S1x8x8832_17_0_0)
/-- Class 18's plane of the confidences. -/
abbrev cl18 (X1 : S21x8x8832.Idx → Elt F .f32) : S1x8x8832.Idx → Elt F .f32 := View.ld X1 (Rect.unit (s := S21x8x8832) ![18, 0, 0] S1x8x8832.size inb_S21x8x8832_S1x8x8832_18_0_0)
/-- Class 19's plane of the confidences. -/
abbrev cl19 (X1 : S21x8x8832.Idx → Elt F .f32) : S1x8x8832.Idx → Elt F .f32 := View.ld X1 (Rect.unit (s := S21x8x8832) ![19, 0, 0] S1x8x8832.size inb_S21x8x8832_S1x8x8832_19_0_0)
/-- Class 20's plane of the confidences. -/
abbrev cl20 (X1 : S21x8x8832.Idx → Elt F .f32) : S1x8x8832.Idx → Elt F .f32 := View.ld X1 (Rect.unit (s := S21x8x8832) ![20, 0, 0] S1x8x8832.size inb_S21x8x8832_S1x8x8832_20_0_0)
/-- Coordinate 0's plane of a block of locations. -/
abbrev co0 (X : S4x8x8832.Idx → Elt F .f32) : S1x8x8832.Idx → Elt F .f32 := View.ld X (Rect.unit (s := S4x8x8832) ![0, 0, 0] S1x8x8832.size inb_S4x8x8832_S1x8x8832_0_0_0)
/-- Coordinate 1's plane of a block of locations. -/
abbrev co1 (X : S4x8x8832.Idx → Elt F .f32) : S1x8x8832.Idx → Elt F .f32 := View.ld X (Rect.unit (s := S4x8x8832) ![1, 0, 0] S1x8x8832.size inb_S4x8x8832_S1x8x8832_1_0_0)
/-- Coordinate 2's plane of a block of locations. -/
abbrev co2 (X : S4x8x8832.Idx → Elt F .f32) : S1x8x8832.Idx → Elt F .f32 := View.ld X (Rect.unit (s := S4x8x8832) ![2, 0, 0] S1x8x8832.size inb_S4x8x8832_S1x8x8832_2_0_0)
/-- Coordinate 3's plane of a block of locations. -/
abbrev co3 (X : S4x8x8832.Idx → Elt F .f32) : S1x8x8832.Idx → Elt F .f32 := View.ld X (Rect.unit (s := S4x8x8832) ![3, 0, 0] S1x8x8832.size inb_S4x8x8832_S1x8x8832_3_0_0)

/-! ## The values a point computes -/

/-- The sum of the exponentials of the 21 planes. -/
def expSum (X1 : S21x8x8832.Idx → Elt F .f32) : FVec F S8x8832 .f32 :=
  k0_pay43 (k0_pay34 (k0_pay28 (k0_pay19 (cl0 X1) (cl1 X1) (cl2 X1) (cl3 X1)) (cl4 X1) (cl5 X1) (cl6 X1) (cl7 X1) (cl8 X1) (cl9 X1)) (cl10 X1) (cl11 X1) (cl12 X1) (cl13 X1) (cl14 X1)) (cl15 X1) (cl16 X1) (cl17 X1) (cl18 X1) (cl19 X1) (cl20 X1)
/-- The plane the label selects, among the labels below 20. -/
def selLow (X1 : S21x8x8832.Idx → Elt F .f32) (X2 : S8x8832.Idx → Elt F .i32) : FVec F S8x8832 .f32 :=
  k0_pay41 (labs X2) (k0_pay35 (labs X2) (k0_pay26 (labs X2) (k0_pay20 (labs X2) (cl1 X1) (cl2 X1) (cl3 X1)) (cl4 X1) (cl5 X1) (cl6 X1) (cl7 X1) (cl8 X1)) (k0_pay27 (cl9 X1)) 9#32 (cl10 X1) (cl11 X1) (cl12 X1) (cl13 X1) (cl14 X1)) (cl15 X1) (cl16 X1) (cl17 X1) (cl18 X1) (cl19 X1)
/-- The mining losses of the block's negatives, −1 elsewhere. -/
def blkM (X1 : S21x8x8832.Idx → Elt F .f32) (X2 : S8x8832.Idx → Elt F .i32) : FVec F S8x8832 .f32 :=
  k0_pay46 (k0_pay14 (labs X2)) (k0_pay15 (cl0 X1)) (expSum X1)
/-- The number of positives in each row of the block. -/
def blkNP (X2 : S8x8832.Idx → Elt F .i32) : FVec F S8x1 .f32 := k0_pay1 (F := F) (k0_pay13 (labs X2))
/-- The number of negatives in each row of the block. -/
def blkNN (X2 : S8x8832.Idx → Elt F .i32) : FVec F S8x1 .f32 := k0_pay48 (F := F) (k0_pay14 (labs X2))
/-- The block's sum of cross entropies over its positives. -/
def blkCE (X1 : S21x8x8832.Idx → Elt F .f32) (X2 : S8x8832.Idx → Elt F .i32) : F .f32 :=
  k0_pay49 (labs X2) (k0_pay13 (labs X2)) (selLow X1 X2) (k0_pay42 (cl20 X1)) (expSum X1)
/-- The block's sum of mining losses over its negatives. -/
def blkMine (X1 : S21x8x8832.Idx → Elt F .f32) (X2 : S8x8832.Idx → Elt F .i32) : F .f32 :=
  k0_pay47 (k0_pay14 (labs X2)) (k0_pay15 (cl0 X1)) (expSum X1)
/-- The block's smooth L1 sum over the first three coordinates of its positives. -/
def blkL3 (X2 : S8x8832.Idx → Elt F .i32) (X3 X4 : S4x8x8832.Idx → Elt F .f32) : F .f32 :=
  k0_pay52 (k0_pay13 (labs X2)) (k0_pay51 (k0_pay13 (labs X2)) (k0_pay50 (co0 X3)) (co0 X4) (co1 X3) (co1 X4)) (co2 X3) (co2 X4)
/-- The block's smooth L1 sum over the last coordinate of its positives. -/
def blkL1 (X2 : S8x8832.Idx → Elt F .i32) (X3 X4 : S4x8x8832.Idx → Elt F .f32) : FVec F S1x1x1 .f32 :=
  k0_pay53 (k0_pay13 (labs X2)) (co3 X3) (co3 X4)

/-! ## What a point leaves in the scratch -/

/-- The array with block `n` of eight rows replaced. -/
def putM {α : Type} (n : ℕ) (w : S8x8832.Idx → α) (X : S64x8832.Idx → α) : S64x8832.Idx → α := fun y =>
  if h : 8 * n ≤ (y 0).val ∧ (y 0).val < 8 * n + 8 then w (ix2 ⟨(y 0).val - 8 * n, by omega⟩ (y 1)) else X y
/-- The column with block `n` of eight rows replaced. -/
def putC {α : Type} (n : ℕ) (w : S8x1.Idx → α) (X : S64x1.Idx → α) : S64x1.Idx → α := fun y =>
  if h : 8 * n ≤ (y 0).val ∧ (y 0).val < 8 * n + 8 then w (ix2 ⟨(y 0).val - 8 * n, by omega⟩ (y 1)) else X y
/-- The three accumulators after a point, from their values before it. -/
def accStep (X1 : S21x8x8832.Idx → Elt F .f32) (X2 : S8x8832.Idx → Elt F .i32) (X3 X4 : S4x8x8832.Idx → Elt F .f32)
    (X8 : S3.Idx → Elt F .f32) : S3.Idx → Elt F .f32 := fun y =>
  if (y 0).val = 2 then k0_pay4 (blkMine X1 X2) (X8 (ix1 2))
  else if (y 0).val = 1 then k0_pay3 (blkL3 X2 X3 X4) (blkL1 X2 X3 X4) (X8 (ix1 1))
  else k0_pay2 (blkCE X1 X2) (X8 (ix1 0))
/-- The accumulators zeroed. -/
def accZero : S3.Idx → Elt F .f32 := fun _ => FloatOps.ofBits .f32 0#32

/-! ## What the last point leaves in the results -/

/-- Whether every row has room for all its negatives, as the last point tests it. -/
def roomy (NP NN : S64x1.Idx → Elt F .f32) : Prop :=
  Scalar.cmpi .ne (Scalar.extui (Scalar.cmpf .ogt (k0_pay6 (View.ld NP (Rect.unit (s := S64x1) ![0, 0] S64x1.size inb_S64x1_S64x1_0_0))
    (View.ld NN (Rect.unit (s := S64x1) ![0, 0] S64x1.size inb_S64x1_S64x1_0_0))) (FloatOps.ofBits .f32 0#32)) : BitVec 32) 0#32 = 1#1
/-- The bits of each row's threshold, as the search finds them. -/
def bits (NP : S64x1.Idx → Elt F .f32) (M : S64x8832.Idx → Elt F .f32) : IVec S64x1 32 :=
  Scf.fold (k0_pay8 (View.ld NP (Rect.unit (s := S64x1) ![0, 0] S64x1.size inb_S64x1_S64x1_0_0))
    (View.ld M (Rect.unit (s := S64x8832) ![0, 0] S64x8832.size inb_S64x8832_S64x8832_0_0))) k0_pay7
/-- The selected negatives' sum found by the search. -/
def slowSum (NP : S64x1.Idx → Elt F .f32) (M : S64x8832.Idx → Elt F .f32) : F .f32 :=
  k0_pay9 (View.ld NP (Rect.unit (s := S64x1) ![0, 0] S64x1.size inb_S64x1_S64x1_0_0))
    (View.ld M (Rect.unit (s := S64x8832) ![0, 0] S64x8832.size inb_S64x8832_S64x8832_0_0)) (bits NP M)
open Classical in
/-- The selected negatives' sum. -/
def negSum (NP NN : S64x1.Idx → Elt F .f32) (M : S64x8832.Idx → Elt F .f32) (A : S3.Idx → Elt F .f32) : F .f32 :=
  if roomy NP NN then A (ix1 2) else slowSum NP M
/-- The three results of the last point. -/
def out5 (A : S3.Idx → Elt F .f32) : S1x1.Idx → Elt F .f32 := fun _ => A (ix1 1)
def out6 (NP NN : S64x1.Idx → Elt F .f32) (M : S64x8832.Idx → Elt F .f32) (A : S3.Idx → Elt F .f32) : S1x1.Idx → Elt F .f32 :=
  fun _ => k0_pay10 (negSum NP NN M A) (A (ix1 0))
def out7 (NP : S64x1.Idx → Elt F .f32) : S1x1.Idx → Elt F .f32 :=
  fun _ => k0_pay11 (View.ld NP (Rect.unit (s := S64x1) ![0, 0] S64x1.size inb_S64x1_S64x1_0_0))

end Cert.KernelIdeal.Hand
-- ==== Proof.KernelIdealRun.Body.lean ====
module

public import proofs.«01_k».proof.Proof.KernelIdealRun.Block
public import Idealize.ShloMosaic.Lib.WritesUnit

/-! The kernel body at a first, a middle and the last grid point, on any whole buffers: what it leaves in its scratch and
in its results, in the terms of `Block`. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ (UR sig nD τ) ℕ

/-- The rows a point stores in the array of mining losses. -/
theorem off1_eq (i : grid0.Coords) : k0_off1 i = ![8 * (i 0).val, 0] := by
  have h : (i 0).val < 8 := (i 0).isLt
  unfold k0_off1
  generalize (i 0).val = n at h
  interval_cases n <;> rfl
/-- The rows a point stores in the columns of counts. -/
theorem off2_eq (i : grid0.Coords) : k0_off2 i = ![8 * (i 0).val, 0] := by
  have h : (i 0).val < 8 := (i 0).isLt
  unfold k0_off2
  generalize (i 0).val = n at h
  interval_cases n <;> rfl

/-- A buffer of mining losses after a point's store of its eight rows. -/
theorem read_putM {sp : Space} (v : View sig .tc sp S64x8832 .f32) (f : v.ty.Contents (Elt F)) (i : grid0.Coords)
    (inb : ∀ a, k0_off1 i a + S8x8832.size a ≤ S64x8832.size a) (w : S8x8832.Idx → Elt F .f32) :
    v.read (Elt F) (v.writes (Elt F) f [⟨Rect.unit (s := S64x8832) (k0_off1 i) S8x8832.size inb, w⟩])
      = putM (i 0).val w (v.read (Elt F) f) := by
  funext y
  rw [View.read_writes_cons_rows (o := 8 * (i 0).val) (W := 8) v f inb w [] y (off1_eq i) rfl rfl]
  unfold putM
  by_cases h : 8 * (i 0).val ≤ (y 0).val ∧ (y 0).val < 8 * (i 0).val + 8
  · rw [dif_pos h, dif_pos h]
    congr 1
    funext a
    apply Fin.ext
    rw [Rect.unitLocal_val]
    fin_cases a <;> rfl
  · rw [dif_neg h, dif_neg h]; rfl
/-- A column of counts after a point's store of its eight rows. -/
theorem read_putC {sp : Space} (v : View sig .tc sp S64x1 .f32) (f : v.ty.Contents (Elt F)) (i : grid0.Coords)
    (inb : ∀ a, k0_off2 i a + S8x1.size a ≤ S64x1.size a) (w : S8x1.Idx → Elt F .f32) :
    v.read (Elt F) (v.writes (Elt F) f [⟨Rect.unit (s := S64x1) (k0_off2 i) S8x1.size inb, w⟩])
      = putC (i 0).val w (v.read (Elt F) f) := by
  funext y
  rw [View.read_writes_cons_rows (o := 8 * (i 0).val) (W := 8) v f inb w [] y (off2_eq i) rfl rfl]
  unfold putC
  by_cases h : 8 * (i 0).val ≤ (y 0).val ∧ (y 0).val < 8 * (i 0).val + 8
  · rw [dif_pos h, dif_pos h]
    congr 1
    funext a
    apply Fin.ext
    rw [Rect.unitLocal_val]
    fin_cases a <;> rfl
  · rw [dif_neg h, dif_neg h]; rfl

/-- The word a scalar load of the accumulators reads. -/
theorem acc_word {sp : Space} (v : View sig .tc sp S3 .f32) (f : v.ty.Contents (Elt F)) (k : Fin 3) (off : Fin 1 → ℕ)
    (inb : ∀ a, off a + S1.size a ≤ S3.size a) (hoff : off 0 = k.val) (x : (Rect.unit (s := S3) off S1.size inb).shape.Idx) :
    v.readAt (Elt F) (Rect.unit (s := S3) off S1.size inb).toLoadRect f x = v.read (Elt F) f (ix1 k) := by
  show v.read (Elt F) f _ = _
  congr 1
  funext a
  apply Fin.ext
  fin_cases a
  show off 0 + 1 * (x 0).val = k.val
  have hx : (x 0).val < 1 := (x 0).isLt
  omega

/-- The accumulators after three stored words. -/
theorem read_acc3 {sp : Space} (v : View sig .tc sp S3 .f32) (f : v.ty.Contents (Elt F)) (L : List (View.Piece (Elt F) S3 .f32))
    (a0 a1 a2 : Elt F .f32) :
    v.read (Elt F) (v.writes (Elt F) f (⟨Rect.unit (s := S3) ![2] S1.size inb_S3_S1_2, fun _ => a2⟩ :: ⟨Rect.unit (s := S3) ![1] S1.size inb_S3_S1_1, fun _ => a1⟩
      :: ⟨Rect.unit (s := S3) ![0] S1.size inb_S3_S1_0, fun _ => a0⟩ :: L))
      = fun y => if (y 0).val = 2 then a2 else if (y 0).val = 1 then a1 else a0 := by
  funext y
  have h : (y 0).val < 3 := (y 0).isLt
  refine (View.read_writes_cons_cell v f inb_S3_S1_2 a2 _ y).trans ?_
  have e2 : (![2] : Fin 1 → ℕ) 0 = 2 := rfl
  have e1 : (![1] : Fin 1 → ℕ) 0 = 1 := rfl
  have e0 : (![0] : Fin 1 → ℕ) 0 = 0 := rfl
  rw [e2]
  split
  · rfl
  · refine (View.read_writes_cons_cell v f inb_S3_S1_1 a1 _ y).trans ?_
    rw [e1]
    split
    · rfl
    · refine (View.read_writes_cons_cell v f inb_S3_S1_0 a0 _ y).trans ?_
      rw [e0, if_pos (by omega)]

/-- The accumulators after a point, one at a time. -/
theorem accStep_0 (X1 : S21x8x8832.Idx → Elt F .f32) (X2 : S8x8832.Idx → Elt F .i32) (X3 X4 : S4x8x8832.Idx → Elt F .f32) (X8 : S3.Idx → Elt F .f32) :
    accStep X1 X2 X3 X4 X8 (ix1 0) = k0_pay2 (blkCE X1 X2) (X8 (ix1 0)) := by
  unfold accStep; rw [if_neg (by decide), if_neg (by decide)]
theorem accStep_1 (X1 : S21x8x8832.Idx → Elt F .f32) (X2 : S8x8832.Idx → Elt F .i32) (X3 X4 : S4x8x8832.Idx → Elt F .f32) (X8 : S3.Idx → Elt F .f32) :
    accStep X1 X2 X3 X4 X8 (ix1 1) = k0_pay3 (blkL3 X2 X3 X4) (blkL1 X2 X3 X4) (X8 (ix1 1)) := by
  unfold accStep; rw [if_neg (by decide), if_pos (by decide)]
theorem accStep_2 (X1 : S21x8x8832.Idx → Elt F .f32) (X2 : S8x8832.Idx → Elt F .i32) (X3 X4 : S4x8x8832.Idx → Elt F .f32) (X8 : S3.Idx → Elt F .f32) :
    accStep X1 X2 X3 X4 X8 (ix1 2) = k0_pay4 (blkMine X1 X2) (X8 (ix1 2)) := by
  unfold accStep; rw [if_pos (by decide)]

/-- A one-word result after its store. -/
theorem read_word {sp : Space} (v : View sig .tc sp S1x1 .f32) (f : v.ty.Contents (Elt F)) (L : List (View.Piece (Elt F) S1x1 .f32)) (a : Elt F .f32) :
    v.read (Elt F) (v.writes (Elt F) f (⟨Rect.unit (s := S1x1) ![0, 0] S1x1.size inb_S1x1_S1x1_0_0, fun _ => a⟩ :: L)) = fun _ => a := by
  funext y
  refine View.read_writes_cons_unit_of_mem (off' := ![0, 0]) v f inb_S1x1_S1x1_0_0 (fun _ => a) L y y rfl fun b => ?_
  fin_cases b <;> exact (Nat.zero_add _).symm

/-- The first point: the accumulators start from zero. -/
theorem body_first (c : Dev nD) (E : Set ℕ) (i : grid0.Coords)
    (arg1 : Memref sig .tc .vmem S21x8x8832 .f32) (harg1 : arg1.IsWhole)
    (arg2 : Memref sig .tc .vmem S8x8832 .i32) (harg2 : arg2.IsWhole)
    (arg3 : Memref sig .tc .vmem S4x8x8832 .f32) (harg3 : arg3.IsWhole)
    (arg4 : Memref sig .tc .vmem S4x8x8832 .f32) (harg4 : arg4.IsWhole)
    (arg5 : Memref sig .tc .smem S1x1 .f32) (harg5 : arg5.IsWhole)
    (arg6 : Memref sig .tc .smem S1x1 .f32) (harg6 : arg6.IsWhole)
    (arg7 : Memref sig .tc .smem S1x1 .f32) (harg7 : arg7.IsWhole)
    (arg8 : Memref sig .tc .smem S3 .f32) (harg8 : arg8.IsWhole)
    (arg9 : Memref sig .tc .vmem S64x8832 .f32) (harg9 : arg9.IsWhole)
    (arg10 : Memref sig .tc .vmem S64x1 .f32) (harg10 : arg10.IsWhole)
    (arg11 : Memref sig .tc .vmem S64x1 .f32) (harg11 : arg11.IsWhole)
    (X1 : S21x8x8832.Idx → Elt F .f32) (X2 : S8x8832.Idx → Elt F .i32) (X3 X4 : S4x8x8832.Idx → Elt F .f32)
    (X5 X6 X7 : S1x1.Idx → Elt F .f32) (X8 : S3.Idx → Elt F .f32) (X9 : S64x8832.Idx → Elt F .f32) (X10 X11 : S64x1.Idx → Elt F .f32)
    (hc : Scalar.cmpi .ne (Scalar.extui (Scalar.cmpi .eq (BitVec.ofNat 32 (i 0).val) 0#32) : BitVec 32) 0#32 = 1#1) (hc2 : ¬ k0_cond2 i = 1#1)
    (K : PUnit → sProp 𝕄) :
    iprop((owns (c : Thread nD τ) arg1 fullShare X1
          ∗ owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg6 fullShare X6
          ∗ owns (c : Thread nD τ) arg7 fullShare X7
          ∗ owns (c : Thread nD τ) arg8 fullShare X8
          ∗ owns (c : Thread nD τ) arg9 fullShare X9
          ∗ owns (c : Thread nD τ) arg10 fullShare X10
          ∗ owns (c : Thread nD τ) arg11 fullShare X11)
          ∗ (iprop(owns (c : Thread nD τ) arg1 fullShare X1
          ∗ owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg6 fullShare X6
          ∗ owns (c : Thread nD τ) arg7 fullShare X7
          ∗ owns (c : Thread nD τ) arg8 fullShare (accStep X1 X2 X3 X4 accZero)
          ∗ owns (c : Thread nD τ) arg9 fullShare (putM (i 0).val (blkM X1 X2) X9)
          ∗ owns (c : Thread nD τ) arg10 fullShare (putC (i 0).val (blkNP X2) X10)
          ∗ owns (c : Thread nD τ) arg11 fullShare (putC (i 0).val (blkNN X2) X11)) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10 arg11 harg11) K := by
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  sl_unfold [cc0__body]
  sl_open_parts
  sl_exec (disch := first | sl_exact hc | sl_exact hc2)
  sl_step
  iapply Hk
  subst hf1; subst hf2; subst hf3; subst hf4; subst hf5; subst hf6; subst hf7; subst hf8; subst hf9; subst hf10; subst hf11
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; exact (read_acc3 arg8.view f8 _ _ _ _).trans rfl
  isplitl [H9]
  · iexists _; isplitr; swap; · iexact H9
    ipureintro; exact read_putM _ _ _ _ _
  isplitl [H10]
  · iexists _; isplitr; swap; · iexact H10
    ipureintro; exact read_putC _ _ _ _ _
  · iexists _; isplitr; swap; · iexact H11
    ipureintro; exact read_putC _ _ _ _ _

/-- A point between the first and the last. -/
theorem body_mid (c : Dev nD) (E : Set ℕ) (i : grid0.Coords)
    (arg1 : Memref sig .tc .vmem S21x8x8832 .f32) (harg1 : arg1.IsWhole)
    (arg2 : Memref sig .tc .vmem S8x8832 .i32) (harg2 : arg2.IsWhole)
    (arg3 : Memref sig .tc .vmem S4x8x8832 .f32) (harg3 : arg3.IsWhole)
    (arg4 : Memref sig .tc .vmem S4x8x8832 .f32) (harg4 : arg4.IsWhole)
    (arg5 : Memref sig .tc .smem S1x1 .f32) (harg5 : arg5.IsWhole)
    (arg6 : Memref sig .tc .smem S1x1 .f32) (harg6 : arg6.IsWhole)
    (arg7 : Memref sig .tc .smem S1x1 .f32) (harg7 : arg7.IsWhole)
    (arg8 : Memref sig .tc .smem S3 .f32) (harg8 : arg8.IsWhole)
    (arg9 : Memref sig .tc .vmem S64x8832 .f32) (harg9 : arg9.IsWhole)
    (arg10 : Memref sig .tc .vmem S64x1 .f32) (harg10 : arg10.IsWhole)
    (arg11 : Memref sig .tc .vmem S64x1 .f32) (harg11 : arg11.IsWhole)
    (X1 : S21x8x8832.Idx → Elt F .f32) (X2 : S8x8832.Idx → Elt F .i32) (X3 X4 : S4x8x8832.Idx → Elt F .f32)
    (X5 X6 X7 : S1x1.Idx → Elt F .f32) (X8 : S3.Idx → Elt F .f32) (X9 : S64x8832.Idx → Elt F .f32) (X10 X11 : S64x1.Idx → Elt F .f32)
    (hc : ¬ Scalar.cmpi .ne (Scalar.extui (Scalar.cmpi .eq (BitVec.ofNat 32 (i 0).val) 0#32) : BitVec 32) 0#32 = 1#1) (hc2 : ¬ k0_cond2 i = 1#1)
    (K : PUnit → sProp 𝕄) :
    iprop((owns (c : Thread nD τ) arg1 fullShare X1
          ∗ owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg6 fullShare X6
          ∗ owns (c : Thread nD τ) arg7 fullShare X7
          ∗ owns (c : Thread nD τ) arg8 fullShare X8
          ∗ owns (c : Thread nD τ) arg9 fullShare X9
          ∗ owns (c : Thread nD τ) arg10 fullShare X10
          ∗ owns (c : Thread nD τ) arg11 fullShare X11)
          ∗ (iprop(owns (c : Thread nD τ) arg1 fullShare X1
          ∗ owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg6 fullShare X6
          ∗ owns (c : Thread nD τ) arg7 fullShare X7
          ∗ owns (c : Thread nD τ) arg8 fullShare (accStep X1 X2 X3 X4 X8)
          ∗ owns (c : Thread nD τ) arg9 fullShare (putM (i 0).val (blkM X1 X2) X9)
          ∗ owns (c : Thread nD τ) arg10 fullShare (putC (i 0).val (blkNP X2) X10)
          ∗ owns (c : Thread nD τ) arg11 fullShare (putC (i 0).val (blkNN X2) X11)) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10 arg11 harg11) K := by
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  sl_unfold [cc0__body]
  sl_open_parts
  sl_exec (disch := first | sl_exact hc | sl_exact hc2)
  sl_step
  iapply Hk
  subst hf1; subst hf2; subst hf3; subst hf4; subst hf5; subst hf6; subst hf7; subst hf8; subst hf9; subst hf10; subst hf11
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; refine (read_acc3 arg8.view f8 _ _ _ _).trans ?_
    funext y
    unfold accStep
    refine ite_congr rfl (fun _ => ?_) fun _ => ite_congr rfl (fun _ => ?_) fun _ => ?_
    · exact congrArg (k0_pay4 _) (acc_word arg8.view f8 2 ![2] inb_S3_S1_2 rfl _)
    · exact congrArg (k0_pay3 _ _) (acc_word arg8.view f8 1 ![1] inb_S3_S1_1 rfl _)
    · exact congrArg (k0_pay2 _) (acc_word arg8.view f8 0 ![0] inb_S3_S1_0 rfl _)
  isplitl [H9]
  · iexists _; isplitr; swap; · iexact H9
    ipureintro; exact read_putM _ _ _ _ _
  isplitl [H10]
  · iexists _; isplitr; swap; · iexact H10
    ipureintro; exact read_putC _ _ _ _ _
  · iexists _; isplitr; swap; · iexact H11
    ipureintro; exact read_putC _ _ _ _ _

/-- The last point, when every row has room for all its negatives. -/
theorem body_last_fast (c : Dev nD) (E : Set ℕ) (i : grid0.Coords)
    (arg1 : Memref sig .tc .vmem S21x8x8832 .f32) (harg1 : arg1.IsWhole)
    (arg2 : Memref sig .tc .vmem S8x8832 .i32) (harg2 : arg2.IsWhole)
    (arg3 : Memref sig .tc .vmem S4x8x8832 .f32) (harg3 : arg3.IsWhole)
    (arg4 : Memref sig .tc .vmem S4x8x8832 .f32) (harg4 : arg4.IsWhole)
    (arg5 : Memref sig .tc .smem S1x1 .f32) (harg5 : arg5.IsWhole)
    (arg6 : Memref sig .tc .smem S1x1 .f32) (harg6 : arg6.IsWhole)
    (arg7 : Memref sig .tc .smem S1x1 .f32) (harg7 : arg7.IsWhole)
    (arg8 : Memref sig .tc .smem S3 .f32) (harg8 : arg8.IsWhole)
    (arg9 : Memref sig .tc .vmem S64x8832 .f32) (harg9 : arg9.IsWhole)
    (arg10 : Memref sig .tc .vmem S64x1 .f32) (harg10 : arg10.IsWhole)
    (arg11 : Memref sig .tc .vmem S64x1 .f32) (harg11 : arg11.IsWhole)
    (X1 : S21x8x8832.Idx → Elt F .f32) (X2 : S8x8832.Idx → Elt F .i32) (X3 X4 : S4x8x8832.Idx → Elt F .f32)
    (X5 X6 X7 : S1x1.Idx → Elt F .f32) (X8 : S3.Idx → Elt F .f32) (X9 : S64x8832.Idx → Elt F .f32) (X10 X11 : S64x1.Idx → Elt F .f32)
    (hc : ¬ Scalar.cmpi .ne (Scalar.extui (Scalar.cmpi .eq (BitVec.ofNat 32 (i 0).val) 0#32) : BitVec 32) 0#32 = 1#1) (hc2 : k0_cond2 i = 1#1) (hf : roomy (putC (i 0).val (blkNP X2) X10) (putC (i 0).val (blkNN X2) X11))
    (K : PUnit → sProp 𝕄) :
    iprop((owns (c : Thread nD τ) arg1 fullShare X1
          ∗ owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg6 fullShare X6
          ∗ owns (c : Thread nD τ) arg7 fullShare X7
          ∗ owns (c : Thread nD τ) arg8 fullShare X8
          ∗ owns (c : Thread nD τ) arg9 fullShare X9
          ∗ owns (c : Thread nD τ) arg10 fullShare X10
          ∗ owns (c : Thread nD τ) arg11 fullShare X11)
          ∗ (iprop(owns (c : Thread nD τ) arg1 fullShare X1
          ∗ owns (c : Thread nD τ) arg2 fullShare X2
          ∗ owns (c : Thread nD τ) arg3 fullShare X3
          ∗ owns (c : Thread nD τ) arg4 fullShare X4
          ∗ owns (c : Thread nD τ) arg5 fullShare (out5 (accStep X1 X2 X3 X4 X8))
          ∗ owns (c : Thread nD τ) arg6 fullShare (out6 (putC (i 0).val (blkNP X2) X10) (putC (i 0).val (blkNN X2) X11) (putM (i 0).val (blkM X1 X2) X9) (accStep X1 X2 X3 X4 X8))
          ∗ owns (c : Thread nD τ) arg7 fullShare (out7 (putC (i 0).val (blkNP X2) X10))
          ∗ owns (c : Thread nD τ) arg8 fullShare (accStep X1 X2 X3 X4 X8)
          ∗ owns (c : Thread nD τ) arg9 fullShare (putM (i 0).val (blkM X1 X2) X9)
          ∗ owns (c : Thread nD τ) arg10 fullShare (putC (i 0).val (blkNP X2) X10)
          ∗ owns (c : Thread nD τ) arg11 fullShare (putC (i 0).val (blkNN X2) X11)) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10 arg11 harg11) K := by
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  sl_unfold [cc0__body]
  sl_open_parts
  subst hf10; subst hf11; subst hf2
  have hg : ∀ a b, a = View.ld (putC (i 0).val (blkNP (arg2.view.read (Elt F) f2)) (arg10.view.read (Elt F) f10)) (Rect.unit (s := S64x1) ![0, 0] S64x1.size inb_S64x1_S64x1_0_0) →
      b = View.ld (putC (i 0).val (blkNN (arg2.view.read (Elt F) f2)) (arg11.view.read (Elt F) f11)) (Rect.unit (s := S64x1) ![0, 0] S64x1.size inb_S64x1_S64x1_0_0) →
      Scalar.cmpi .ne (Scalar.extui (Scalar.cmpf .ogt (k0_pay6 a b) (FloatOps.ofBits .f32 0#32)) : BitVec 32) 0#32 = 1#1 := by
    intro a b ha hb; rw [ha, hb]; exact hf
  sl_exec (disch := first | sl_exact hc | sl_exact hc2)
  have hC := hg (arg10.view.readAt (Elt F) (Rect.unit (s := S64x1) ![0, 0] S64x1.size inb_S64x1_S64x1_0_0).toLoadRect (arg10.view.writes (Elt F) f10 (body_last_fast.sl.H10_1 c i arg2 f2)))
    (arg11.view.readAt (Elt F) (Rect.unit (s := S64x1) ![0, 0] S64x1.size inb_S64x1_S64x1_0_0).toLoadRect (arg11.view.writes (Elt F) f11 (body_last_fast.sl.H11_1 c i arg2 f2)))
    (congrArg (fun X => View.ld X (Rect.unit (s := S64x1) ![0, 0] S64x1.size inb_S64x1_S64x1_0_0)) (read_putC arg10.view f10 i _ _))
    (congrArg (fun X => View.ld X (Rect.unit (s := S64x1) ![0, 0] S64x1.size inb_S64x1_S64x1_0_0)) (read_putC arg11.view f11 i _ _))
  sl_exec (disch := first | sl_exact hc | sl_exact hc2 | exact hC)
  sl_step
  iapply Hk
  subst hf1; subst hf3; subst hf4; subst hf5; subst hf6; subst hf7; subst hf8; subst hf9
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; refine (read_word arg5.view f5 _ _).trans ?_
    funext _
    unfold out5
    rw [accStep_1]
    exact (congrArg (k0_pay3 _ _) (acc_word arg8.view f8 1 ![1] inb_S3_S1_1 rfl _))
  isplitl [H6]
  · iexists _; isplitr; swap; · iexact H6
    ipureintro; refine (read_word arg6.view f6 _ _).trans ?_
    funext _
    unfold out6
    rw [negSum, if_pos hf, accStep_2, accStep_0]
    exact congrArg₂ k0_pay10 (congrArg (k0_pay4 _) (acc_word arg8.view f8 2 ![2] inb_S3_S1_2 rfl _)) (congrArg (k0_pay2 _) (acc_word arg8.view f8 0 ![0] inb_S3_S1_0 rfl _))
  isplitl [H7]
  · iexists _; isplitr; swap; · iexact H7
    ipureintro; refine (read_word arg7.view f7 _ _).trans ?_
    funext _
    unfold out7
    exact congrArg k0_pay11 (congrArg (fun X => View.ld X (Rect.unit (s := S64x1) ![0, 0] S64x1.size inb_S64x1_S64x1_0_0)) (read_putC arg10.view f10 i _ _))
  isplitl [H8]
  · iexists _; isplitr; swap; · iexact H8
    ipureintro; refine (read_acc3 arg8.view f8 _ _ _ _).trans ?_
    funext y
    unfold accStep
    refine ite_congr rfl (fun _ => ?_) fun _ => ite_congr rfl (fun _ => ?_) fun _ => ?_
    · exact congrArg (k0_pay4 _) (acc_word arg8.view f8 2 ![2] inb_S3_S1_2 rfl _)
    · exact congrArg (k0_pay3 _ _) (acc_word arg8.view f8 1 ![1] inb_S3_S1_1 rfl _)
    · exact congrArg (k0_pay2 _) (acc_word arg8.view f8 0 ![0] inb_S3_S1_0 rfl _)
  isplitl [H9]
  · iexists _; isplitr; swap; · iexact H9
    ipureintro; exact read_putM _ _ _ _ _
  isplitl [H10]
  · iexists _; isplitr; swap; · iexact H10
    ipureintro; exact read_putC _ _ _ _ _
  · iexists _; isplitr; swap; · iexact H11
    ipureintro; exact read_putC _ _ _ _ _

/-- The last point, when some row has more negatives than it may keep. -/
theorem body_last_slow (c : Dev nD) (E : Set ℕ) (i : grid0.Coords)
    (arg1 : Memref sig .tc .vmem S21x8x8832 .f32) (harg1 : arg1.IsWhole)
    (arg2 : Memref sig .tc .vmem S8x8832 .i32) (harg2 : arg2.IsWhole)
    (arg3 : Memref sig .tc .vmem S4x8x8832 .f32) (harg3 : arg3.IsWhole)
    (arg4 : Memref sig .tc .vmem S4x8x8832 .f32) (harg4 : arg4.IsWhole)
    (arg5 : Memref sig .tc .smem S1x1 .f32) (harg5 : arg5.IsWhole)
    (arg6 : Memref sig .tc .smem S1x1 .f32) (harg6 : arg6.IsWhole)
    (arg7 : Memref sig .tc .smem S1x1 .f32) (harg7 : arg7.IsWhole)
    (arg8 : Memref sig .tc .smem S3 .f32) (harg8 : arg8.IsWhole)
    (arg9 : Memref sig .tc .vmem S64x8832 .f32) (harg9 : arg9.IsWhole)
    (arg10 : Memref sig .tc .vmem S64x1 .f32) (harg10 : arg10.IsWhole)
    (arg11 : Memref sig .tc .vmem S64x1 .f32) (harg11 : arg11.IsWhole)
    (X1 : S21x8x8832.Idx → Elt F .f32) (X2 : S8x8832.Idx → Elt F .i32) (X3 X4 : S4x8x8832.Idx → Elt F .f32)
    (X5 X6 X7 : S1x1.Idx → Elt F .f32) (X8 : S3.Idx → Elt F .f32) (X9 : S64x8832.Idx → Elt F .f32) (X10 X11 : S64x1.Idx → Elt F .f32)
    (hc : ¬ Scalar.cmpi .ne (Scalar.extui (Scalar.cmpi .eq (BitVec.ofNat 32 (i 0).val) 0#32) : BitVec 32) 0#32 = 1#1) (hc2 : k0_cond2 i = 1#1) (hf : ¬ roomy (putC (i 0).val (blkNP X2) X10) (putC (i 0).val (blkNN X2) X11))
    (K : PUnit → sProp 𝕄) :
    iprop((owns (c : Thread nD τ) arg1 fullShare X1
          ∗ owns (c : Thread nD τ) arg2 fullShare X2
          ∗ owns (c : Thread nD τ) arg3 fullShare X3
          ∗ owns (c : Thread nD τ) arg4 fullShare X4
          ∗ owns (c : Thread nD τ) arg5 fullShare X5
          ∗ owns (c : Thread nD τ) arg6 fullShare X6
          ∗ owns (c : Thread nD τ) arg7 fullShare X7
          ∗ owns (c : Thread nD τ) arg8 fullShare X8
          ∗ owns (c : Thread nD τ) arg9 fullShare X9
          ∗ owns (c : Thread nD τ) arg10 fullShare X10
          ∗ owns (c : Thread nD τ) arg11 fullShare X11)
          ∗ (iprop(owns (c : Thread nD τ) arg1 fullShare X1
          ∗ owns (c : Thread nD τ) arg2 fullShare X2
          ∗ owns (c : Thread nD τ) arg3 fullShare X3
          ∗ owns (c : Thread nD τ) arg4 fullShare X4
          ∗ owns (c : Thread nD τ) arg5 fullShare (out5 (accStep X1 X2 X3 X4 X8))
          ∗ owns (c : Thread nD τ) arg6 fullShare (out6 (putC (i 0).val (blkNP X2) X10) (putC (i 0).val (blkNN X2) X11) (putM (i 0).val (blkM X1 X2) X9) (accStep X1 X2 X3 X4 X8))
          ∗ owns (c : Thread nD τ) arg7 fullShare (out7 (putC (i 0).val (blkNP X2) X10))
          ∗ owns (c : Thread nD τ) arg8 fullShare (accStep X1 X2 X3 X4 X8)
          ∗ owns (c : Thread nD τ) arg9 fullShare (putM (i 0).val (blkM X1 X2) X9)
          ∗ owns (c : Thread nD τ) arg10 fullShare (putC (i 0).val (blkNP X2) X10)
          ∗ owns (c : Thread nD τ) arg11 fullShare (putC (i 0).val (blkNN X2) X11)) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10 arg11 harg11) K := by
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
  sl_unfold [cc0__body]
  sl_open_parts
  subst hf10; subst hf11; subst hf2
  have hg : ∀ a b, a = View.ld (putC (i 0).val (blkNP (arg2.view.read (Elt F) f2)) (arg10.view.read (Elt F) f10)) (Rect.unit (s := S64x1) ![0, 0] S64x1.size inb_S64x1_S64x1_0_0) →
      b = View.ld (putC (i 0).val (blkNN (arg2.view.read (Elt F) f2)) (arg11.view.read (Elt F) f11)) (Rect.unit (s := S64x1) ![0, 0] S64x1.size inb_S64x1_S64x1_0_0) →
      ¬ Scalar.cmpi .ne (Scalar.extui (Scalar.cmpf .ogt (k0_pay6 a b) (FloatOps.ofBits .f32 0#32)) : BitVec 32) 0#32 = 1#1 := by
    intro a b ha hb; rw [ha, hb]; exact hf
  sl_exec (disch := first | sl_exact hc | sl_exact hc2)
  have hC := hg (arg10.view.readAt (Elt F) (Rect.unit (s := S64x1) ![0, 0] S64x1.size inb_S64x1_S64x1_0_0).toLoadRect (arg10.view.writes (Elt F) f10 (body_last_slow.sl.H10_1 c i arg2 f2)))
    (arg11.view.readAt (Elt F) (Rect.unit (s := S64x1) ![0, 0] S64x1.size inb_S64x1_S64x1_0_0).toLoadRect (arg11.view.writes (Elt F) f11 (body_last_slow.sl.H11_1 c i arg2 f2)))
    (congrArg (fun X => View.ld X (Rect.unit (s := S64x1) ![0, 0] S64x1.size inb_S64x1_S64x1_0_0)) (read_putC arg10.view f10 i _ _))
    (congrArg (fun X => View.ld X (Rect.unit (s := S64x1) ![0, 0] S64x1.size inb_S64x1_S64x1_0_0)) (read_putC arg11.view f11 i _ _))
  sl_exec (disch := first | sl_exact hc | sl_exact hc2 | exact hC)
  sl_step
  iapply Hk
  subst hf1; subst hf3; subst hf4; subst hf5; subst hf6; subst hf7; subst hf8; subst hf9
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; refine (read_word arg5.view f5 _ _).trans ?_
    funext _
    unfold out5
    rw [accStep_1]
    exact (congrArg (k0_pay3 _ _) (acc_word arg8.view f8 1 ![1] inb_S3_S1_1 rfl _))
  isplitl [H6]
  · iexists _; isplitr; swap; · iexact H6
    ipureintro; refine (read_word arg6.view f6 _ _).trans ?_
    funext _
    unfold out6
    rw [negSum, if_neg hf, accStep_0]
    refine congrArg₂ k0_pay10 ?_ (congrArg (k0_pay2 _) (acc_word arg8.view f8 0 ![0] inb_S3_S1_0 rfl _))
    exact (congrArg₂ (fun a b => k0_pay9 a b (Scf.fold (k0_pay8 a b) k0_pay7)) (congrArg (fun X => View.ld X (Rect.unit (s := S64x1) ![0, 0] S64x1.size inb_S64x1_S64x1_0_0)) (read_putC arg10.view f10 i _ _)) (congrArg (fun X => View.ld X (Rect.unit (s := S64x8832) ![0, 0] S64x8832.size inb_S64x8832_S64x8832_0_0)) (read_putM arg9.view f9 i _ _)))
  isplitl [H7]
  · iexists _; isplitr; swap; · iexact H7
    ipureintro; refine (read_word arg7.view f7 _ _).trans ?_
    funext _
    unfold out7
    exact congrArg k0_pay11 (congrArg (fun X => View.ld X (Rect.unit (s := S64x1) ![0, 0] S64x1.size inb_S64x1_S64x1_0_0)) (read_putC arg10.view f10 i _ _))
  isplitl [H8]
  · iexists _; isplitr; swap; · iexact H8
    ipureintro; refine (read_acc3 arg8.view f8 _ _ _ _).trans ?_
    funext y
    unfold accStep
    refine ite_congr rfl (fun _ => ?_) fun _ => ite_congr rfl (fun _ => ?_) fun _ => ?_
    · exact congrArg (k0_pay4 _) (acc_word arg8.view f8 2 ![2] inb_S3_S1_2 rfl _)
    · exact congrArg (k0_pay3 _ _) (acc_word arg8.view f8 1 ![1] inb_S3_S1_1 rfl _)
    · exact congrArg (k0_pay2 _) (acc_word arg8.view f8 0 ![0] inb_S3_S1_0 rfl _)
  isplitl [H9]
  · iexists _; isplitr; swap; · iexact H9
    ipureintro; exact read_putM _ _ _ _ _
  isplitl [H10]
  · iexists _; isplitr; swap; · iexact H10
    ipureintro; exact read_putC _ _ _ _ _
  · iexists _; isplitr; swap; · iexact H11
    ipureintro; exact read_putC _ _ _ _ _

end Cert.KernelIdeal.Hand
-- ==== Proof.KernelIdealRun.Lanes.lean ====
module

public import proofs.«01_k».proof.Proof.KernelIdealRun.Block
public import Idealize.ShloMosaic.Lib.ValueLayoutCasts

/-! The values a point computes, lane by lane, and that the columns past the arrays' end do not matter to any of them. -/

@[expose] public section

set_option maxRecDepth 16384

noncomputable section

namespace Cert.KernelIdeal.Hand

open Idealize.ShloMosaic Idealize.ShloMosaic.TcCoe Idealize.ShloMosaic.Tactic
open Idealize.ShloMosaic.ValueIdx
open Cert.KernelIdeal.Gen

variable {F : FTy → Type} [FloatOps F]

/-! ## One lane -/

/-- The sum of a lane's 21 exponentials, in the order the kernel adds them. -/
def sumL (s : Fin 21 → F .f32) : F .f32 :=
  (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.exp (s 0)) (FloatOps.exp (s 1))) (FloatOps.exp (s 2))) (FloatOps.exp (s 3))) (FloatOps.exp (s 4))) (FloatOps.exp (s 5))) (FloatOps.exp (s 6))) (FloatOps.exp (s 7))) (FloatOps.exp (s 8))) (FloatOps.exp (s 9))) (FloatOps.exp (s 10))) (FloatOps.exp (s 11))) (FloatOps.exp (s 12))) (FloatOps.exp (s 13))) (FloatOps.exp (s 14))) (FloatOps.exp (s 15))) (FloatOps.exp (s 16))) (FloatOps.exp (s 17))) (FloatOps.exp (s 18))) (FloatOps.exp (s 19))) (FloatOps.exp (s 20)))
/-- The confidence a lane's label selects. -/
def selL (w : BitVec 32) (s : Fin 21 → F .f32) : F .f32 :=
  (Scalar.select (Scalar.cmpi .eq w 20#32) (s 20) (Scalar.select (Scalar.cmpi .eq w 19#32) (s 19) (Scalar.select (Scalar.cmpi .eq w 18#32) (s 18) (Scalar.select (Scalar.cmpi .eq w 17#32) (s 17) (Scalar.select (Scalar.cmpi .eq w 16#32) (s 16) (Scalar.select (Scalar.cmpi .eq w 15#32) (s 15) (Scalar.select (Scalar.cmpi .eq w 14#32) (s 14) (Scalar.select (Scalar.cmpi .eq w 13#32) (s 13) (Scalar.select (Scalar.cmpi .eq w 12#32) (s 12) (Scalar.select (Scalar.cmpi .eq w 11#32) (s 11) (Scalar.select (Scalar.cmpi .eq w 10#32) (s 10) (Scalar.select (Scalar.cmpi .eq w 9#32) (s 9) (Scalar.select (Scalar.cmpi .eq w 8#32) (s 8) (Scalar.select (Scalar.cmpi .eq w 7#32) (s 7) (Scalar.select (Scalar.cmpi .eq w 6#32) (s 6) (Scalar.select (Scalar.cmpi .eq w 5#32) (s 5) (Scalar.select (Scalar.cmpi .eq w 4#32) (s 4) (Scalar.select (Scalar.cmpi .eq w 3#32) (s 3) (Scalar.select (Scalar.cmpi .eq w 2#32) (s 2) (Scalar.select (Scalar.cmpi .eq w 1#32) (s 1) (FloatOps.ofBits .f32 0#32)))))))))))))))))))))
/-- Whether a column is one of the arrays'. -/
def okL (l : ℕ) : BitVec 1 := Scalar.cmpi .slt (BitVec.ofNat 32 l) 8732#32
/-- Whether a lane is a positive. -/
def posL (w : BitVec 32) (l : ℕ) : BitVec 1 := Scalar.andi (Scalar.cmpi .sgt w 0#32) (okL l)
/-- Whether a lane is a negative. -/
def negL (w : BitVec 32) (l : ℕ) : BitVec 1 := Scalar.andi (Scalar.cmpi .eq w 0#32) (okL l)
/-- A lane's clamped mining loss. -/
def mineL (s : Fin 21 → F .f32) : F .f32 := FloatOps.maximumf (FloatOps.subf (FloatOps.log (sumL s)) (s 0)) (FloatOps.ofBits .f32 0#32)
/-- A lane of the stored mining losses. -/
def mL (w : BitVec 32) (l : ℕ) (s : Fin 21 → F .f32) : F .f32 := Scalar.select (negL w l) (mineL s) (FloatOps.ofBits .f32 0xBF800000#32)
/-- A lane of the positives' cross entropies. -/
def ceL (w : BitVec 32) (l : ℕ) (s : Fin 21 → F .f32) : F .f32 :=
  Scalar.select (posL w l) (FloatOps.subf (FloatOps.log (sumL s)) (selL w s)) (FloatOps.ofBits .f32 0#32)
/-- One coordinate's smooth L1 loss. -/
def slL (p g : F .f32) : F .f32 :=
  Scalar.select (FloatOps.cmpf .olt (FloatOps.absf (FloatOps.subf p g)) (FloatOps.ofBits .f32 0x3F800000#32))
    (FloatOps.mulf (FloatOps.mulf (FloatOps.ofBits .f32 0x3F000000#32) (FloatOps.subf p g)) (FloatOps.subf p g))
    (FloatOps.subf (FloatOps.absf (FloatOps.subf p g)) (FloatOps.ofBits .f32 0x3F000000#32))
/-- A lane of the positives' smooth L1 losses at one coordinate. -/
def locL (w : BitVec 32) (l : ℕ) (p g : F .f32) : F .f32 := Scalar.select (posL w l) (slL p g) (FloatOps.ofBits .f32 0#32)

/-- A column past the arrays' end is masked out. -/
theorem okL_of_le (l : Fin 8832) (h : ¬ l.val < 8732) : okL l.val = 0#1 := by
  have hl := l.isLt
  generalize l.val = n at h hl
  unfold okL Scalar.cmpi IntOp.cmpi
  have h1 : (BitVec.ofNat 32 n).toNat = n := by rw [BitVec.toNat_ofNat, Nat.mod_eq_of_lt (by omega)]
  have h2 : (BitVec.ofNat 32 n).toInt = n := by rw [BitVec.toInt_eq_toNat_of_lt (by rw [h1]; omega), h1]
  have h3 : (8732#32 : BitVec 32).toInt = 8732 := by decide
  have : BitVec.slt (BitVec.ofNat 32 n) 8732#32 = false := by
    rw [BitVec.slt, h2, h3]; exact decide_eq_false (by omega)
  simp only [this]
  rfl
/-- A column of the arrays is not masked. -/
theorem okL_of_lt (l : ℕ) (h : l < 8732) : okL l = 1#1 := by
  unfold okL Scalar.cmpi IntOp.cmpi
  have h1 : (BitVec.ofNat 32 l).toNat = l := by rw [BitVec.toNat_ofNat, Nat.mod_eq_of_lt (by omega)]
  have h2 : (BitVec.ofNat 32 l).toInt = l := by rw [BitVec.toInt_eq_toNat_of_lt (by rw [h1]; omega), h1]
  have h3 : (8732#32 : BitVec 32).toInt = 8732 := by decide
  have : BitVec.slt (BitVec.ofNat 32 l) 8732#32 = true := by
    rw [BitVec.slt, h2, h3]; exact decide_eq_true (by omega)
  simp only [this]
  rfl
/-- The masks of a column past the end are zero whatever its label. -/
theorem andi_zero' (b : BitVec 1) : Scalar.andi b 0#1 = 0#1 := by revert b; decide

/-! ## The loads at an index -/

theorem labs_apply (X2 : S8x8832.Idx → Elt F .i32) (j : S8x8832.Idx) : labs X2 j = X2 j := by
  show X2 _ = X2 _
  congr 1; funext a; apply Fin.ext
  show ![0, 0] a + 1 * (j a).val = (j a).val
  fin_cases a <;> simp
/-- The column number. -/
theorem col_apply (r : Fin 8) (l : Fin 8832) : iota Kind.tc S8x8832 32 [1] iota_S8x8832_d1_w32 (ix2 r l) = BitVec.ofNat 32 l.val := by
  show BitVec.ofNat 32 (0 * S8x8832.size 1 + l.val) = _
  rw [Nat.zero_mul, Nat.zero_add]
/-- A plane's element. -/
theorem plane_apply {n : ℕ} {e : EltTy} (X : (⟨3, ![n, 8, 8832]⟩ : Shape).Idx → Elt F e) (k : ℕ) (hk : k < n) (inb : ∀ a, (![k, 0, 0] : Fin 3 → ℕ) a + S1x8x8832.size a ≤ (⟨3, ![n, 8, 8832]⟩ : Shape).size a)
    (h : S1x8x8832.ShapeCasts S8x8832) (r : Fin 8) (l : Fin 8832) :
    shapeCast S8x8832 (View.ld X (Rect.unit (s := (⟨3, ![n, 8, 8832]⟩ : Shape)) ![k, 0, 0] S1x8x8832.size inb)) h (ix2 r l) = X (ix3 ⟨k, hk⟩ r l) := by
  refine (shapeCast_1ab_ab_apply (a := 8) (b := 8832) (View.ld X (Rect.unit (s := (⟨3, ![n, 8, 8832]⟩ : Shape)) ![k, 0, 0] S1x8x8832.size inb)) h r l).trans ?_
  show X _ = X _
  congr 1; funext a; apply Fin.ext
  fin_cases a
  · show k + 1 * 0 = k; omega
  · show 0 + 1 * r.val = r.val; omega
  · show 0 + 1 * l.val = l.val; omega

/-! ## The values at an index -/

theorem expSum_apply (X1 : S21x8x8832.Idx → Elt F .f32) (r : Fin 8) (l : Fin 8832) :
    expSum X1 (ix2 r l) = sumL fun k => X1 (ix3 k r l) := by
  simp only [expSum, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, addf, exp]
  simp only [plane_apply (F := F) (n := 21) (e := .f32) X1 0 (by decide) inb_S21x8x8832_S1x8x8832_0_0_0, plane_apply (F := F) (n := 21) (e := .f32) X1 1 (by decide) inb_S21x8x8832_S1x8x8832_1_0_0, plane_apply (F := F) (n := 21) (e := .f32) X1 2 (by decide) inb_S21x8x8832_S1x8x8832_2_0_0, plane_apply (F := F) (n := 21) (e := .f32) X1 3 (by decide) inb_S21x8x8832_S1x8x8832_3_0_0, plane_apply (F := F) (n := 21) (e := .f32) X1 4 (by decide) inb_S21x8x8832_S1x8x8832_4_0_0, plane_apply (F := F) (n := 21) (e := .f32) X1 5 (by decide) inb_S21x8x8832_S1x8x8832_5_0_0, plane_apply (F := F) (n := 21) (e := .f32) X1 6 (by decide) inb_S21x8x8832_S1x8x8832_6_0_0, plane_apply (F := F) (n := 21) (e := .f32) X1 7 (by decide) inb_S21x8x8832_S1x8x8832_7_0_0, plane_apply (F := F) (n := 21) (e := .f32) X1 8 (by decide) inb_S21x8x8832_S1x8x8832_8_0_0, plane_apply (F := F) (n := 21) (e := .f32) X1 9 (by decide) inb_S21x8x8832_S1x8x8832_9_0_0, plane_apply (F := F) (n := 21) (e := .f32) X1 10 (by decide) inb_S21x8x8832_S1x8x8832_10_0_0, plane_apply (F := F) (n := 21) (e := .f32) X1 11 (by decide) inb_S21x8x8832_S1x8x8832_11_0_0, plane_apply (F := F) (n := 21) (e := .f32) X1 12 (by decide) inb_S21x8x8832_S1x8x8832_12_0_0, plane_apply (F := F) (n := 21) (e := .f32) X1 13 (by decide) inb_S21x8x8832_S1x8x8832_13_0_0, plane_apply (F := F) (n := 21) (e := .f32) X1 14 (by decide) inb_S21x8x8832_S1x8x8832_14_0_0, plane_apply (F := F) (n := 21) (e := .f32) X1 15 (by decide) inb_S21x8x8832_S1x8x8832_15_0_0, plane_apply (F := F) (n := 21) (e := .f32) X1 16 (by decide) inb_S21x8x8832_S1x8x8832_16_0_0, plane_apply (F := F) (n := 21) (e := .f32) X1 17 (by decide) inb_S21x8x8832_S1x8x8832_17_0_0, plane_apply (F := F) (n := 21) (e := .f32) X1 18 (by decide) inb_S21x8x8832_S1x8x8832_18_0_0, plane_apply (F := F) (n := 21) (e := .f32) X1 19 (by decide) inb_S21x8x8832_S1x8x8832_19_0_0, plane_apply (F := F) (n := 21) (e := .f32) X1 20 (by decide) inb_S21x8x8832_S1x8x8832_20_0_0]
  rfl
theorem sel_apply (X1 : S21x8x8832.Idx → Elt F .f32) (X2 : S8x8832.Idx → Elt F .i32) (r : Fin 8) (l : Fin 8832) :
    (select (cmpi .eq (labs X2) (broadcast S8x8832 20#32)) (k0_pay42 (cl20 X1)) (selLow X1 X2) : FVec F S8x8832 .f32) (ix2 r l)
      = selL (X2 (ix2 r l)) fun k => X1 (ix3 k r l) := by
  simp only [selLow, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, select, cmpi, broadcast]
  simp only [plane_apply (F := F) (n := 21) (e := .f32) X1 0 (by decide) inb_S21x8x8832_S1x8x8832_0_0_0, plane_apply (F := F) (n := 21) (e := .f32) X1 1 (by decide) inb_S21x8x8832_S1x8x8832_1_0_0, plane_apply (F := F) (n := 21) (e := .f32) X1 2 (by decide) inb_S21x8x8832_S1x8x8832_2_0_0, plane_apply (F := F) (n := 21) (e := .f32) X1 3 (by decide) inb_S21x8x8832_S1x8x8832_3_0_0, plane_apply (F := F) (n := 21) (e := .f32) X1 4 (by decide) inb_S21x8x8832_S1x8x8832_4_0_0, plane_apply (F := F) (n := 21) (e := .f32) X1 5 (by decide) inb_S21x8x8832_S1x8x8832_5_0_0, plane_apply (F := F) (n := 21) (e := .f32) X1 6 (by decide) inb_S21x8x8832_S1x8x8832_6_0_0, plane_apply (F := F) (n := 21) (e := .f32) X1 7 (by decide) inb_S21x8x8832_S1x8x8832_7_0_0, plane_apply (F := F) (n := 21) (e := .f32) X1 8 (by decide) inb_S21x8x8832_S1x8x8832_8_0_0, plane_apply (F := F) (n := 21) (e := .f32) X1 9 (by decide) inb_S21x8x8832_S1x8x8832_9_0_0, plane_apply (F := F) (n := 21) (e := .f32) X1 10 (by decide) inb_S21x8x8832_S1x8x8832_10_0_0, plane_apply (F := F) (n := 21) (e := .f32) X1 11 (by decide) inb_S21x8x8832_S1x8x8832_11_0_0, plane_apply (F := F) (n := 21) (e := .f32) X1 12 (by decide) inb_S21x8x8832_S1x8x8832_12_0_0, plane_apply (F := F) (n := 21) (e := .f32) X1 13 (by decide) inb_S21x8x8832_S1x8x8832_13_0_0, plane_apply (F := F) (n := 21) (e := .f32) X1 14 (by decide) inb_S21x8x8832_S1x8x8832_14_0_0, plane_apply (F := F) (n := 21) (e := .f32) X1 15 (by decide) inb_S21x8x8832_S1x8x8832_15_0_0, plane_apply (F := F) (n := 21) (e := .f32) X1 16 (by decide) inb_S21x8x8832_S1x8x8832_16_0_0, plane_apply (F := F) (n := 21) (e := .f32) X1 17 (by decide) inb_S21x8x8832_S1x8x8832_17_0_0, plane_apply (F := F) (n := 21) (e := .f32) X1 18 (by decide) inb_S21x8x8832_S1x8x8832_18_0_0, plane_apply (F := F) (n := 21) (e := .f32) X1 19 (by decide) inb_S21x8x8832_S1x8x8832_19_0_0, plane_apply (F := F) (n := 21) (e := .f32) X1 20 (by decide) inb_S21x8x8832_S1x8x8832_20_0_0]
  have hl := labs_apply (F := F) X2 (ix2 r l)
  generalize labs X2 (ix2 r l) = q at hl
  subst hl
  rfl
theorem pos_apply (X2 : S8x8832.Idx → Elt F .i32) (r : Fin 8) (l : Fin 8832) :
    k0_pay13 (F := F) (labs X2) (ix2 r l) = posL (X2 (ix2 r l)) l.val := by
  simp only [k0_pay13, k0_pay12, andi, cmpi, broadcast]
  have hl := labs_apply (F := F) X2 (ix2 r l)
  generalize labs X2 (ix2 r l) = q at hl
  subst hl
  rw [col_apply]
  rfl
theorem neg_apply (X2 : S8x8832.Idx → Elt F .i32) (r : Fin 8) (l : Fin 8832) :
    k0_pay14 (F := F) (labs X2) (ix2 r l) = negL (X2 (ix2 r l)) l.val := by
  simp only [k0_pay14, k0_pay12, andi, cmpi, broadcast]
  have hl := labs_apply (F := F) X2 (ix2 r l)
  generalize labs X2 (ix2 r l) = q at hl
  subst hl
  rw [col_apply]
  rfl
theorem m45_apply (X1 : S21x8x8832.Idx → Elt F .f32) (X2 : S8x8832.Idx → Elt F .i32) (r : Fin 8) (l : Fin 8832) :
    k0_pay45 (k0_pay14 (labs X2)) (k0_pay15 (cl0 X1)) (expSum X1) (ix2 r l) = mL (X2 (ix2 r l)) l.val fun k => X1 (ix3 k r l) := by
  simp only [k0_pay45, k0_pay44, k0_pay15, select, maximumf, subf, log, broadcast, neg_apply, expSum_apply,
    plane_apply (F := F) (n := 21) (e := .f32) X1 0 (by decide) inb_S21x8x8832_S1x8x8832_0_0_0]
  rfl
/-- The stored block of mining losses at an index. -/
theorem blkM_apply (X1 : S21x8x8832.Idx → Elt F .f32) (X2 : S8x8832.Idx → Elt F .i32) (r : Fin 8) (l : Fin 8832) :
    blkM X1 X2 (ix2 r l) = mL (X2 (ix2 r l)) l.val fun k => X1 (ix3 k r l) := by
  unfold blkM k0_pay46
  refine (shapeCast_apply _ shapeCasts_S8x8832_S8x8832 (ix2 r l) (ix2 r l) rfl).trans (m45_apply X1 X2 r l)

/-! ## The block sums -/

/-- The sum of a block's lanes. -/
def tot (V : FVec F S8x8832 .f32) : F .f32 :=
  extractAt ![0, 0, 0] (shapeCast S1x1x1 (multiReduction .add [1, 2] S1 (shapeCast S1x8x8832 V shapeCasts_S8x8832_S1x8x8832) 0x00000000#32
    reduces_S1x8x8832_S1 (.inl rfl) rfl : FVec F S1 .f32) shapeCasts_S1_S1x1x1) inpos_S1x1x1_p0_0_0
/-- The lanes of the cross entropy sum. -/
def ceV (X1 : S21x8x8832.Idx → Elt F .f32) (X2 : S8x8832.Idx → Elt F .i32) : FVec F S8x8832 .f32 := fun j => ceL (X2 j) (j 1).val fun k => X1 (ix3 k (j 0) (j 1))
/-- The lanes of the mining sum. -/
def mineV (X1 : S21x8x8832.Idx → Elt F .f32) (X2 : S8x8832.Idx → Elt F .i32) : FVec F S8x8832 .f32 := fun j =>
  FloatOps.maximumf (mL (X2 j) (j 1).val fun k => X1 (ix3 k (j 0) (j 1))) (FloatOps.ofBits .f32 0#32)
/-- The lanes of one coordinate's smooth L1 sum. -/
def locV (k : Fin 4) (X2 : S8x8832.Idx → Elt F .i32) (X3 X4 : S4x8x8832.Idx → Elt F .f32) : FVec F S8x8832 .f32 := fun j =>
  locL (X2 j) (j 1).val (X3 (ix3 k (j 0) (j 1))) (X4 (ix3 k (j 0) (j 1)))

theorem blkCE_eq (X1 : S21x8x8832.Idx → Elt F .f32) (X2 : S8x8832.Idx → Elt F .i32) : blkCE X1 X2 = tot (ceV X1 X2) := by
  have h : (select (k0_pay13 (F := F) (labs X2)) (subf (k0_pay44 (expSum X1)) (select (cmpi .eq (labs X2) (broadcast S8x8832 20#32)) (k0_pay42 (cl20 X1)) (selLow X1 X2) : FVec F S8x8832 .f32))
      (broadcast S8x8832 (FloatOps.ofBits .f32 0#32)) : FVec F S8x8832 .f32) = ceV X1 X2 := by
    funext j
    obtain ⟨r, l, rfl⟩ : ∃ r l, j = ix2 r l := ⟨j 0, j 1, eq_ix2 j⟩
    have h1 := sel_apply X1 X2 r l
    have h2 := pos_apply X2 r l
    have h3 := expSum_apply X1 r l
    show Scalar.select (k0_pay13 (F := F) (labs X2) (ix2 r l)) (FloatOps.subf (FloatOps.log (expSum X1 (ix2 r l))) _) _ = _
    rw [h1, h2, h3]; rfl
  rw [← h]; rfl
theorem blkMine_eq (X1 : S21x8x8832.Idx → Elt F .f32) (X2 : S8x8832.Idx → Elt F .i32) : blkMine X1 X2 = tot (mineV X1 X2) := by
  have h : (maximumf (k0_pay45 (k0_pay14 (labs X2)) (k0_pay15 (cl0 X1)) (expSum X1)) (broadcast S8x8832 (FloatOps.ofBits .f32 0#32)) : FVec F S8x8832 .f32) = mineV X1 X2 := by
    funext j
    obtain ⟨r, l, rfl⟩ : ∃ r l, j = ix2 r l := ⟨j 0, j 1, eq_ix2 j⟩
    show FloatOps.maximumf (k0_pay45 _ _ _ (ix2 r l)) _ = _
    rw [m45_apply]; rfl
  rw [← h]; rfl
/-- One coordinate's lanes, as the kernel computes them. -/
theorem loc_eq (k : Fin 4) (X2 : S8x8832.Idx → Elt F .i32) (X3 X4 : S4x8x8832.Idx → Elt F .f32) (P G : FVec F S8x8832 .f32)
    (hP : ∀ r l, P (ix2 r l) = X3 (ix3 k r l)) (hG : ∀ r l, G (ix2 r l) = X4 (ix3 k r l)) :
    (select (k0_pay13 (F := F) (labs X2)) (select (cmpf .olt (absf (subf P G)) (broadcast S8x8832 (FloatOps.ofBits .f32 0x3F800000#32)))
      (mulf (mulf (broadcast S8x8832 (FloatOps.ofBits .f32 0x3F000000#32)) (subf P G)) (subf P G)) (subf (absf (subf P G)) (broadcast S8x8832 (FloatOps.ofBits .f32 0x3F000000#32))) : FVec F S8x8832 .f32)
      (broadcast S8x8832 (FloatOps.ofBits .f32 0#32)) : FVec F S8x8832 .f32) = locV k X2 X3 X4 := by
  funext j
  obtain ⟨r, l, rfl⟩ : ∃ r l, j = ix2 r l := ⟨j 0, j 1, eq_ix2 j⟩
  simp only [select, cmpf, absf, subf, mulf, broadcast, pos_apply, hP, hG]
  rfl
theorem blkL3_eq (X2 : S8x8832.Idx → Elt F .i32) (X3 X4 : S4x8x8832.Idx → Elt F .f32) :
    blkL3 X2 X3 X4 = Scalar.addf (Scalar.addf (Scalar.addf (FloatOps.ofBits .f32 0#32) (tot (locV 0 X2 X3 X4))) (tot (locV 1 X2 X3 X4))) (tot (locV 2 X2 X3 X4)) := by
  rw [← loc_eq 0 X2 X3 X4 _ _ (plane_apply (F := F) (n := 4) (e := .f32) X3 0 (by decide) inb_S4x8x8832_S1x8x8832_0_0_0 shapeCasts_S1x8x8832_S8x8832) (plane_apply (F := F) (n := 4) (e := .f32) X4 0 (by decide) inb_S4x8x8832_S1x8x8832_0_0_0 shapeCasts_S1x8x8832_S8x8832),
    ← loc_eq 1 X2 X3 X4 _ _ (plane_apply (F := F) (n := 4) (e := .f32) X3 1 (by decide) inb_S4x8x8832_S1x8x8832_1_0_0 shapeCasts_S1x8x8832_S8x8832) (plane_apply (F := F) (n := 4) (e := .f32) X4 1 (by decide) inb_S4x8x8832_S1x8x8832_1_0_0 shapeCasts_S1x8x8832_S8x8832),
    ← loc_eq 2 X2 X3 X4 _ _ (plane_apply (F := F) (n := 4) (e := .f32) X3 2 (by decide) inb_S4x8x8832_S1x8x8832_2_0_0 shapeCasts_S1x8x8832_S8x8832) (plane_apply (F := F) (n := 4) (e := .f32) X4 2 (by decide) inb_S4x8x8832_S1x8x8832_2_0_0 shapeCasts_S1x8x8832_S8x8832)]
  rfl
theorem accLoc_eq (X2 : S8x8832.Idx → Elt F .i32) (X3 X4 : S4x8x8832.Idx → Elt F .f32) (a : F .f32) :
    k0_pay3 (blkL3 X2 X3 X4) (blkL1 X2 X3 X4) a = Scalar.addf a (Scalar.addf (blkL3 X2 X3 X4) (tot (locV 3 X2 X3 X4))) := by
  rw [← loc_eq 3 X2 X3 X4 _ _ (plane_apply (F := F) (n := 4) (e := .f32) X3 3 (by decide) inb_S4x8x8832_S1x8x8832_3_0_0 shapeCasts_S1x8x8832_S8x8832) (plane_apply (F := F) (n := 4) (e := .f32) X4 3 (by decide) inb_S4x8x8832_S1x8x8832_3_0_0 shapeCasts_S1x8x8832_S8x8832)]
  rfl
/-- The accumulators after a point, by the block sums. -/
theorem accStep_eq (X1 : S21x8x8832.Idx → Elt F .f32) (X2 : S8x8832.Idx → Elt F .i32) (X3 X4 : S4x8x8832.Idx → Elt F .f32) (X8 : S3.Idx → Elt F .f32) :
    accStep X1 X2 X3 X4 X8 = fun y => if (y 0).val = 2 then Scalar.addf (X8 (ix1 2)) (tot (mineV X1 X2))
      else if (y 0).val = 1 then Scalar.addf (X8 (ix1 1)) (Scalar.addf (Scalar.addf (Scalar.addf (Scalar.addf (FloatOps.ofBits .f32 0#32) (tot (locV 0 X2 X3 X4))) (tot (locV 1 X2 X3 X4))) (tot (locV 2 X2 X3 X4))) (tot (locV 3 X2 X3 X4)))
      else Scalar.addf (X8 (ix1 0)) (tot (ceV X1 X2)) := by
  unfold accStep
  rw [accLoc_eq, blkL3_eq, blkCE_eq, blkMine_eq]
  rfl

/-! ## The columns past the end -/

/-- Two blocks agree on the arrays' columns. -/
def Agree3 {n : ℕ} {e : EltTy} (X X' : (⟨3, ![n, 8, 8832]⟩ : Shape).Idx → Elt F e) : Prop := ∀ (k : Fin n) (r : Fin 8) (l : Fin 8832), l.val < 8732 → X (ix3 k r l) = X' (ix3 k r l)
def Agree2 {e : EltTy} (X X' : S8x8832.Idx → Elt F e) : Prop := ∀ (r : Fin 8) (l : Fin 8832), l.val < 8732 → X (ix2 r l) = X' (ix2 r l)

theorem negL_out (w : BitVec 32) (l : Fin 8832) (h : ¬ l.val < 8732) : negL w l.val = 0#1 := by
  unfold negL; rw [okL_of_le l h, andi_zero']
theorem posL_out (w : BitVec 32) (l : Fin 8832) (h : ¬ l.val < 8732) : posL w l.val = 0#1 := by
  unfold posL; rw [okL_of_le l h, andi_zero']
theorem negL_agree {X2 X2' : S8x8832.Idx → Elt F .i32} (h2 : Agree2 X2 X2') (r : Fin 8) (l : Fin 8832) :
    negL (X2 (ix2 r l)) l.val = negL (X2' (ix2 r l)) l.val := by
  by_cases h : l.val < 8732
  · rw [h2 r l h]
  · rw [negL_out _ l h, negL_out _ l h]
theorem posL_agree {X2 X2' : S8x8832.Idx → Elt F .i32} (h2 : Agree2 X2 X2') (r : Fin 8) (l : Fin 8832) :
    posL (X2 (ix2 r l)) l.val = posL (X2' (ix2 r l)) l.val := by
  by_cases h : l.val < 8732
  · rw [h2 r l h]
  · rw [posL_out _ l h, posL_out _ l h]
theorem mL_agree {X1 X1' : S21x8x8832.Idx → Elt F .f32} {X2 X2' : S8x8832.Idx → Elt F .i32} (h1 : Agree3 X1 X1') (h2 : Agree2 X2 X2') (r : Fin 8) (l : Fin 8832) :
    (mL (X2 (ix2 r l)) l.val fun k => X1 (ix3 k r l)) = mL (X2' (ix2 r l)) l.val fun k => X1' (ix3 k r l) := by
  by_cases h : l.val < 8732
  · rw [h2 r l h, show (fun k => X1 (ix3 k r l)) = fun k => X1' (ix3 k r l) from funext fun k => h1 k r l h]
  · unfold mL; rw [negL_out _ l h, negL_out _ l h]; rfl
theorem blkM_agree {X1 X1' : S21x8x8832.Idx → Elt F .f32} {X2 X2' : S8x8832.Idx → Elt F .i32} (h1 : Agree3 X1 X1') (h2 : Agree2 X2 X2') :
    blkM X1 X2 = blkM X1' X2' := by
  funext j
  obtain ⟨r, l, rfl⟩ : ∃ r l, j = ix2 r l := ⟨j 0, j 1, eq_ix2 j⟩
  rw [blkM_apply, blkM_apply]; exact mL_agree h1 h2 r l
theorem blkNP_agree {X2 X2' : S8x8832.Idx → Elt F .i32} (h2 : Agree2 X2 X2') : blkNP X2 = blkNP X2' := by
  unfold blkNP
  congr 1
  funext j
  obtain ⟨r, l, rfl⟩ : ∃ r l, j = ix2 r l := ⟨j 0, j 1, eq_ix2 j⟩
  rw [pos_apply, pos_apply]; exact posL_agree h2 r l
theorem blkNN_agree {X2 X2' : S8x8832.Idx → Elt F .i32} (h2 : Agree2 X2 X2') : blkNN X2 = blkNN X2' := by
  unfold blkNN
  congr 1
  funext j
  obtain ⟨r, l, rfl⟩ : ∃ r l, j = ix2 r l := ⟨j 0, j 1, eq_ix2 j⟩
  rw [neg_apply, neg_apply]; exact negL_agree h2 r l
theorem ceV_agree {X1 X1' : S21x8x8832.Idx → Elt F .f32} {X2 X2' : S8x8832.Idx → Elt F .i32} (h1 : Agree3 X1 X1') (h2 : Agree2 X2 X2') : ceV X1 X2 = ceV X1' X2' := by
  funext j
  obtain ⟨r, l, rfl⟩ : ∃ r l, j = ix2 r l := ⟨j 0, j 1, eq_ix2 j⟩
  show (ceL (X2 (ix2 r l)) l.val fun k => X1 (ix3 k r l)) = ceL (X2' (ix2 r l)) l.val fun k => X1' (ix3 k r l)
  by_cases h : l.val < 8732
  · rw [h2 r l h, show (fun k => X1 (ix3 k r l)) = fun k => X1' (ix3 k r l) from funext fun k => h1 k r l h]
  · unfold ceL; rw [posL_out _ l h, posL_out _ l h]; rfl
theorem mineV_agree {X1 X1' : S21x8x8832.Idx → Elt F .f32} {X2 X2' : S8x8832.Idx → Elt F .i32} (h1 : Agree3 X1 X1') (h2 : Agree2 X2 X2') : mineV X1 X2 = mineV X1' X2' := by
  funext j
  obtain ⟨r, l, rfl⟩ : ∃ r l, j = ix2 r l := ⟨j 0, j 1, eq_ix2 j⟩
  exact congrArg (fun a => FloatOps.maximumf a (FloatOps.ofBits .f32 0#32)) (mL_agree h1 h2 r l)
theorem locV_agree (k : Fin 4) {X2 X2' : S8x8832.Idx → Elt F .i32} {X3 X3' X4 X4' : S4x8x8832.Idx → Elt F .f32} (h2 : Agree2 X2 X2') (h3 : Agree3 X3 X3') (h4 : Agree3 X4 X4') :
    locV k X2 X3 X4 = locV k X2' X3' X4' := by
  funext j
  obtain ⟨r, l, rfl⟩ : ∃ r l, j = ix2 r l := ⟨j 0, j 1, eq_ix2 j⟩
  show locL (X2 (ix2 r l)) l.val (X3 (ix3 k r l)) (X4 (ix3 k r l)) = locL (X2' (ix2 r l)) l.val (X3' (ix3 k r l)) (X4' (ix3 k r l))
  by_cases h : l.val < 8732
  · rw [h2 r l h, h3 k r l h, h4 k r l h]
  · unfold locL; rw [posL_out _ l h, posL_out _ l h]; rfl
theorem accStep_agree {X1 X1' : S21x8x8832.Idx → Elt F .f32} {X2 X2' : S8x8832.Idx → Elt F .i32} {X3 X3' X4 X4' : S4x8x8832.Idx → Elt F .f32}
    (h1 : Agree3 X1 X1') (h2 : Agree2 X2 X2') (h3 : Agree3 X3 X3') (h4 : Agree3 X4 X4') (A : S3.Idx → Elt F .f32) :
    accStep X1 X2 X3 X4 A = accStep X1' X2' X3' X4' A := by
  rw [accStep_eq, accStep_eq, ceV_agree h1 h2, mineV_agree h1 h2, locV_agree 0 h2 h3 h4, locV_agree 1 h2 h3 h4, locV_agree 2 h2 h3 h4, locV_agree 3 h2 h3 h4]

end Cert.KernelIdeal.Hand
-- ==== Proof.KernelIdealRun.Run.lean ====
module

public import proofs.«01_k».proof.Proof.KernelIdealRun.Body
public import proofs.«01_k».proof.Proof.KernelIdealRun.Lanes

/-! The run of the kernel: what its scratch holds before each grid point, the body at each point in the terms of the whole
arrays' blocks, and the launch. The columns a clipped block does not fill are never read into anything stored. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- The four blocks of a point, filled out with zeros past the arrays' last column. -/
def B1 (c : Dev nD) (t : Fin cfg0.N) : S21x8x8832.Idx → Elt F .f32 := win0_0.fill (grid0.coords t) (fun _ => FloatOps.ofBits .f32 0#32) (iblk m c 0 t)
def B2 (c : Dev nD) (t : Fin cfg0.N) : S8x8832.Idx → Elt F .i32 := win0_1.fill (grid0.coords t) (fun _ => 0#32) (iblk m c 1 t)
def B3 (c : Dev nD) (t : Fin cfg0.N) : S4x8x8832.Idx → Elt F .f32 := win0_2.fill (grid0.coords t) (fun _ => FloatOps.ofBits .f32 0#32) (iblk m c 2 t)
def B4 (c : Dev nD) (t : Fin cfg0.N) : S4x8x8832.Idx → Elt F .f32 := win0_3.fill (grid0.coords t) (fun _ => FloatOps.ofBits .f32 0#32) (iblk m c 3 t)

/-- The point's coordinate is its number. -/
theorem coord_val (t : Fin cfg0.N) : (grid0.coords t 0).val = t.val := by
  rcases fin_N0 t with rfl | rfl | rfl | rfl | rfl | rfl | rfl | rfl <;> rfl

/-- Window 0's buffer is its block on the array's columns, whatever it holds elsewhere. -/
theorem fill_agree0 (t : Fin cfg0.N) (d d' : S21x8x8832.Idx → Elt F .f32) (g : (win0_0.xblock (grid0.coords t)).Idx → Elt F .f32) :
    Agree3 (win0_0.fill (grid0.coords t) d g) (win0_0.fill (grid0.coords t) d' g) := by
  intro k r l hl
  have hm : win0_0.moved (grid0.coords t) (ix3 k r l) = true := by
    refine (win0_0.moved_iff (grid0.coords t) (ix3 k r l)).mpr fun a => ?_
    have hx : ∀ a, win0_0.xsize (grid0.coords t) a = (![21, 8, 8732] : Fin 3 → ℕ) a := by
      rcases fin_N0 t with rfl | rfl | rfl | rfl | rfl | rfl | rfl | rfl <;> decide
    rw [hx a]
    fin_cases a
    · exact k.isLt
    · exact r.isLt
    · exact hl
  unfold Pipeline.Window.fill
  rw [dif_pos hm, dif_pos hm]
/-- Window 1's buffer is its block on the array's columns, whatever it holds elsewhere. -/
theorem fill_agree1 (t : Fin cfg0.N) (d d' : S8x8832.Idx → Elt F .i32) (g : (win0_1.xblock (grid0.coords t)).Idx → Elt F .i32) :
    Agree2 (win0_1.fill (grid0.coords t) d g) (win0_1.fill (grid0.coords t) d' g) := by
  intro r l hl
  have hm : win0_1.moved (grid0.coords t) (ix2 r l) = true := by
    refine (win0_1.moved_iff (grid0.coords t) (ix2 r l)).mpr fun a => ?_
    have hx : ∀ a, win0_1.xsize (grid0.coords t) a = (![8, 8732] : Fin 2 → ℕ) a := by
      rcases fin_N0 t with rfl | rfl | rfl | rfl | rfl | rfl | rfl | rfl <;> decide
    rw [hx a]
    fin_cases a
    · exact r.isLt
    · exact hl
  unfold Pipeline.Window.fill
  rw [dif_pos hm, dif_pos hm]
/-- Window 2's buffer is its block on the array's columns, whatever it holds elsewhere. -/
theorem fill_agree2 (t : Fin cfg0.N) (d d' : S4x8x8832.Idx → Elt F .f32) (g : (win0_2.xblock (grid0.coords t)).Idx → Elt F .f32) :
    Agree3 (win0_2.fill (grid0.coords t) d g) (win0_2.fill (grid0.coords t) d' g) := by
  intro k r l hl
  have hm : win0_2.moved (grid0.coords t) (ix3 k r l) = true := by
    refine (win0_2.moved_iff (grid0.coords t) (ix3 k r l)).mpr fun a => ?_
    have hx : ∀ a, win0_2.xsize (grid0.coords t) a = (![4, 8, 8732] : Fin 3 → ℕ) a := by
      rcases fin_N0 t with rfl | rfl | rfl | rfl | rfl | rfl | rfl | rfl <;> decide
    rw [hx a]
    fin_cases a
    · exact k.isLt
    · exact r.isLt
    · exact hl
  unfold Pipeline.Window.fill
  rw [dif_pos hm, dif_pos hm]
/-- Window 3's buffer is its block on the array's columns, whatever it holds elsewhere. -/
theorem fill_agree3 (t : Fin cfg0.N) (d d' : S4x8x8832.Idx → Elt F .f32) (g : (win0_3.xblock (grid0.coords t)).Idx → Elt F .f32) :
    Agree3 (win0_3.fill (grid0.coords t) d g) (win0_3.fill (grid0.coords t) d' g) := by
  intro k r l hl
  have hm : win0_3.moved (grid0.coords t) (ix3 k r l) = true := by
    refine (win0_3.moved_iff (grid0.coords t) (ix3 k r l)).mpr fun a => ?_
    have hx : ∀ a, win0_3.xsize (grid0.coords t) a = (![4, 8, 8732] : Fin 3 → ℕ) a := by
      rcases fin_N0 t with rfl | rfl | rfl | rfl | rfl | rfl | rfl | rfl <;> decide
    rw [hx a]
    fin_cases a
    · exact k.isLt
    · exact r.isLt
    · exact hl
  unfold Pipeline.Window.fill
  rw [dif_pos hm, dif_pos hm]

/-! ## What the scratch holds -/

/-- The grid point of a number below 8. -/
def pt (n : ℕ) : Fin cfg0.N := ⟨n % 8, by have : cfg0.N = 8 := N_0; omega⟩
theorem pt_val (t : Fin cfg0.N) : pt t.val = t := by
  apply Fin.ext; have h := t.isLt; have : cfg0.N = 8 := N_0; show t.val % 8 = t.val; omega

/-- The accumulators after the first `n` points. -/
def accA (c : Dev nD) : ℕ → S3.Idx → Elt F .f32
  | 0 => accZero
  | n + 1 => accStep (B1 m c (pt n)) (B2 m c (pt n)) (B3 m c (pt n)) (B4 m c (pt n)) (accA c n)
/-- The whole array of mining losses. -/
def Mfin (c : Dev nD) : S64x8832.Idx → Elt F .f32 := fun y =>
  blkM (B1 m c (pt ((y 0).val / 8))) (B2 m c (pt ((y 0).val / 8))) (ix2 ⟨(y 0).val % 8, Nat.mod_lt _ (by decide)⟩ (y 1))
/-- Every row's number of positives, and of negatives. -/
def NPfin (c : Dev nD) : S64x1.Idx → Elt F .f32 := fun y =>
  blkNP (B2 m c (pt ((y 0).val / 8))) (ix2 ⟨(y 0).val % 8, Nat.mod_lt _ (by decide)⟩ (y 1))
def NNfin (c : Dev nD) : S64x1.Idx → Elt F .f32 := fun y =>
  blkNN (B2 m c (pt ((y 0).val / 8))) (ix2 ⟨(y 0).val % 8, Nat.mod_lt _ (by decide)⟩ (y 1))

/-- What the scratch holds before point `n`: the accumulators of the points before it, and their rows. -/
def Inv (c : Dev nD) (n : ℕ) (X8 : S3.Idx → Elt F .f32) (X9 : S64x8832.Idx → Elt F .f32) (X10 X11 : S64x1.Idx → Elt F .f32) : Prop :=
  (n ≠ 0 → X8 = accA m c n) ∧ (∀ y, (y 0).val < 8 * n → X9 y = Mfin m c y) ∧ (∀ y, (y 0).val < 8 * n → X10 y = NPfin m c y)
    ∧ (∀ y, (y 0).val < 8 * n → X11 y = NNfin m c y)

theorem putM_rows {α : Type} (n : ℕ) (w : S8x8832.Idx → α) (X G : S64x8832.Idx → α) (hX : ∀ y, (y 0).val < 8 * n → X y = G y)
    (hw : ∀ y (h : 8 * n ≤ (y 0).val ∧ (y 0).val < 8 * n + 8), w (ix2 ⟨(y 0).val % 8, Nat.mod_lt _ (by decide)⟩ (y 1)) = G y) (y : S64x8832.Idx) (hy : (y 0).val < 8 * (n + 1)) :
    putM n w X y = G y := by
  unfold putM
  split
  · next h =>
    rw [← hw y h]
    have : (⟨(y 0).val - 8 * n, by omega⟩ : Fin 8) = ⟨(y 0).val % 8, Nat.mod_lt _ (by decide)⟩ := Fin.ext (by show (y 0).val - 8 * n = (y 0).val % 8; omega)
    rw [this]
  · next h => exact hX y (by omega)
theorem putC_rows {α : Type} (n : ℕ) (w : S8x1.Idx → α) (X G : S64x1.Idx → α) (hX : ∀ y, (y 0).val < 8 * n → X y = G y)
    (hw : ∀ y (h : 8 * n ≤ (y 0).val ∧ (y 0).val < 8 * n + 8), w (ix2 ⟨(y 0).val % 8, Nat.mod_lt _ (by decide)⟩ (y 1)) = G y) (y : S64x1.Idx) (hy : (y 0).val < 8 * (n + 1)) :
    putC n w X y = G y := by
  unfold putC
  split
  · next h =>
    rw [← hw y h]
    have : (⟨(y 0).val - 8 * n, by omega⟩ : Fin 8) = ⟨(y 0).val % 8, Nat.mod_lt _ (by decide)⟩ := Fin.ext (by show (y 0).val - 8 * n = (y 0).val % 8; omega)
    rw [this]
  · next h => exact hX y (by omega)

/-- A point keeps the invariant. -/
theorem inv_step (c : Dev nD) (t : Fin cfg0.N) {X1 : S21x8x8832.Idx → Elt F .f32} {X2 : S8x8832.Idx → Elt F .i32} {X3 X4 : S4x8x8832.Idx → Elt F .f32}
    (h1 : Agree3 X1 (B1 m c t)) (h2 : Agree2 X2 (B2 m c t)) (h3 : Agree3 X3 (B3 m c t)) (h4 : Agree3 X4 (B4 m c t))
    {X8 A : S3.Idx → Elt F .f32} {X9 : S64x8832.Idx → Elt F .f32} {X10 X11 : S64x1.Idx → Elt F .f32} (hA : A = accA m c t.val) (h : Inv m c t.val X8 X9 X10 X11) :
    Inv m c (t.val + 1) (accStep X1 X2 X3 X4 A) (putM t.val (blkM X1 X2) X9) (putC t.val (blkNP X2) X10) (putC t.val (blkNN X2) X11) := by
  have hp : ∀ n : ℕ, 8 * t.val ≤ n ∧ n < 8 * t.val + 8 → pt (n / 8) = t := fun n hn => by
    rw [show n / 8 = t.val from by omega]; exact pt_val t
  refine ⟨fun _ => ?_, putM_rows _ _ _ _ h.2.1 fun y hy => ?_, putC_rows _ _ _ _ h.2.2.1 fun y hy => ?_, putC_rows _ _ _ _ h.2.2.2 fun y hy => ?_⟩
  · rw [accStep_agree h1 h2 h3 h4, hA]
    show _ = accStep (B1 m c (pt t.val)) (B2 m c (pt t.val)) (B3 m c (pt t.val)) (B4 m c (pt t.val)) (accA m c t.val)
    rw [pt_val]
  · unfold Mfin; rw [hp _ hy, blkM_agree h1 h2]
  · unfold NPfin; rw [hp _ hy, blkNP_agree h2]
  · unfold NNfin; rw [hp _ hy, blkNN_agree h2]

/-- After the last point the scratch is the whole of it. -/
theorem inv_last (c : Dev nD) {n : ℕ} (hn : n = 8) {X8 : S3.Idx → Elt F .f32} {X9 : S64x8832.Idx → Elt F .f32} {X10 X11 : S64x1.Idx → Elt F .f32} (h : Inv m c n X8 X9 X10 X11) :
    X8 = accA m c 8 ∧ X9 = Mfin m c ∧ X10 = NPfin m c ∧ X11 = NNfin m c := by
  subst hn
  exact ⟨h.1 (by decide), funext fun y => h.2.1 y (y 0).isLt, funext fun y => h.2.2.1 y (y 0).isLt, funext fun y => h.2.2.2 y (y 0).isLt⟩

/-! ## The proof data -/

/-- The scratch before point `n`. -/
def scr (c : Dev nD) (n : ℕ) : sProp 𝕄 :=
  iprop((∃ r, prngReg c r) ∗ ∃ X8 X9 X10 X11, ⌜Inv m c n X8 X9 X10 X11⌝ ∗ owns (c : Thread nD τ) (Memref.whole cc0_scratch0) fullShare X8
    ∗ owns (c : Thread nD τ) (Memref.whole cc0_scratch1) fullShare X9 ∗ owns (c : Thread nD τ) (Memref.whole cc0_scratch2) fullShare X10
    ∗ owns (c : Thread nD τ) (Memref.whole cc0_scratch3) fullShare X11)

/-- What the pipeline finds and what the body leaves: the arrays as launched, the blocks, the three final words. -/
def dats (_ : Fin 1) (c : Dev nD) : Dat τ (Elt F) Unit ℕ (UR sig nD τ) ℕ cfg0 c where
  A w := V m c (Pipeline.arrRef spec0 w)
  after w t := match w with
    | ⟨0, _⟩ => B1 m c t
    | ⟨1, _⟩ => B2 m c t
    | ⟨2, _⟩ => B3 m c t
    | ⟨3, _⟩ => B4 m c t
    | ⟨4, _⟩ => out5 (accA m c 8)
    | ⟨5, _⟩ => out6 (NPfin m c) (NNfin m c) (Mfin m c) (accA m c 8)
    | ⟨6, _⟩ => out7 (NPfin m c)
  Φ t := scr m c t.val
  q _ := fullShare
  owed _ := 0

theorem before_0 (c : Dev nD) (t : Fin cfg0.N) (d) : (dats m 0 c).before (0 : Fin 7) t d = win0_0.fill (grid0.coords t) d (iblk m c 0 t) := by
  unfold Dat.before; rw [if_pos (fetch0_0 t)]; rfl
theorem before_1 (c : Dev nD) (t : Fin cfg0.N) (d) : (dats m 0 c).before (1 : Fin 7) t d = win0_1.fill (grid0.coords t) d (iblk m c 1 t) := by
  unfold Dat.before; rw [if_pos (fetch0_1 t)]; rfl
theorem before_2 (c : Dev nD) (t : Fin cfg0.N) (d) : (dats m 0 c).before (2 : Fin 7) t d = win0_2.fill (grid0.coords t) d (iblk m c 2 t) := by
  unfold Dat.before; rw [if_pos (fetch0_2 t)]; rfl
theorem before_3 (c : Dev nD) (t : Fin cfg0.N) (d) : (dats m 0 c).before (3 : Fin 7) t d = win0_3.fill (grid0.coords t) d (iblk m c 3 t) := by
  unfold Dat.before; rw [if_pos (fetch0_3 t)]; rfl

/-- The first point's test and the last point's, by the point. -/
theorem first_iff (t : Fin cfg0.N) : Scalar.cmpi .ne (Scalar.extui (Scalar.cmpi .eq (BitVec.ofNat 32 (grid0.coords t 0).val) 0#32) : BitVec 32) 0#32 = 1#1 ↔ t.val = 0 := by
  rcases fin_N0 t with rfl | rfl | rfl | rfl | rfl | rfl | rfl | rfl <;> decide
theorem last_iff (t : Fin cfg0.N) : k0_cond2 (grid0.coords t) = 1#1 ↔ t.val = 7 := by
  rcases fin_N0 t with rfl | rfl | rfl | rfl | rfl | rfl | rfl | rfl <;> decide
theorem flush_last (t : Fin cfg0.N) : ((cfg0.win 4).flush t = true ↔ t.val = 7) ∧ ((cfg0.win 5).flush t = true ↔ t.val = 7) ∧ ((cfg0.win 6).flush t = true ↔ t.val = 7) := by
  have h := t.isLt; have hN : cfg0.N = 8 := N_0
  have e : t.val % 8 = t.val := by omega
  exact ⟨by rw [flush0_4, e], by rw [flush0_5, e], by rw [flush0_6, e]⟩

/-- The body's row at a point. -/
theorem row_eq (t : Fin cfg0.N) : (defs₀ (F := F)) .tc cfg0.body (cfg0.bodyArgs t (cfg0.slots t)) = bodyAt0 t := by
  unfold defs₀; rw [Defs.onTc_tc]

/-- The body at the first point. -/
theorem at_first (c : Dev nD) (t : Fin cfg0.N) (h0 : t.val = 0) :
      iprop(scr m c t.val ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ d, owns (c : Thread nD τ) (win0_3.stage (cfg0.slots t 3)) fullShare ((dats m 0 c).before 3 t d))
        ∗ (∃ d, owns (c : Thread nD τ) (win0_4.stage (cfg0.slots t 4)) fullShare ((dats m 0 c).before 4 t d))
        ∗ (∃ d, owns (c : Thread nD τ) (win0_5.stage (cfg0.slots t 5)) fullShare ((dats m 0 c).before 5 t d))
        ∗ (∃ d, owns (c : Thread nD τ) (win0_6.stage (cfg0.slots t 6)) fullShare ((dats m 0 c).before 6 t d)))
      ⊢ wp frame (wpE (defs₀ (F := F)) Variants.none c none) Set.univ (bodyAt0 t) fun _ =>
        iprop(scr m c (t.val + 1) ∗ (dats m 0 c).owesAt () t.castSucc
        ∗ (∃ d, owns (c : Thread nD τ) (win0_0.stage (cfg0.slots t 0)) fullShare (win0_0.fill (grid0.coords t) d (win0_0.cut (grid0.coords t) (B1 m c t))))
        ∗ (∃ d, owns (c : Thread nD τ) (win0_1.stage (cfg0.slots t 1)) fullShare (win0_1.fill (grid0.coords t) d (win0_1.cut (grid0.coords t) (B2 m c t))))
        ∗ (∃ d, owns (c : Thread nD τ) (win0_2.stage (cfg0.slots t 2)) fullShare (win0_2.fill (grid0.coords t) d (win0_2.cut (grid0.coords t) (B3 m c t))))
        ∗ (∃ d, owns (c : Thread nD τ) (win0_3.stage (cfg0.slots t 3)) fullShare (win0_3.fill (grid0.coords t) d (win0_3.cut (grid0.coords t) (B4 m c t))))
        ∗ (∃ d, owns (c : Thread nD τ) (win0_4.stage (cfg0.slots t 4)) fullShare ((dats m 0 c).before 4 t d))
        ∗ (∃ d, owns (c : Thread nD τ) (win0_5.stage (cfg0.slots t 5)) fullShare ((dats m 0 c).before 5 t d))
        ∗ (∃ d, owns (c : Thread nD τ) (win0_6.stage (cfg0.slots t 6)) fullShare ((dats m 0 c).before 6 t d))) := by
  iintro ⟨HΦ, Ho, ⟨%d0, H0⟩, ⟨%d1, H1⟩, ⟨%d2, H2⟩, ⟨%d3, H3⟩, ⟨%d4, H4⟩, ⟨%d5, H5⟩, ⟨%d6, H6⟩⟩
  unfold scr
  icases HΦ with ⟨Hr, %X8, %X9, %X10, %X11, %hI, G8, G9, G10, G11⟩
  rw [before_0 m c t d0, before_1 m c t d1, before_2 m c t d2, before_3 m c t d3]
  iapply (body_first (F := F) c Set.univ (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (Memref.whole cc0_scratch0) (Memref.isWhole_whole _) (Memref.whole cc0_scratch1) (Memref.isWhole_whole _) (Memref.whole cc0_scratch2) (Memref.isWhole_whole _) (Memref.whole cc0_scratch3) (Memref.isWhole_whole _)
    (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t))
    ((dats m 0 c).before 4 t d4) ((dats m 0 c).before 5 t d5) ((dats m 0 c).before 6 t d6) X8 X9 X10 X11 ((first_iff t).mpr h0) (fun h => by have := (last_iff t).mp h; omega) _)
  rw [coord_val t]
  have hS := inv_step m c t (fill_agree0 t d0 _ (iblk m c 0 t)) (fill_agree1 t d1 _ (iblk m c 1 t)) (fill_agree2 t d2 _ (iblk m c 2 t)) (fill_agree3 t d3 _ (iblk m c 3 t)) (A := accZero) (by rw [h0]; rfl) hI
  isplitl [H0 H1 H2 H3 H4 H5 H6 G8 G9 G10 G11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [G8]; · iexact G8
    isplitl [G9]; · iexact G9
    isplitl [G10]; · iexact G10
    iexact G11
  iintro ⟨H0, H1, H2, H3, H4, H5, H6, G8, G9, G10, G11⟩
  isplitl [Hr G8 G9 G10 G11]
  · isplitl [Hr]; · iexact Hr
    iexists _; iexists _; iexists _; iexists _
    isplitr; swap
    · isplitl [G8]; · iexact G8
      isplitl [G9]; · iexact G9
      isplitl [G10]; · iexact G10
      iexact G11
    ipureintro; exact hS
  isplitl [Ho]; · iexact Ho
  isplitl [H0]
  · iexists d0
    rw [show win0_0.cut (grid0.coords t) (B1 m c t) = iblk m c 0 t from win0_0.cut_fill _ _ _]; iexact H0
  isplitl [H1]
  · iexists d1
    rw [show win0_1.cut (grid0.coords t) (B2 m c t) = iblk m c 1 t from win0_1.cut_fill _ _ _]; iexact H1
  isplitl [H2]
  · iexists d2
    rw [show win0_2.cut (grid0.coords t) (B3 m c t) = iblk m c 2 t from win0_2.cut_fill _ _ _]; iexact H2
  isplitl [H3]
  · iexists d3
    rw [show win0_3.cut (grid0.coords t) (B4 m c t) = iblk m c 3 t from win0_3.cut_fill _ _ _]; iexact H3
  isplitl [H4]; · iexists d4; iexact H4
  isplitl [H5]; · iexists d5; iexact H5
  iexists d6; iexact H6

/-- The body at a point between the first and the last. -/
theorem at_mid (c : Dev nD) (t : Fin cfg0.N) (h0 : t.val ≠ 0) (hl : t.val ≠ 7) :
      iprop(scr m c t.val ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ d, owns (c : Thread nD τ) (win0_3.stage (cfg0.slots t 3)) fullShare ((dats m 0 c).before 3 t d))
        ∗ (∃ d, owns (c : Thread nD τ) (win0_4.stage (cfg0.slots t 4)) fullShare ((dats m 0 c).before 4 t d))
        ∗ (∃ d, owns (c : Thread nD τ) (win0_5.stage (cfg0.slots t 5)) fullShare ((dats m 0 c).before 5 t d))
        ∗ (∃ d, owns (c : Thread nD τ) (win0_6.stage (cfg0.slots t 6)) fullShare ((dats m 0 c).before 6 t d)))
      ⊢ wp frame (wpE (defs₀ (F := F)) Variants.none c none) Set.univ (bodyAt0 t) fun _ =>
        iprop(scr m c (t.val + 1) ∗ (dats m 0 c).owesAt () t.castSucc
        ∗ (∃ d, owns (c : Thread nD τ) (win0_0.stage (cfg0.slots t 0)) fullShare (win0_0.fill (grid0.coords t) d (win0_0.cut (grid0.coords t) (B1 m c t))))
        ∗ (∃ d, owns (c : Thread nD τ) (win0_1.stage (cfg0.slots t 1)) fullShare (win0_1.fill (grid0.coords t) d (win0_1.cut (grid0.coords t) (B2 m c t))))
        ∗ (∃ d, owns (c : Thread nD τ) (win0_2.stage (cfg0.slots t 2)) fullShare (win0_2.fill (grid0.coords t) d (win0_2.cut (grid0.coords t) (B3 m c t))))
        ∗ (∃ d, owns (c : Thread nD τ) (win0_3.stage (cfg0.slots t 3)) fullShare (win0_3.fill (grid0.coords t) d (win0_3.cut (grid0.coords t) (B4 m c t))))
        ∗ (∃ d, owns (c : Thread nD τ) (win0_4.stage (cfg0.slots t 4)) fullShare ((dats m 0 c).before 4 t d))
        ∗ (∃ d, owns (c : Thread nD τ) (win0_5.stage (cfg0.slots t 5)) fullShare ((dats m 0 c).before 5 t d))
        ∗ (∃ d, owns (c : Thread nD τ) (win0_6.stage (cfg0.slots t 6)) fullShare ((dats m 0 c).before 6 t d))) := by
  iintro ⟨HΦ, Ho, ⟨%d0, H0⟩, ⟨%d1, H1⟩, ⟨%d2, H2⟩, ⟨%d3, H3⟩, ⟨%d4, H4⟩, ⟨%d5, H5⟩, ⟨%d6, H6⟩⟩
  unfold scr
  icases HΦ with ⟨Hr, %X8, %X9, %X10, %X11, %hI, G8, G9, G10, G11⟩
  rw [before_0 m c t d0, before_1 m c t d1, before_2 m c t d2, before_3 m c t d3]
  iapply (body_mid (F := F) c Set.univ (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
    (Memref.whole cc0_scratch0) (Memref.isWhole_whole _) (Memref.whole cc0_scratch1) (Memref.isWhole_whole _) (Memref.whole cc0_scratch2) (Memref.isWhole_whole _) (Memref.whole cc0_scratch3) (Memref.isWhole_whole _)
    (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t))
    ((dats m 0 c).before 4 t d4) ((dats m 0 c).before 5 t d5) ((dats m 0 c).before 6 t d6) X8 X9 X10 X11 (fun h => h0 ((first_iff t).mp h)) (fun h => hl ((last_iff t).mp h)) _)
  rw [coord_val t]
  have hS := inv_step m c t (fill_agree0 t d0 _ (iblk m c 0 t)) (fill_agree1 t d1 _ (iblk m c 1 t)) (fill_agree2 t d2 _ (iblk m c 2 t)) (fill_agree3 t d3 _ (iblk m c 3 t)) (A := X8) (hI.1 h0) hI
  isplitl [H0 H1 H2 H3 H4 H5 H6 G8 G9 G10 G11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [G8]; · iexact G8
    isplitl [G9]; · iexact G9
    isplitl [G10]; · iexact G10
    iexact G11
  iintro ⟨H0, H1, H2, H3, H4, H5, H6, G8, G9, G10, G11⟩
  isplitl [Hr G8 G9 G10 G11]
  · isplitl [Hr]; · iexact Hr
    iexists _; iexists _; iexists _; iexists _
    isplitr; swap
    · isplitl [G8]; · iexact G8
      isplitl [G9]; · iexact G9
      isplitl [G10]; · iexact G10
      iexact G11
    ipureintro; exact hS
  isplitl [Ho]; · iexact Ho
  isplitl [H0]
  · iexists d0
    rw [show win0_0.cut (grid0.coords t) (B1 m c t) = iblk m c 0 t from win0_0.cut_fill _ _ _]; iexact H0
  isplitl [H1]
  · iexists d1
    rw [show win0_1.cut (grid0.coords t) (B2 m c t) = iblk m c 1 t from win0_1.cut_fill _ _ _]; iexact H1
  isplitl [H2]
  · iexists d2
    rw [show win0_2.cut (grid0.coords t) (B3 m c t) = iblk m c 2 t from win0_2.cut_fill _ _ _]; iexact H2
  isplitl [H3]
  · iexists d3
    rw [show win0_3.cut (grid0.coords t) (B4 m c t) = iblk m c 3 t from win0_3.cut_fill _ _ _]; iexact H3
  isplitl [H4]; · iexists d4; iexact H4
  isplitl [H5]; · iexists d5; iexact H5
  iexists d6; iexact H6

/-- The body at the last point: the results are written. -/
theorem at_last (c : Dev nD) (t : Fin cfg0.N) (hl : t.val = 7) :
      iprop(scr m c t.val ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ d, owns (c : Thread nD τ) (win0_3.stage (cfg0.slots t 3)) fullShare ((dats m 0 c).before 3 t d))
        ∗ (∃ d, owns (c : Thread nD τ) (win0_4.stage (cfg0.slots t 4)) fullShare ((dats m 0 c).before 4 t d))
        ∗ (∃ d, owns (c : Thread nD τ) (win0_5.stage (cfg0.slots t 5)) fullShare ((dats m 0 c).before 5 t d))
        ∗ (∃ d, owns (c : Thread nD τ) (win0_6.stage (cfg0.slots t 6)) fullShare ((dats m 0 c).before 6 t d)))
      ⊢ wp frame (wpE (defs₀ (F := F)) Variants.none c none) Set.univ (bodyAt0 t) fun _ =>
        iprop(scr m c (t.val + 1) ∗ (dats m 0 c).owesAt () t.castSucc
        ∗ (∃ d, owns (c : Thread nD τ) (win0_0.stage (cfg0.slots t 0)) fullShare (win0_0.fill (grid0.coords t) d (win0_0.cut (grid0.coords t) (B1 m c t))))
        ∗ (∃ d, owns (c : Thread nD τ) (win0_1.stage (cfg0.slots t 1)) fullShare (win0_1.fill (grid0.coords t) d (win0_1.cut (grid0.coords t) (B2 m c t))))
        ∗ (∃ d, owns (c : Thread nD τ) (win0_2.stage (cfg0.slots t 2)) fullShare (win0_2.fill (grid0.coords t) d (win0_2.cut (grid0.coords t) (B3 m c t))))
        ∗ (∃ d, owns (c : Thread nD τ) (win0_3.stage (cfg0.slots t 3)) fullShare (win0_3.fill (grid0.coords t) d (win0_3.cut (grid0.coords t) (B4 m c t))))
        ∗ owns (c : Thread nD τ) (win0_4.stage (cfg0.slots t 4)) fullShare (out5 (accA m c 8))
        ∗ owns (c : Thread nD τ) (win0_5.stage (cfg0.slots t 5)) fullShare (out6 (NPfin m c) (NNfin m c) (Mfin m c) (accA m c 8))
        ∗ owns (c : Thread nD τ) (win0_6.stage (cfg0.slots t 6)) fullShare (out7 (NPfin m c))) := by
  iintro ⟨HΦ, Ho, ⟨%d0, H0⟩, ⟨%d1, H1⟩, ⟨%d2, H2⟩, ⟨%d3, H3⟩, ⟨%d4, H4⟩, ⟨%d5, H5⟩, ⟨%d6, H6⟩⟩
  unfold scr
  icases HΦ with ⟨Hr, %X8, %X9, %X10, %X11, %hI, G8, G9, G10, G11⟩
  rw [before_0 m c t d0, before_1 m c t d1, before_2 m c t d2, before_3 m c t d3]
  have h0 : t.val ≠ 0 := by omega
  have hE := inv_step m c t (fill_agree0 t d0 _ (iblk m c 0 t)) (fill_agree1 t d1 _ (iblk m c 1 t)) (fill_agree2 t d2 _ (iblk m c 2 t)) (fill_agree3 t d3 _ (iblk m c 3 t)) (A := X8) (hI.1 h0) hI
  obtain ⟨eA, eM, eP, eN⟩ := inv_last m c (by rw [hl]) hE
  rw [← eA, ← eM, ← eP, ← eN]
  by_cases hf : roomy (putC t.val (blkNP (win0_1.fill (grid0.coords t) d1 (iblk m c 1 t))) X10) (putC t.val (blkNN (win0_1.fill (grid0.coords t) d1 (iblk m c 1 t))) X11)
  · iapply (body_last_fast (F := F) c Set.univ (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
      (Memref.whole cc0_scratch0) (Memref.isWhole_whole _) (Memref.whole cc0_scratch1) (Memref.isWhole_whole _) (Memref.whole cc0_scratch2) (Memref.isWhole_whole _) (Memref.whole cc0_scratch3) (Memref.isWhole_whole _)
      (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t))
      ((dats m 0 c).before 4 t d4) ((dats m 0 c).before 5 t d5) ((dats m 0 c).before 6 t d6) X8 X9 X10 X11 (fun h => h0 ((first_iff t).mp h)) ((last_iff t).mpr hl) (by rw [coord_val t]; exact hf) _)
    rw [coord_val t]
    have hS := inv_step m c t (fill_agree0 t d0 _ (iblk m c 0 t)) (fill_agree1 t d1 _ (iblk m c 1 t)) (fill_agree2 t d2 _ (iblk m c 2 t)) (fill_agree3 t d3 _ (iblk m c 3 t)) (A := X8) (hI.1 h0) hI
    isplitl [H0 H1 H2 H3 H4 H5 H6 G8 G9 G10 G11]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [G8]; · iexact G8
      isplitl [G9]; · iexact G9
      isplitl [G10]; · iexact G10
      iexact G11
    iintro ⟨H0, H1, H2, H3, H4, H5, H6, G8, G9, G10, G11⟩
    isplitl [Hr G8 G9 G10 G11]
    · isplitl [Hr]; · iexact Hr
      iexists _; iexists _; iexists _; iexists _
      isplitr; swap
      · isplitl [G8]; · iexact G8
        isplitl [G9]; · iexact G9
        isplitl [G10]; · iexact G10
        iexact G11
      ipureintro; exact hS
    isplitl [Ho]; · iexact Ho
    isplitl [H0]
    · iexists d0
      rw [show win0_0.cut (grid0.coords t) (B1 m c t) = iblk m c 0 t from win0_0.cut_fill _ _ _]; iexact H0
    isplitl [H1]
    · iexists d1
      rw [show win0_1.cut (grid0.coords t) (B2 m c t) = iblk m c 1 t from win0_1.cut_fill _ _ _]; iexact H1
    isplitl [H2]
    · iexists d2
      rw [show win0_2.cut (grid0.coords t) (B3 m c t) = iblk m c 2 t from win0_2.cut_fill _ _ _]; iexact H2
    isplitl [H3]
    · iexists d3
      rw [show win0_3.cut (grid0.coords t) (B4 m c t) = iblk m c 3 t from win0_3.cut_fill _ _ _]; iexact H3
    isplitl [H4]; · iexact H4
    isplitl [H5]; · iexact H5
    iexact H6
  · iapply (body_last_slow (F := F) c Set.univ (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6))
      (Memref.whole cc0_scratch0) (Memref.isWhole_whole _) (Memref.whole cc0_scratch1) (Memref.isWhole_whole _) (Memref.whole cc0_scratch2) (Memref.isWhole_whole _) (Memref.whole cc0_scratch3) (Memref.isWhole_whole _)
      (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t))
      ((dats m 0 c).before 4 t d4) ((dats m 0 c).before 5 t d5) ((dats m 0 c).before 6 t d6) X8 X9 X10 X11 (fun h => h0 ((first_iff t).mp h)) ((last_iff t).mpr hl) (by rw [coord_val t]; exact hf) _)
    rw [coord_val t]
    have hS := inv_step m c t (fill_agree0 t d0 _ (iblk m c 0 t)) (fill_agree1 t d1 _ (iblk m c 1 t)) (fill_agree2 t d2 _ (iblk m c 2 t)) (fill_agree3 t d3 _ (iblk m c 3 t)) (A := X8) (hI.1 h0) hI
    isplitl [H0 H1 H2 H3 H4 H5 H6 G8 G9 G10 G11]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [G8]; · iexact G8
      isplitl [G9]; · iexact G9
      isplitl [G10]; · iexact G10
      iexact G11
    iintro ⟨H0, H1, H2, H3, H4, H5, H6, G8, G9, G10, G11⟩
    isplitl [Hr G8 G9 G10 G11]
    · isplitl [Hr]; · iexact Hr
      iexists _; iexists _; iexists _; iexists _
      isplitr; swap
      · isplitl [G8]; · iexact G8
        isplitl [G9]; · iexact G9
        isplitl [G10]; · iexact G10
        iexact G11
      ipureintro; exact hS
    isplitl [Ho]; · iexact Ho
    isplitl [H0]
    · iexists d0
      rw [show win0_0.cut (grid0.coords t) (B1 m c t) = iblk m c 0 t from win0_0.cut_fill _ _ _]; iexact H0
    isplitl [H1]
    · iexists d1
      rw [show win0_1.cut (grid0.coords t) (B2 m c t) = iblk m c 1 t from win0_1.cut_fill _ _ _]; iexact H1
    isplitl [H2]
    · iexists d2
      rw [show win0_2.cut (grid0.coords t) (B3 m c t) = iblk m c 2 t from win0_2.cut_fill _ _ _]; iexact H2
    isplitl [H3]
    · iexists d3
      rw [show win0_3.cut (grid0.coords t) (B4 m c t) = iblk m c 3 t from win0_3.cut_fill _ _ _]; iexact H3
    isplitl [H4]; · iexact H4
    isplitl [H5]; · iexact H5
    iexact H6

theorem body_obligation (c : Dev nD) : BodyObligationLoose (dats m 0 c) (defs₀ (F := F)) Variants.none () Set.univ := fun t => by
  rw [bigSep_W0, bigSep_W0, row_eq]
  have e0 : cfg0.idle 4 (cfg0.grid.coords t) = !(k0_cond2 (grid0.coords t) == 1#1) := rfl
  have e1 : cfg0.idle 5 (cfg0.grid.coords t) = !(k0_cond2 (grid0.coords t) == 1#1) := rfl
  have e2 : cfg0.idle 6 (cfg0.grid.coords t) = !(k0_cond2 (grid0.coords t) == 1#1) := rfl
  have e0' : idle0 4 (grid0.coords t) = !(k0_cond2 (grid0.coords t) == 1#1) := rfl
  have e1' : idle0 5 (grid0.coords t) = !(k0_cond2 (grid0.coords t) == 1#1) := rfl
  have e2' : idle0 6 (grid0.coords t) = !(k0_cond2 (grid0.coords t) == 1#1) := rfl
  obtain ⟨f4, f5, f6⟩ := flush_last t
  by_cases hl : t.val = 7
  · have g : (!(k0_cond2 (grid0.coords t) == 1#1)) = false := by
      rw [(last_iff t).mpr hl]; rfl
    rw [g] at e0 e1 e2 e0' e1' e2'
    simp only [e0, e1, e2, e0', e1', e2']
    exact at_last m c t hl
  · have g : (!(k0_cond2 (grid0.coords t) == 1#1)) = true := by
      simp only [Bool.not_eq_true', beq_eq_false_iff_ne]; exact fun h => hl ((last_iff t).mp h)
    have f4' : (cfg0.win 4).flush t = false := Bool.eq_false_iff.mpr fun h => hl (f4.mp h)
    have f5' : (cfg0.win 5).flush t = false := Bool.eq_false_iff.mpr fun h => hl (f5.mp h)
    have f6' : (cfg0.win 6).flush t = false := Bool.eq_false_iff.mpr fun h => hl (f6.mp h)
    rw [g] at e0 e1 e2 e0' e1' e2'
    simp only [e0, e1, e2, e0', e1', e2', f4', f5', f6']
    by_cases h0 : t.val = 0
    · exact at_first m c t h0
    · exact at_mid m c t h0 hl

/-! ## The launch -/

/-- The scratch as the launch gives it is the scratch before point 0, -/
theorem enter (c : Dev nD) : Pipeline.ΦA (U := UR sig nD τ) (Val := Elt F) spec0 c ⊢ scr m c 0 := by
  unfold Pipeline.ΦA scr
  rw [scopedRest0_eq]
  iintro ⟨⟨⟨%f1, H1⟩, ⟨%f2, H2⟩, ⟨%f3, H3⟩, ⟨%f0, H0⟩⟩, Hr⟩
  isplitl [Hr]; · iexact Hr
  iexists f0; iexists f1; iexists f2; iexists f3
  rw [owns_whole, owns_whole, owns_whole, owns_whole]
  isplitr
  · ipureintro; exact ⟨fun h => absurd rfl h, fun y hy => absurd hy (by omega), fun y hy => absurd hy (by omega), fun y hy => absurd hy (by omega)⟩
  isplitl [H0]; · iexact H0
  isplitl [H1]; · iexact H1
  isplitl [H2]; · iexact H2
  iexact H3
/-- and after the last point it is handed back. -/
theorem leave (c : Dev nD) (n : ℕ) : scr m c n ⊢ Pipeline.ΦA (U := UR sig nD τ) (Val := Elt F) spec0 c := by
  unfold Pipeline.ΦA scr
  rw [scopedRest0_eq]
  simp only [owns_whole]
  iintro ⟨Hr, %X8, %X9, %X10, %X11, -, G8, G9, G10, G11⟩
  isplitl [G8 G9 G10 G11]
  · isplitl [G9]; · iexists X9; iexact G9
    isplitl [G10]; · iexists X10; iexact G10
    isplitl [G11]; · iexists X11; iexact G11
    iexists X8; iexact G8
  iexact Hr

set_option backward.isDefEq.respectTransparency.types false in
/-- The whole run: every array ends as the library computes it, and every counter at zero. -/
theorem run : θ_run (defs (F := F)) (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main (fun c => body_obligation m c)
    (fun c => (dats m 0 c).share_full fun _ => rfl) (fun _ _ => rfl) (V0 m) [hostOps1] sfx_sub sfx_fresh sfx_keeps (hmain m Variants.none)
    (fun _ _ => rfl) (fun c => enter m c) (fun c => leave m c _) _ (fun _ h => h)

/-- The run leaves the arguments unchanged and every counter at zero. -/
theorem frame_quiescent : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 1).trans (((dats m 0 c).arrAt_in 1 rfl _).trans (V_main_arg2 m c)),
      ((h.1 c).2 main_arg3 (Pipeline.mem_restRefs_of main_arg3 (by decide) (by decide))).trans (W_main_arg3 m (dats m) c)⟩, h.2⟩) (run m ρ)

end Cert.KernelIdeal.Hand
-- ==== Proof.RefOps.lean ====
module

public import proofs.«01_k».proof.Proof.Gen.ReferenceIdeal
public import Idealize.ShloMosaic.Lib.StableHlo.RunHlo

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 100 operations, in order (a called function's operations stand in its call's place, spelt `TRef.…`). -/
abbrev ops : List (HloOp τ sig (Elt F)) :=
  [ TRef.nullary (TRef.of (T := ⟨S_, .f32⟩) main_call0_cst) (constant S_ .f32 0xFF800000#32),
    TRef.binary (TRef.of (T := ⟨S64x8732x21, .f32⟩) main_arg0) (TRef.of (T := ⟨S_, .f32⟩) main_call0_cst) (TRef.of (T := ⟨S64x8732, .f32⟩) main_call0_v0) (fun x v => Host.reduce FloatOps.maximumf x v reducesTo_S64x8732x21_S64x8732_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S64x8732, .f32⟩) main_call0_v1) (broadcastInDim S64x8732 ![] bcast_S_S64x8732),
    TRef.binary (TRef.of (T := ⟨S64x8732, .f32⟩) main_call0_v1) (TRef.of (T := ⟨S64x8732, .f32⟩) main_call0_v0) (TRef.of (T := ⟨S64x8732, .f32⟩) main_call0_v2) maximumf,
    TRef.unary (TRef.of (T := ⟨S64x8732, .f32⟩) main_call0_v2) (TRef.of (T := ⟨S64x8732x1, .f32⟩) main_call0_v3) (broadcastInDim S64x8732x1 ![0, 1] bcast_S64x8732_S64x8732x1_0_1),
    TRef.unary (TRef.of (T := ⟨S64x8732x1, .f32⟩) main_call0_v3) (TRef.of (T := ⟨S64x8732x21, .f32⟩) main_call0_v4) (broadcastInDim S64x8732x21 ![0, 1, 2] bcast_S64x8732x1_S64x8732x21_0_1_2),
    TRef.binary (TRef.of (T := ⟨S64x8732x21, .f32⟩) main_arg0) (TRef.of (T := ⟨S64x8732x21, .f32⟩) main_call0_v4) (TRef.of (T := ⟨S64x8732x21, .f32⟩) main_call0_v5) subf,
    TRef.unary (TRef.of (T := ⟨S64x8732x21, .f32⟩) main_call0_v5) (TRef.of (T := ⟨S64x8732x21, .f32⟩) main_call0_v6) Host.exp,
    TRef.nullary (TRef.of (T := ⟨S_, .f32⟩) main_call0_cst_1) (constant S_ .f32 0x00000000#32),
    TRef.binary (TRef.of (T := ⟨S64x8732x21, .f32⟩) main_call0_v6) (TRef.of (T := ⟨S_, .f32⟩) main_call0_cst_1) (TRef.of (T := ⟨S64x8732, .f32⟩) main_call0_v7) (fun x v => Host.reduceAdd x v reducesTo_S64x8732x21_S64x8732_d2 h_S_),
    TRef.unary (TRef.of (T := ⟨S64x8732, .f32⟩) main_call0_v7) (TRef.of (T := ⟨S64x8732x1, .f32⟩) main_call0_v8) (broadcastInDim S64x8732x1 ![0, 1] bcast_S64x8732_S64x8732x1_0_1),
    TRef.unary (TRef.of (T := ⟨S64x8732x1, .f32⟩) main_call0_v8) (TRef.of (T := ⟨S64x8732x1, .f32⟩) main_call0_v9) Host.log,
    TRef.unary (TRef.of (T := ⟨S64x8732x1, .f32⟩) main_call0_v9) (TRef.of (T := ⟨S64x8732x21, .f32⟩) main_call0_v10) (broadcastInDim S64x8732x21 ![0, 1, 2] bcast_S64x8732x1_S64x8732x21_0_1_2),
    TRef.binary (TRef.of (T := ⟨S64x8732x21, .f32⟩) main_call0_v5) (TRef.of (T := ⟨S64x8732x21, .f32⟩) main_call0_v10) (TRef.of (T := ⟨S64x8732x21, .f32⟩) main_v0) subf,
    unary main_v0 main_v1 ((extractStridedSlice S64x8732x1 ![0, 0, 0] · slices_S64x8732x21_S64x8732x1_0_0_0) : (⟨S64x8732x21, .f32⟩ : BufTy).Contents (Elt F) → (⟨S64x8732x1, .f32⟩ : BufTy).Contents (Elt F)),
    reshape main_v1 main_v2 (rfl : (.f32 : EltTy) = .f32) shapeCasts_S64x8732x1_S64x8732,
    unary main_v2 main_v3 (Host.negf : (⟨S64x8732, .f32⟩ : BufTy).Contents (Elt F) → (⟨S64x8732, .f32⟩ : BufTy).Contents (Elt F)),
    nullary main_c (constantI S_ 32 0#32),
    unary main_c main_v4 (broadcastInDim S64x8732 ![] bcast_S_S64x8732 : (⟨S_, .i32⟩ : BufTy).Contents (Elt F) → (⟨S64x8732, .i32⟩ : BufTy).Contents (Elt F)),
    binary main_arg2 main_v4 main_v5 (cmpi .sgt : (⟨S64x8732, .i32⟩ : BufTy).Contents (Elt F) → (⟨S64x8732, .i32⟩ : BufTy).Contents (Elt F) → (⟨S64x8732, .i1⟩ : BufTy).Contents (Elt F)),
    unary main_v5 main_v6 ((extui 32 · natLt_1_32) : (⟨S64x8732, .i1⟩ : BufTy).Contents (Elt F) → (⟨S64x8732, .i32⟩ : BufTy).Contents (Elt F)),
    nullary main_c_0 (constantI S_ 32 0#32),
    binary main_v6 main_c_0 main_v7 ((fun x v => Host.reduce IntOp.addi x v reducesTo_S64x8732_S64_d1 h_S_) : (⟨S64x8732, .i32⟩ : BufTy).Contents (Elt F) → (⟨S_, .i32⟩ : BufTy).Contents (Elt F) → (⟨S64, .i32⟩ : BufTy).Contents (Elt F)),
    unary main_v7 main_v8 (broadcastInDim S64x1 ![0] bcast_S64_S64x1_0 : (⟨S64, .i32⟩ : BufTy).Contents (Elt F) → (⟨S64x1, .i32⟩ : BufTy).Contents (Elt F)),
    nullary main_c_1 (constantI S_ 32 3#32),
    unary main_c_1 main_v9 (broadcastInDim S64x1 ![] bcast_S_S64x1 : (⟨S_, .i32⟩ : BufTy).Contents (Elt F) → (⟨S64x1, .i32⟩ : BufTy).Contents (Elt F)),
    binary main_v8 main_v9 main_v10 (muli : (⟨S64x1, .i32⟩ : BufTy).Contents (Elt F) → (⟨S64x1, .i32⟩ : BufTy).Contents (Elt F) → (⟨S64x1, .i32⟩ : BufTy).Contents (Elt F)),
    nullary main_cst (constant S_ .f32 0xFF800000#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S64x8732, .f32⟩) main_call1_v1) (broadcastInDim S64x8732 ![] bcast_S_S64x8732),
    TRef.ternary (TRef.of (T := ⟨S64x8732, .i1⟩) main_v5) (TRef.of (T := ⟨S64x8732, .f32⟩) main_call1_v1) (TRef.of (T := ⟨S64x8732, .f32⟩) main_v3) (TRef.of (T := ⟨S64x8732, .f32⟩) main_v11) select,
    unary main_v11 main_v12 (Host.negf : (⟨S64x8732, .f32⟩ : BufTy).Contents (Elt F) → (⟨S64x8732, .f32⟩ : BufTy).Contents (Elt F)),
    TRef.nullary (TRef.of (T := ⟨S64x8732, .i32⟩) main_call2_v0) (iotaInDim S64x8732 32 1),
    TRef.binary (TRef.of (T := ⟨S64x8732, .f32⟩) main_v12) (TRef.of (T := ⟨S64x8732, .i32⟩) main_call2_v0) (TRef.of (T := ⟨S64x8732, .f32⟩) main_call2_v1_0) (fun x y => (Host.sort2 S64x8732 1 comparator_f32_i32_d1 x y).1),
    TRef.binary (TRef.of (T := ⟨S64x8732, .f32⟩) main_v12) (TRef.of (T := ⟨S64x8732, .i32⟩) main_call2_v0) (TRef.of (T := ⟨S64x8732, .i32⟩) main_v13) (fun x y => (Host.sort2 S64x8732 1 comparator_f32_i32_d1 x y).2),
    TRef.nullary (TRef.of (T := ⟨S64x8732, .i32⟩) main_call3_v0) (iotaInDim S64x8732 32 1),
    TRef.binary (TRef.of (T := ⟨S64x8732, .i32⟩) main_v13) (TRef.of (T := ⟨S64x8732, .i32⟩) main_call3_v0) (TRef.of (T := ⟨S64x8732, .i32⟩) main_call3_v1_0) (fun x y => (Host.sort2 S64x8732 1 comparator_i32_i32_d1 x y).1),
    TRef.binary (TRef.of (T := ⟨S64x8732, .i32⟩) main_v13) (TRef.of (T := ⟨S64x8732, .i32⟩) main_call3_v0) (TRef.of (T := ⟨S64x8732, .i32⟩) main_v14) (fun x y => (Host.sort2 S64x8732 1 comparator_i32_i32_d1 x y).2),
    unary main_v10 main_v15 (broadcastInDim S64x8732 ![0, 1] bcast_S64x1_S64x8732_0_1 : (⟨S64x1, .i32⟩ : BufTy).Contents (Elt F) → (⟨S64x8732, .i32⟩ : BufTy).Contents (Elt F)),
    binary main_v14 main_v15 main_v16 (cmpi .slt : (⟨S64x8732, .i32⟩ : BufTy).Contents (Elt F) → (⟨S64x8732, .i32⟩ : BufTy).Contents (Elt F) → (⟨S64x8732, .i1⟩ : BufTy).Contents (Elt F)),
    binary main_v5 main_v16 main_v17 (ori : (⟨S64x8732, .i1⟩ : BufTy).Contents (Elt F) → (⟨S64x8732, .i1⟩ : BufTy).Contents (Elt F) → (⟨S64x8732, .i1⟩ : BufTy).Contents (Elt F)),
    unary main_arg2 main_v18 (broadcastInDim S64x8732x1 ![0, 1] bcast_S64x8732_S64x8732x1_0_1 : (⟨S64x8732, .i32⟩ : BufTy).Contents (Elt F) → (⟨S64x8732x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S64x8732x1, .i32⟩) main_call4_v0) (broadcastInDim S64x8732x1 ![] bcast_S_S64x8732x1),
    TRef.binary (TRef.of (T := ⟨S64x8732x1, .i32⟩) main_v18) (TRef.of (T := ⟨S64x8732x1, .i32⟩) main_call4_v0) (TRef.of (T := ⟨S64x8732x1, .i1⟩) main_call4_v1) (cmpi .slt),
    TRef.nullary (TRef.of (T := ⟨S_, .i32⟩) main_call4_c_0) (constantI S_ 32 21#32),
    TRef.unary (TRef.of (T := ⟨S_, .i32⟩) main_call4_c_0) (TRef.of (T := ⟨S64x8732x1, .i32⟩) main_call4_v2) (broadcastInDim S64x8732x1 ![] bcast_S_S64x8732x1),
    TRef.binary (TRef.of (T := ⟨S64x8732x1, .i32⟩) main_v18) (TRef.of (T := ⟨S64x8732x1, .i32⟩) main_call4_v2) (TRef.of (T := ⟨S64x8732x1, .i32⟩) main_call4_v3) addi,
    TRef.ternary (TRef.of (T := ⟨S64x8732x1, .i1⟩) main_call4_v1) (TRef.of (T := ⟨S64x8732x1, .i32⟩) main_call4_v3) (TRef.of (T := ⟨S64x8732x1, .i32⟩) main_v18) (TRef.of (T := ⟨S64x8732x1, .i32⟩) main_call4_v4) select,
    TRef.reshape (TRef.of (T := ⟨S64x8732x1, .i32⟩) main_call4_v4) (TRef.of (T := ⟨S64x8732x1x1, .i32⟩) main_call4_v5) (rfl : (.i32 : EltTy) = .i32) shapeCasts_S64x8732x1_S64x8732x1x1,
    TRef.nullary (TRef.of (T := ⟨S1, .i32⟩) main_call4_c_1) (constantI S1 32 20#32),
    TRef.nullary (TRef.of (T := ⟨S_, .i32⟩) main_call4_c_2) (constantI S_ 32 0#32),
    TRef.unary (TRef.of (T := ⟨S_, .i32⟩) main_call4_c_2) (TRef.of (T := ⟨S64x8732x1x1, .i32⟩) main_call4_v6) (broadcastInDim S64x8732x1x1 ![] bcast_S_S64x8732x1x1),
    TRef.binary (TRef.of (T := ⟨S64x8732x1x1, .i32⟩) main_call4_v5) (TRef.of (T := ⟨S64x8732x1x1, .i32⟩) main_call4_v6) (TRef.of (T := ⟨S64x8732x1x1, .i1⟩) main_call4_v7) (cmpi .sge),
    TRef.unary (TRef.of (T := ⟨S1, .i32⟩) main_call4_c_1) (TRef.of (T := ⟨S1x1x1x1, .i32⟩) main_call4_v8) (broadcastInDim S1x1x1x1 ![3] bcast_S1_S1x1x1x1_3),
    TRef.unary (TRef.of (T := ⟨S1x1x1x1, .i32⟩) main_call4_v8) (TRef.of (T := ⟨S64x8732x1x1, .i32⟩) main_call4_v9) (broadcastInDim S64x8732x1x1 ![0, 1, 2, 3] bcast_S1x1x1x1_S64x8732x1x1_0_1_2_3),
    TRef.binary (TRef.of (T := ⟨S64x8732x1x1, .i32⟩) main_call4_v5) (TRef.of (T := ⟨S64x8732x1x1, .i32⟩) main_call4_v9) (TRef.of (T := ⟨S64x8732x1x1, .i1⟩) main_call4_v10) (cmpi .sle),
    TRef.binary (TRef.of (T := ⟨S64x8732x1x1, .i1⟩) main_call4_v7) (TRef.of (T := ⟨S64x8732x1x1, .i1⟩) main_call4_v10) (TRef.of (T := ⟨S64x8732x1x1, .i1⟩) main_call4_v11) andi,
    TRef.nullary (TRef.of (T := ⟨S_, .i1⟩) main_call4_c_3) (constantI S_ 1 1#1),
    TRef.binary (TRef.of (T := ⟨S64x8732x1x1, .i1⟩) main_call4_v11) (TRef.of (T := ⟨S_, .i1⟩) main_call4_c_3) (TRef.of (T := ⟨S64x8732x1, .i1⟩) main_call4_v12) (fun x v => Host.reduce IntOp.andi x v reducesTo_S64x8732x1x1_S64x8732x1_d3 h_S_),
    TRef.binary (TRef.of (T := ⟨S64x8732x21, .f32⟩) main_v0) (TRef.of (T := ⟨S64x8732x1x1, .i32⟩) main_call4_v5) (TRef.of (T := ⟨S64x8732x1, .f32⟩) main_call4_v13) (fun x i => Host.gather gather_S64x8732x21_S64x8732x1x1_S64x8732x1_n_2_01_01_2_3_111 x i),
    TRef.nullary (TRef.of (T := ⟨S_, .f32⟩) main_call4_cst) (constant S_ .f32 0x7FC00000#32),
    TRef.unary (TRef.of (T := ⟨S_, .f32⟩) main_call4_cst) (TRef.of (T := ⟨S64x8732x1, .f32⟩) main_call4_v14) (broadcastInDim S64x8732x1 ![] bcast_S_S64x8732x1),
    TRef.ternary (TRef.of (T := ⟨S64x8732x1, .i1⟩) main_call4_v12) (TRef.of (T := ⟨S64x8732x1, .f32⟩) main_call4_v13) (TRef.of (T := ⟨S64x8732x1, .f32⟩) main_call4_v14) (TRef.of (T := ⟨S64x8732x1, .f32⟩) main_v19) select,
    reshape main_v19 main_v20 (rfl : (.f32 : EltTy) = .f32) shapeCasts_S64x8732x1_S64x8732,
    unary main_v20 main_v21 (Host.negf : (⟨S64x8732, .f32⟩ : BufTy).Contents (Elt F) → (⟨S64x8732, .f32⟩ : BufTy).Contents (Elt F)),
    nullary main_cst_2 (constant S_ .f32 0x00000000#32),
    TRef.unary (TRef.of (T := ⟨S_, .f32⟩) main_cst_2) (TRef.of (T := ⟨S_, .f32⟩) main_call5_v0) id,
    TRef.unary (TRef.of (T := ⟨S_, .f32⟩) main_call5_v0) (TRef.of (T := ⟨S64x8732, .f32⟩) main_call5_v1) (broadcastInDim S64x8732 ![] bcast_S_S64x8732),
    TRef.ternary (TRef.of (T := ⟨S64x8732, .i1⟩) main_v17) (TRef.of (T := ⟨S64x8732, .f32⟩) main_v21) (TRef.of (T := ⟨S64x8732, .f32⟩) main_call5_v1) (TRef.of (T := ⟨S64x8732, .f32⟩) main_v22) select,
    nullary main_cst_3 (constant S_ .f32 0x00000000#32),
    binary main_v22 main_cst_3 main_v23 ((fun x v => Host.reduceAdd x v reducesTo_S64x8732_S_d0_1 h_S_) : (⟨S64x8732, .f32⟩ : BufTy).Contents (Elt F) → (⟨S_, .f32⟩ : BufTy).Contents (Elt F) → (⟨S_, .f32⟩ : BufTy).Contents (Elt F)),
    binary main_arg1 main_arg3 main_v24 (subf : (⟨S64x8732x4, .f32⟩ : BufTy).Contents (Elt F) → (⟨S64x8732x4, .f32⟩ : BufTy).Contents (Elt F) → (⟨S64x8732x4, .f32⟩ : BufTy).Contents (Elt F)),
    unary main_v24 main_v25 (Host.absf : (⟨S64x8732x4, .f32⟩ : BufTy).Contents (Elt F) → (⟨S64x8732x4, .f32⟩ : BufTy).Contents (Elt F)),
    nullary main_cst_4 (constant S_ .f32 0x3F800000#32),
    unary main_cst_4 main_v26 (broadcastInDim S64x8732x4 ![] bcast_S_S64x8732x4 : (⟨S_, .f32⟩ : BufTy).Contents (Elt F) → (⟨S64x8732x4, .f32⟩ : BufTy).Contents (Elt F)),
    binary main_v25 main_v26 main_v27 (cmpf .olt : (⟨S64x8732x4, .f32⟩ : BufTy).Contents (Elt F) → (⟨S64x8732x4, .f32⟩ : BufTy).Contents (Elt F) → (⟨S64x8732x4, .i1⟩ : BufTy).Contents (Elt F)),
    nullary main_cst_5 (constant S_ .f32 0x3F000000#32),
    unary main_cst_5 main_v28 (broadcastInDim S64x8732x4 ![] bcast_S_S64x8732x4 : (⟨S_, .f32⟩ : BufTy).Contents (Elt F) → (⟨S64x8732x4, .f32⟩ : BufTy).Contents (Elt F)),
    binary main_v28 main_v24 main_v29 (mulf : (⟨S64x8732x4, .f32⟩ : BufTy).Contents (Elt F) → (⟨S64x8732x4, .f32⟩ : BufTy).Contents (Elt F) → (⟨S64x8732x4, .f32⟩ : BufTy).Contents (Elt F)),
    binary main_v29 main_v24 main_v30 (mulf : (⟨S64x8732x4, .f32⟩ : BufTy).Contents (Elt F) → (⟨S64x8732x4, .f32⟩ : BufTy).Contents (Elt F) → (⟨S64x8732x4, .f32⟩ : BufTy).Contents (Elt F)),
    nullary main_cst_6 (constant S_ .f32 0x3F000000#32),
    unary main_cst_6 main_v31 (broadcastInDim S64x8732x4 ![] bcast_S_S64x8732x4 : (⟨S_, .f32⟩ : BufTy).Contents (Elt F) → (⟨S64x8732x4, .f32⟩ : BufTy).Contents (Elt F)),
    binary main_v25 main_v31 main_v32 (subf : (⟨S64x8732x4, .f32⟩ : BufTy).Contents (Elt F) → (⟨S64x8732x4, .f32⟩ : BufTy).Contents (Elt F) → (⟨S64x8732x4, .f32⟩ : BufTy).Contents (Elt F)),
    TRef.ternary (TRef.of (T := ⟨S64x8732x4, .i1⟩) main_v27) (TRef.of (T := ⟨S64x8732x4, .f32⟩) main_v30) (TRef.of (T := ⟨S64x8732x4, .f32⟩) main_v32) (TRef.of (T := ⟨S64x8732x4, .f32⟩) main_v33) select,
    unary main_v5 main_v34 (broadcastInDim S64x8732x1 ![0, 1] bcast_S64x8732_S64x8732x1_0_1 : (⟨S64x8732, .i1⟩ : BufTy).Contents (Elt F) → (⟨S64x8732x1, .i1⟩ : BufTy).Contents (Elt F)),
    nullary main_cst_7 (constant S_ .f32 0x00000000#32),
    TRef.unary (TRef.of (T := ⟨S_, .f32⟩) main_cst_7) (TRef.of (T := ⟨S_, .f32⟩) main_call7_v0) id,
    TRef.unary (TRef.of (T := ⟨S64x8732x1, .i1⟩) main_v34) (TRef.of (T := ⟨S64x8732x4, .i1⟩) main_call7_v1) (broadcastInDim S64x8732x4 ![0, 1, 2] bcast_S64x8732x1_S64x8732x4_0_1_2),
    TRef.unary (TRef.of (T := ⟨S_, .f32⟩) main_call7_v0) (TRef.of (T := ⟨S64x8732x4, .f32⟩) main_call7_v2) (broadcastInDim S64x8732x4 ![] bcast_S_S64x8732x4),
    TRef.ternary (TRef.of (T := ⟨S64x8732x4, .i1⟩) main_call7_v1) (TRef.of (T := ⟨S64x8732x4, .f32⟩) main_v33) (TRef.of (T := ⟨S64x8732x4, .f32⟩) main_call7_v2) (TRef.of (T := ⟨S64x8732x4, .f32⟩) main_v35) select,
    nullary main_cst_8 (constant S_ .f32 0x00000000#32),
    binary main_v35 main_cst_8 main_v36 ((fun x v => Host.reduceAdd x v reducesTo_S64x8732x4_S_d0_1_2 h_S_) : (⟨S64x8732x4, .f32⟩ : BufTy).Contents (Elt F) → (⟨S_, .f32⟩ : BufTy).Contents (Elt F) → (⟨S_, .f32⟩ : BufTy).Contents (Elt F)),
    unary main_v5 main_v37 ((extui 32 · natLt_1_32) : (⟨S64x8732, .i1⟩ : BufTy).Contents (Elt F) → (⟨S64x8732, .i32⟩ : BufTy).Contents (Elt F)),
    nullary main_c_9 (constantI S_ 32 0#32),
    binary main_v37 main_c_9 main_v38 ((fun x v => Host.reduce IntOp.addi x v reducesTo_S64x8732_S_d0_1 h_S_) : (⟨S64x8732, .i32⟩ : BufTy).Contents (Elt F) → (⟨S_, .i32⟩ : BufTy).Contents (Elt F) → (⟨S_, .i32⟩ : BufTy).Contents (Elt F)),
    unary main_v38 main_v39 (sitofp .f32 : (⟨S_, .i32⟩ : BufTy).Contents (Elt F) → (⟨S_, .f32⟩ : BufTy).Contents (Elt F)),
    binary main_v36 main_v39 main_v40 (Host.divf : (⟨S_, .f32⟩ : BufTy).Contents (Elt F) → (⟨S_, .f32⟩ : BufTy).Contents (Elt F) → (⟨S_, .f32⟩ : BufTy).Contents (Elt F)),
    binary main_v23 main_v39 main_v41 (Host.divf : (⟨S_, .f32⟩ : BufTy).Contents (Elt F) → (⟨S_, .f32⟩ : BufTy).Contents (Elt F) → (⟨S_, .f32⟩ : BufTy).Contents (Elt F)) ]

/-- A program that is the straight line `l`, followed by one that is `l'`, is the straight line `l ++ l'`. -/
theorem IsSeq.then {p k : Prog (TpuEff nD τ sig (Elt F) (Pipeline.Sig Λ₀ (Fin 0) fun p => (pcfgs (F := F) p).Adm) .tc) PUnit}
    {l l' : List (HloOp τ sig (Elt F))} (h : IsSeq p l) (h' : IsSeq k l') : IsSeq (p >>= fun _ => k) (l ++ l') := by
  unfold IsSeq at *; rw [seq_append, h, h']

/-- `fn_log_softmax`'s operations, over its arguments and one call's buffers. -/
abbrev fn_log_softmax_ops (arg0 : StableHlo.TRef sig ⟨S64x8732x21, .f32⟩) (φ : fn_log_softmax.Bufs) : List (HloOp τ sig (Elt F)) :=
  [ StableHlo.TRef.nullary φ.cst (constant S_ .f32 0xFF800000#32),
    StableHlo.TRef.binary arg0 φ.cst φ.v0 (fun x v => Host.reduce FloatOps.maximumf x v reducesTo_S64x8732x21_S64x8732_d2 h_S_),
    StableHlo.TRef.nullary φ.cst_0 (constant S_ .f32 0xFF800000#32),
    StableHlo.TRef.unary φ.cst_0 φ.v1 (broadcastInDim S64x8732 ![] bcast_S_S64x8732),
    StableHlo.TRef.binary φ.v1 φ.v0 φ.v2 maximumf,
    StableHlo.TRef.unary φ.v2 φ.v3 (broadcastInDim S64x8732x1 ![0, 1] bcast_S64x8732_S64x8732x1_0_1),
    StableHlo.TRef.unary φ.v3 φ.v4 (broadcastInDim S64x8732x21 ![0, 1, 2] bcast_S64x8732x1_S64x8732x21_0_1_2),
    StableHlo.TRef.binary arg0 φ.v4 φ.v5 subf,
    StableHlo.TRef.unary φ.v5 φ.v6 Host.exp,
    StableHlo.TRef.nullary φ.cst_1 (constant S_ .f32 0x00000000#32),
    StableHlo.TRef.binary φ.v6 φ.cst_1 φ.v7 (fun x v => Host.reduceAdd x v reducesTo_S64x8732x21_S64x8732_d2 h_S_),
    StableHlo.TRef.unary φ.v7 φ.v8 (broadcastInDim S64x8732x1 ![0, 1] bcast_S64x8732_S64x8732x1_0_1),
    StableHlo.TRef.unary φ.v8 φ.v9 Host.log,
    StableHlo.TRef.unary φ.v9 φ.v10 (broadcastInDim S64x8732x21 ![0, 1, 2] bcast_S64x8732x1_S64x8732x21_0_1_2),
    StableHlo.TRef.binary φ.v5 φ.v10 φ.v11 subf ]

theorem fn_log_softmax_isSeq (arg0 : StableHlo.TRef sig ⟨S64x8732x21, .f32⟩) (φ : fn_log_softmax.Bufs) : IsSeq (fn_log_softmax.body (F := F) arg0 φ) (fn_log_softmax_ops (F := F) arg0 φ) := by
  unfold fn_log_softmax.body
  repeat (first | exact IsSeq.nil | apply IsSeq.cons)

/-- `fn_where`'s operations, over its arguments and one call's buffers. -/
abbrev fn_where_ops (arg0 : StableHlo.TRef sig ⟨S64x8732, .i1⟩) (arg1 : StableHlo.TRef sig ⟨S_, .f32⟩) (arg2 : StableHlo.TRef sig ⟨S64x8732, .f32⟩) (φ : fn_where.Bufs) : List (HloOp τ sig (Elt F)) :=
  [ StableHlo.TRef.unary arg1 φ.v0 id,
    StableHlo.TRef.unary φ.v0 φ.v1 (broadcastInDim S64x8732 ![] bcast_S_S64x8732),
    StableHlo.TRef.ternary arg0 φ.v1 arg2 φ.v2 select ]

theorem fn_where_isSeq (arg0 : StableHlo.TRef sig ⟨S64x8732, .i1⟩) (arg1 : StableHlo.TRef sig ⟨S_, .f32⟩) (arg2 : StableHlo.TRef sig ⟨S64x8732, .f32⟩) (φ : fn_where.Bufs) : IsSeq (fn_where.body (F := F) arg0 arg1 arg2 φ) (fn_where_ops (F := F) arg0 arg1 arg2 φ) := by
  unfold fn_where.body
  repeat (first | exact IsSeq.nil | apply IsSeq.cons)

/-- `fn_argsort`'s operations, over its arguments and one call's buffers. -/
abbrev fn_argsort_ops (arg0 : StableHlo.TRef sig ⟨S64x8732, .f32⟩) (φ : fn_argsort.Bufs) : List (HloOp τ sig (Elt F)) :=
  [ StableHlo.TRef.nullary φ.v0 (iotaInDim S64x8732 32 1),
    StableHlo.TRef.binary arg0 φ.v0 φ.v1_0 (fun x y => (Host.sort2 S64x8732 1 comparator_f32_i32_d1 x y).1),
    StableHlo.TRef.binary arg0 φ.v0 φ.v1_1 (fun x y => (Host.sort2 S64x8732 1 comparator_f32_i32_d1 x y).2) ]

theorem fn_argsort_isSeq (arg0 : StableHlo.TRef sig ⟨S64x8732, .f32⟩) (φ : fn_argsort.Bufs) : IsSeq (fn_argsort.body (F := F) arg0 φ) (fn_argsort_ops (F := F) arg0 φ) := by
  unfold fn_argsort.body
  repeat (first | exact IsSeq.nil | apply IsSeq.cons)

/-- `fn_argsort_0`'s operations, over its arguments and one call's buffers. -/
abbrev fn_argsort_0_ops (arg0 : StableHlo.TRef sig ⟨S64x8732, .i32⟩) (φ : fn_argsort_0.Bufs) : List (HloOp τ sig (Elt F)) :=
  [ StableHlo.TRef.nullary φ.v0 (iotaInDim S64x8732 32 1),
    StableHlo.TRef.binary arg0 φ.v0 φ.v1_0 (fun x y => (Host.sort2 S64x8732 1 comparator_i32_i32_d1 x y).1),
    StableHlo.TRef.binary arg0 φ.v0 φ.v1_1 (fun x y => (Host.sort2 S64x8732 1 comparator_i32_i32_d1 x y).2) ]

theorem fn_argsort_0_isSeq (arg0 : StableHlo.TRef sig ⟨S64x8732, .i32⟩) (φ : fn_argsort_0.Bufs) : IsSeq (fn_argsort_0.body (F := F) arg0 φ) (fn_argsort_0_ops (F := F) arg0 φ) := by
  unfold fn_argsort_0.body
  repeat (first | exact IsSeq.nil | apply IsSeq.cons)

/-- `fn_take_along_axis`'s operations, over its arguments and one call's buffers. -/
abbrev fn_take_along_axis_ops (arg0 : StableHlo.TRef sig ⟨S64x8732x21, .f32⟩) (arg1 : StableHlo.TRef sig ⟨S64x8732x1, .i32⟩) (φ : fn_take_along_axis.Bufs) : List (HloOp τ sig (Elt F)) :=
  [ StableHlo.TRef.nullary φ.c (constantI S_ 32 0#32),
    StableHlo.TRef.unary φ.c φ.v0 (broadcastInDim S64x8732x1 ![] bcast_S_S64x8732x1),
    StableHlo.TRef.binary arg1 φ.v0 φ.v1 (cmpi .slt),
    StableHlo.TRef.nullary φ.c_0 (constantI S_ 32 21#32),
    StableHlo.TRef.unary φ.c_0 φ.v2 (broadcastInDim S64x8732x1 ![] bcast_S_S64x8732x1),
    StableHlo.TRef.binary arg1 φ.v2 φ.v3 addi,
    StableHlo.TRef.ternary φ.v1 φ.v3 arg1 φ.v4 select,
    StableHlo.TRef.reshape φ.v4 φ.v5 (rfl : (.i32 : EltTy) = .i32) shapeCasts_S64x8732x1_S64x8732x1x1,
    StableHlo.TRef.nullary φ.c_1 (constantI S1 32 20#32),
    StableHlo.TRef.nullary φ.c_2 (constantI S_ 32 0#32),
    StableHlo.TRef.unary φ.c_2 φ.v6 (broadcastInDim S64x8732x1x1 ![] bcast_S_S64x8732x1x1),
    StableHlo.TRef.binary φ.v5 φ.v6 φ.v7 (cmpi .sge),
    StableHlo.TRef.unary φ.c_1 φ.v8 (broadcastInDim S1x1x1x1 ![3] bcast_S1_S1x1x1x1_3),
    StableHlo.TRef.unary φ.v8 φ.v9 (broadcastInDim S64x8732x1x1 ![0, 1, 2, 3] bcast_S1x1x1x1_S64x8732x1x1_0_1_2_3),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S64x8732x1x1_S64x8732x1_d3 h_S_),
    StableHlo.TRef.binary arg0 φ.v5 φ.v13 (fun x i => Host.gather gather_S64x8732x21_S64x8732x1x1_S64x8732x1_n_2_01_01_2_3_111 x i),
    StableHlo.TRef.nullary φ.cst (constant S_ .f32 0x7FC00000#32),
    StableHlo.TRef.unary φ.cst φ.v14 (broadcastInDim S64x8732x1 ![] bcast_S_S64x8732x1),
    StableHlo.TRef.ternary φ.v12 φ.v13 φ.v14 φ.v15 select ]

theorem fn_take_along_axis_isSeq (arg0 : StableHlo.TRef sig ⟨S64x8732x21, .f32⟩) (arg1 : StableHlo.TRef sig ⟨S64x8732x1, .i32⟩) (φ : fn_take_along_axis.Bufs) : IsSeq (fn_take_along_axis.body (F := F) arg0 arg1 φ) (fn_take_along_axis_ops (F := F) arg0 arg1 φ) := by
  unfold fn_take_along_axis.body
  repeat (first | exact IsSeq.nil | apply IsSeq.cons)

/-- `fn_where_1`'s operations, over its arguments and one call's buffers. -/
abbrev fn_where_1_ops (arg0 : StableHlo.TRef sig ⟨S64x8732, .i1⟩) (arg1 : StableHlo.TRef sig ⟨S64x8732, .f32⟩) (arg2 : StableHlo.TRef sig ⟨S_, .f32⟩) (φ : fn_where_1.Bufs) : List (HloOp τ sig (Elt F)) :=
  [ StableHlo.TRef.unary arg2 φ.v0 id,
    StableHlo.TRef.unary φ.v0 φ.v1 (broadcastInDim S64x8732 ![] bcast_S_S64x8732),
    StableHlo.TRef.ternary arg0 arg1 φ.v1 φ.v2 select ]

theorem fn_where_1_isSeq (arg0 : StableHlo.TRef sig ⟨S64x8732, .i1⟩) (arg1 : StableHlo.TRef sig ⟨S64x8732, .f32⟩) (arg2 : StableHlo.TRef sig ⟨S_, .f32⟩) (φ : fn_where_1.Bufs) : IsSeq (fn_where_1.body (F := F) arg0 arg1 arg2 φ) (fn_where_1_ops (F := F) arg0 arg1 arg2 φ) := by
  unfold fn_where_1.body
  repeat (first | exact IsSeq.nil | apply IsSeq.cons)

/-- `fn_where_2`'s operations, over its arguments and one call's buffers. -/
abbrev fn_where_2_ops (arg0 : StableHlo.TRef sig ⟨S64x8732x4, .i1⟩) (arg1 : StableHlo.TRef sig ⟨S64x8732x4, .f32⟩) (arg2 : StableHlo.TRef sig ⟨S64x8732x4, .f32⟩) (φ : fn_where_2.Bufs) : List (HloOp τ sig (Elt F)) :=
  [ StableHlo.TRef.ternary arg0 arg1 arg2 φ.v0 select ]

theorem fn_where_2_isSeq (arg0 : StableHlo.TRef sig ⟨S64x8732x4, .i1⟩) (arg1 : StableHlo.TRef sig ⟨S64x8732x4, .f32⟩) (arg2 : StableHlo.TRef sig ⟨S64x8732x4, .f32⟩) (φ : fn_where_2.Bufs) : IsSeq (fn_where_2.body (F := F) arg0 arg1 arg2 φ) (fn_where_2_ops (F := F) arg0 arg1 arg2 φ) := by
  unfold fn_where_2.body
  repeat (first | exact IsSeq.nil | apply IsSeq.cons)

/-- `fn_where_3`'s operations, over its arguments and one call's buffers. -/
abbrev fn_where_3_ops (arg0 : StableHlo.TRef sig ⟨S64x8732x1, .i1⟩) (arg1 : StableHlo.TRef sig ⟨S64x8732x4, .f32⟩) (arg2 : StableHlo.TRef sig ⟨S_, .f32⟩) (φ : fn_where_3.Bufs) : List (HloOp τ sig (Elt F)) :=
  [ StableHlo.TRef.unary arg2 φ.v0 id,
    StableHlo.TRef.unary arg0 φ.v1 (broadcastInDim S64x8732x4 ![0, 1, 2] bcast_S64x8732x1_S64x8732x4_0_1_2),
    StableHlo.TRef.unary φ.v0 φ.v2 (broadcastInDim S64x8732x4 ![] bcast_S_S64x8732x4),
    StableHlo.TRef.ternary φ.v1 arg1 φ.v2 φ.v3 select ]

theorem fn_where_3_isSeq (arg0 : StableHlo.TRef sig ⟨S64x8732x1, .i1⟩) (arg1 : StableHlo.TRef sig ⟨S64x8732x4, .f32⟩) (arg2 : StableHlo.TRef sig ⟨S_, .f32⟩) (φ : fn_where_3.Bufs) : IsSeq (fn_where_3.body (F := F) arg0 arg1 arg2 φ) (fn_where_3_ops (F := F) arg0 arg1 arg2 φ) := by
  unfold fn_where_3.body
  repeat (first | exact IsSeq.nil | apply IsSeq.cons)

/-- A program that is a straight line `l` equal to `ops` is `ops` run in order. -/
theorem eq_seq_ops {p : Prog (TpuEff nD τ sig (Elt F) (Pipeline.Sig Λ₀ (Fin 0) fun p => (pcfgs (F := F) p).Adm) .tc) PUnit}
    {l ops : List (HloOp τ sig (Elt F))} (h : IsSeq p l) (e : l = ops) : p = seq ops := e ▸ h

set_option maxRecDepth 8192 in
set_option maxHeartbeats 4000000 in
/-- `@main` is its list of operations run in order, read off call by call. -/
theorem main_eq (c : Dev nD) : main (F := F) c = seq ops := by
  unfold main
  apply eq_seq_ops
  · repeat (first | exact IsSeq.nil | apply IsSeq.cons | apply IsSeq.then (fn_log_softmax_isSeq (F := F) _ _) | apply IsSeq.then (fn_where_isSeq (F := F) _ _ _ _) | apply IsSeq.then (fn_argsort_isSeq (F := F) _ _) | apply IsSeq.then (fn_argsort_0_isSeq (F := F) _ _) | apply IsSeq.then (fn_take_along_axis_isSeq (F := F) _ _ _) | apply IsSeq.then (fn_where_1_isSeq (F := F) _ _ _ _) | apply IsSeq.then (fn_where_2_isSeq (F := F) _ _ _ _) | apply IsSeq.then (fn_where_3_isSeq (F := F) _ _ _ _))
  · rfl

end Cert.ReferenceIdeal.Hand

end
-- ==== Proof.RefRun.lean ====
module

public import proofs.«01_k».proof.Proof.RefOps
public import Idealize.ShloMosaic.Lib.StableHlo.Run

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., unary_bufs_sub .., nullary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub .., unary_bufs_sub .., ternary_bufs_sub .., unary_bufs_sub .., nullary_bufs_sub .., binary_bufs_sub .., binary_bufs_sub .., nullary_bufs_sub .., binary_bufs_sub .., binary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., unary_bufs_sub .., ternary_bufs_sub .., nullary_bufs_sub .., binary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., nullary_bufs_sub .., unary_bufs_sub .., unary_bufs_sub .., unary_bufs_sub .., ternary_bufs_sub .., nullary_bufs_sub .., binary_bufs_sub .., unary_bufs_sub .., nullary_bufs_sub .., binary_bufs_sub .., unary_bufs_sub .., binary_bufs_sub .., binary_bufs_sub ..⟩

set_option maxRecDepth 8192 in
/-- `main_v41`'s composed term of the arguments (named: it is long). -/
def res_main_v41 (m : (ℓ : Loc nD τ sig) → Buf (Elt F) ℓ) (c : Dev nD) : Buf (Elt F) ((c.tc : Thread nD τ).loc main_v41) :=
  Host.divf (Host.reduceAdd (select (ori (cmpi .sgt (m ((c.tc : Thread nD τ).loc main_arg2)) (broadcastInDim S64x8732 ![] bcast_S_S64x8732 (constantI S_ 32 0#32))) (cmpi .slt ((Host.sort2 S64x8732 1 comparator_i32_i32_d1 ((Host.sort2 S64x8732 1 comparator_f32_i32_d1 (Host.negf (select (cmpi .sgt (m ((c.tc : Thread nD τ).loc main_arg2)) (broadcastInDim S64x8732 ![] bcast_S_S64x8732 (constantI S_ 32 0#32))) (broadcastInDim S64x8732 ![] bcast_S_S64x8732 (id (constant S_ .f32 0xFF800000#32))) (Host.negf (shapeCast _ (extractStridedSlice S64x8732x1 ![0, 0, 0] (subf (subf (m ((c.tc : Thread nD τ).loc main_arg0)) (broadcastInDim S64x8732x21 ![0, 1, 2] bcast_S64x8732x1_S64x8732x21_0_1_2 (broadcastInDim S64x8732x1 ![0, 1] bcast_S64x8732_S64x8732x1_0_1 (maximumf (broadcastInDim S64x8732 ![] bcast_S_S64x8732 (constant S_ .f32 0xFF800000#32)) (Host.reduce FloatOps.maximumf (m ((c.tc : Thread nD τ).loc main_arg0)) (constant S_ .f32 0xFF800000#32) reducesTo_S64x8732x21_S64x8732_d2 h_S_))))) (broadcastInDim S64x8732x21 ![0, 1, 2] bcast_S64x8732x1_S64x8732x21_0_1_2 (Host.log (broadcastInDim S64x8732x1 ![0, 1] bcast_S64x8732_S64x8732x1_0_1 (Host.reduceAdd (Host.exp (subf (m ((c.tc : Thread nD τ).loc main_arg0)) (broadcastInDim S64x8732x21 ![0, 1, 2] bcast_S64x8732x1_S64x8732x21_0_1_2 (broadcastInDim S64x8732x1 ![0, 1] bcast_S64x8732_S64x8732x1_0_1 (maximumf (broadcastInDim S64x8732 ![] bcast_S_S64x8732 (constant S_ .f32 0xFF800000#32)) (Host.reduce FloatOps.maximumf (m ((c.tc : Thread nD τ).loc main_arg0)) (constant S_ .f32 0xFF800000#32) reducesTo_S64x8732x21_S64x8732_d2 h_S_)))))) (constant S_ .f32 0x00000000#32) reducesTo_S64x8732x21_S64x8732_d2 h_S_))))) slices_S64x8732x21_S64x8732x1_0_0_0) shapeCasts_S64x8732x1_S64x8732)))) (iotaInDim S64x8732 32 1)).2) (iotaInDim S64x8732 32 1)).2) (broadcastInDim S64x8732 ![0, 1] bcast_S64x1_S64x8732_0_1 (muli (broadcastInDim S64x1 ![0] bcast_S64_S64x1_0 (Host.reduce IntOp.addi (extui 32 (cmpi .sgt (m ((c.tc : Thread nD τ).loc main_arg2)) (broadcastInDim S64x8732 ![] bcast_S_S64x8732 (constantI S_ 32 0#32))) natLt_1_32) (constantI S_ 32 0#32) reducesTo_S64x8732_S64_d1 h_S_)) (broadcastInDim S64x1 ![] bcast_S_S64x1 (constantI S_ 32 3#32)))))) (Host.negf (shapeCast _ (select (Host.reduce IntOp.andi (andi (cmpi .sge (shapeCast _ (select (cmpi .slt (broadcastInDim S64x8732x1 ![0, 1] bcast_S64x8732_S64x8732x1_0_1 (m ((c.tc : Thread nD τ).loc main_arg2))) (broadcastInDim S64x8732x1 ![] bcast_S_S64x8732x1 (constantI S_ 32 0#32))) (addi (broadcastInDim S64x8732x1 ![0, 1] bcast_S64x8732_S64x8732x1_0_1 (m ((c.tc : Thread nD τ).loc main_arg2))) (broadcastInDim S64x8732x1 ![] bcast_S_S64x8732x1 (constantI S_ 32 21#32))) (broadcastInDim S64x8732x1 ![0, 1] bcast_S64x8732_S64x8732x1_0_1 (m ((c.tc : Thread nD τ).loc main_arg2)))) shapeCasts_S64x8732x1_S64x8732x1x1) (broadcastInDim S64x8732x1x1 ![] bcast_S_S64x8732x1x1 (constantI S_ 32 0#32))) (cmpi .sle (shapeCast _ (select (cmpi .slt (broadcastInDim S64x8732x1 ![0, 1] bcast_S64x8732_S64x8732x1_0_1 (m ((c.tc : Thread nD τ).loc main_arg2))) (broadcastInDim S64x8732x1 ![] bcast_S_S64x8732x1 (constantI S_ 32 0#32))) (addi (broadcastInDim S64x8732x1 ![0, 1] bcast_S64x8732_S64x8732x1_0_1 (m ((c.tc : Thread nD τ).loc main_arg2))) (broadcastInDim S64x8732x1 ![] bcast_S_S64x8732x1 (constantI S_ 32 21#32))) (broadcastInDim S64x8732x1 ![0, 1] bcast_S64x8732_S64x8732x1_0_1 (m ((c.tc : Thread nD τ).loc main_arg2)))) shapeCasts_S64x8732x1_S64x8732x1x1) (broadcastInDim S64x8732x1x1 ![0, 1, 2, 3] bcast_S1x1x1x1_S64x8732x1x1_0_1_2_3 (broadcastInDim S1x1x1x1 ![3] bcast_S1_S1x1x1x1_3 (constantI S1 32 20#32))))) (constantI S_ 1 1#1) reducesTo_S64x8732x1x1_S64x8732x1_d3 h_S_) (Host.gather gather_S64x8732x21_S64x8732x1x1_S64x8732x1_n_2_01_01_2_3_111 (subf (subf (m ((c.tc : Thread nD τ).loc main_arg0)) (broadcastInDim S64x8732x21 ![0, 1, 2] bcast_S64x8732x1_S64x8732x21_0_1_2 (broadcastInDim S64x8732x1 ![0, 1] bcast_S64x8732_S64x8732x1_0_1 (maximumf (broadcastInDim S64x8732 ![] bcast_S_S64x8732 (constant S_ .f32 0xFF800000#32)) (Host.reduce FloatOps.maximumf (m ((c.tc : Thread nD τ).loc main_arg0)) (constant S_ .f32 0xFF800000#32) reducesTo_S64x8732x21_S64x8732_d2 h_S_))))) (broadcastInDim S64x8732x21 ![0, 1, 2] bcast_S64x8732x1_S64x8732x21_0_1_2 (Host.log (broadcastInDim S64x8732x1 ![0, 1] bcast_S64x8732_S64x8732x1_0_1 (Host.reduceAdd (Host.exp (subf (m ((c.tc : Thread nD τ).loc main_arg0)) (broadcastInDim S64x8732x21 ![0, 1, 2] bcast_S64x8732x1_S64x8732x21_0_1_2 (broadcastInDim S64x8732x1 ![0, 1] bcast_S64x8732_S64x8732x1_0_1 (maximumf (broadcastInDim S64x8732 ![] bcast_S_S64x8732 (constant S_ .f32 0xFF800000#32)) (Host.reduce FloatOps.maximumf (m ((c.tc : Thread nD τ).loc main_arg0)) (constant S_ .f32 0xFF800000#32) reducesTo_S64x8732x21_S64x8732_d2 h_S_)))))) (constant S_ .f32 0x00000000#32) reducesTo_S64x8732x21_S64x8732_d2 h_S_))))) (shapeCast _ (select (cmpi .slt (broadcastInDim S64x8732x1 ![0, 1] bcast_S64x8732_S64x8732x1_0_1 (m ((c.tc : Thread nD τ).loc main_arg2))) (broadcastInDim S64x8732x1 ![] bcast_S_S64x8732x1 (constantI S_ 32 0#32))) (addi (broadcastInDim S64x8732x1 ![0, 1] bcast_S64x8732_S64x8732x1_0_1 (m ((c.tc : Thread nD τ).loc main_arg2))) (broadcastInDim S64x8732x1 ![] bcast_S_S64x8732x1 (constantI S_ 32 21#32))) (broadcastInDim S64x8732x1 ![0, 1] bcast_S64x8732_S64x8732x1_0_1 (m ((c.tc : Thread nD τ).loc main_arg2)))) shapeCasts_S64x8732x1_S64x8732x1x1)) (broadcastInDim S64x8732x1 ![] bcast_S_S64x8732x1 (constant S_ .f32 0x7FC00000#32))) shapeCasts_S64x8732x1_S64x8732)) (broadcastInDim S64x8732 ![] bcast_S_S64x8732 (id (constant S_ .f32 0x00000000#32)))) (constant S_ .f32 0x00000000#32) reducesTo_S64x8732_S_d0_1 h_S_) (sitofp .f32 (Host.reduce IntOp.addi (extui 32 (cmpi .sgt (m ((c.tc : Thread nD τ).loc main_arg2)) (broadcastInDim S64x8732 ![] bcast_S_S64x8732 (constantI S_ 32 0#32))) natLt_1_32) (constantI S_ 32 0#32) reducesTo_S64x8732_S_d0_1 h_S_))

/-- `res_main_v41` by its position among the values @main returns, 1 counting from 0: the name for hand proofs to cite, since
    a re-print renumbers `main_v41`. An abbreviation: it unfolds to the `res_main_v41` that `run` states. -/
abbrev res_out1 (m : (ℓ : Loc nD τ sig) → Buf (Elt F) ℓ) (c : Dev nD) : Buf (Elt F) ((c.tc : Thread nD τ).loc main_v41) := res_main_v41 m c

set_option maxRecDepth 8192 in
set_option maxHeartbeats 40000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = Host.divf (Host.reduceAdd (select (broadcastInDim S64x8732x4 ![0, 1, 2] bcast_S64x8732x1_S64x8732x4_0_1_2 (broadcastInDim S64x8732x1 ![0, 1] bcast_S64x8732_S64x8732x1_0_1 (cmpi .sgt (m ((c.tc : Thread nD τ).loc main_arg2)) (broadcastInDim S64x8732 ![] bcast_S_S64x8732 (constantI S_ 32 0#32))))) (select (cmpf .olt (Host.absf (subf (m ((c.tc : Thread nD τ).loc main_arg1)) (m ((c.tc : Thread nD τ).loc main_arg3)))) (broadcastInDim S64x8732x4 ![] bcast_S_S64x8732x4 (constant S_ .f32 0x3F800000#32))) (mulf (mulf (broadcastInDim S64x8732x4 ![] bcast_S_S64x8732x4 (constant S_ .f32 0x3F000000#32)) (subf (m ((c.tc : Thread nD τ).loc main_arg1)) (m ((c.tc : Thread nD τ).loc main_arg3)))) (subf (m ((c.tc : Thread nD τ).loc main_arg1)) (m ((c.tc : Thread nD τ).loc main_arg3)))) (subf (Host.absf (subf (m ((c.tc : Thread nD τ).loc main_arg1)) (m ((c.tc : Thread nD τ).loc main_arg3)))) (broadcastInDim S64x8732x4 ![] bcast_S_S64x8732x4 (constant S_ .f32 0x3F000000#32)))) (broadcastInDim S64x8732x4 ![] bcast_S_S64x8732x4 (id (constant S_ .f32 0x00000000#32)))) (constant S_ .f32 0x00000000#32) reducesTo_S64x8732x4_S_d0_1_2 h_S_) (sitofp .f32 (Host.reduce IntOp.addi (extui 32 (cmpi .sgt (m ((c.tc : Thread nD τ).loc main_arg2)) (broadcastInDim S64x8732 ![] bcast_S_S64x8732 (constantI S_ 32 0#32))) natLt_1_32) (constantI S_ 32 0#32) reducesTo_S64x8732_S_d0_1 h_S_))
      ∧ r.2.mem ((c.tc : Thread nD τ).loc main_v41) = res_main_v41 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v40).trans (by simp only [ops, TRef.binary, TRef.nullary, TRef.reshape, TRef.ternary, TRef.unary, TRef.toBuf, TRef.ofBuf, cast_eq]; after_results_simp <;> rfl),
      (h c main_v41).trans (by simp only [ops, TRef.binary, TRef.nullary, TRef.reshape, TRef.ternary, TRef.unary, TRef.toBuf, TRef.ofBuf, cast_eq]; after_results_simp <;> rfl <;> (unfold res_main_v41; rfl)),
      (h c main_arg0).trans (by simp only [ops, TRef.binary, TRef.nullary, TRef.reshape, TRef.ternary, TRef.unary, TRef.toBuf, TRef.ofBuf, cast_eq]; after_results_simp <;> rfl),
      (h c main_arg1).trans (by simp only [ops, TRef.binary, TRef.nullary, TRef.reshape, TRef.ternary, TRef.unary, TRef.toBuf, TRef.ofBuf, cast_eq]; after_results_simp <;> rfl),
      (h c main_arg2).trans (by simp only [ops, TRef.binary, TRef.nullary, TRef.reshape, TRef.ternary, TRef.unary, TRef.toBuf, TRef.ofBuf, cast_eq]; after_results_simp <;> rfl),
      (h c main_arg3).trans (by simp only [ops, TRef.binary, TRef.nullary, TRef.reshape, TRef.ternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Hand

end
-- ==== Proof.Math.Float.lean ====
/- What the non-negative single-precision patterns denote, in order, and how far apart two neighbours are. -/
module

public import Idealize.ShloMosaic.PureOps.Ideal.Laws

@[expose] public section

noncomputable section

namespace Cert.Math

open Idealize.ShloMosaic

/-- The real number the `n`-th non-negative pattern denotes, below the infinity. -/
def fval (n : ℕ) : ℝ :=
  if n / 2 ^ 23 = 0 then (n : ℝ) * (2 : ℝ) ^ (-149 : ℤ)
  else ((2 ^ 23 + n % 2 ^ 23 : ℕ) : ℝ) * (2 : ℝ) ^ ((n / 2 ^ 23 : ℕ) - 150 : ℤ)

/-- A pattern's extended real. -/
def pat (n : ℕ) : EReal := Ideal.ofBits .f32 (BitVec.ofNat 32 n)

theorem pat_inf : pat 0x7F800000 = ⊤ := by
  unfold pat; simp [Ideal.ofBits, Ideal.ieee]

theorem pat_eq (n : ℕ) (h : n < 0x7F800000) : pat n = (fval n : EReal) := by
  unfold pat Ideal.ofBits Ideal.ieee
  have e1 : ((BitVec.ofNat 32 n).extractLsb' (8 + 23) 1 == 1#1) = false := by
    have : (BitVec.ofNat 32 n).extractLsb' (8 + 23) 1 = 0#1 := by
      apply BitVec.eq_of_toNat_eq
      simp only [BitVec.extractLsb'_toNat, BitVec.toNat_ofNat, Nat.shiftRight_eq_div_pow]
      omega
    rw [this]; rfl
  have e2 : ((BitVec.ofNat 32 n).extractLsb' 23 8).toNat = n / 2 ^ 23 := by
    simp only [BitVec.extractLsb'_toNat, BitVec.toNat_ofNat, Nat.shiftRight_eq_div_pow]
    omega
  have e3 : ((BitVec.ofNat 32 n).extractLsb' 0 23).toNat = n % 2 ^ 23 := by
    simp only [BitVec.extractLsb'_toNat, BitVec.toNat_ofNat, Nat.shiftRight_eq_div_pow]
    omega
  simp only [e1, e2, e3]
  rw [if_neg (by omega : ¬ n / 2 ^ 23 = 2 ^ 8 - 1)]
  unfold fval
  have hf : ¬ (false = true) := Bool.false_ne_true
  rw [if_neg hf]
  by_cases h0 : n / 2 ^ 23 = 0
  · have hn : n % 2 ^ 23 = n := by omega
    rw [if_pos h0, if_pos h0, hn]
    congr 1
    rw [one_mul]
    norm_num
  · rw [if_neg h0, if_neg h0]
    congr 1
    rw [one_mul]
    congr 2
    push_cast
    norm_num
    ring

/-- The distance from a pattern's value to the next one's. -/
def gap (n : ℕ) : ℝ := (2 : ℝ) ^ ((max (n / 2 ^ 23) 1 : ℕ) - 150 : ℤ)

theorem gap_pos (n : ℕ) : 0 < gap n := by unfold gap; positivity

theorem fval_succ (n : ℕ) : fval (n + 1) = fval n + gap n := by
  unfold fval gap
  rcases Nat.lt_or_ge n (2 ^ 23) with h | h
  · have q0 : n / 2 ^ 23 = 0 := Nat.div_eq_of_lt h
    rw [if_pos q0, q0]
    rcases Nat.lt_or_ge (n + 1) (2 ^ 23) with h' | h'
    · rw [if_pos (Nat.div_eq_of_lt h')]
      push_cast
      norm_num
      ring
    · have hn : n = 2 ^ 23 - 1 := by omega
      subst hn
      norm_num
  · have q0 : n / 2 ^ 23 ≠ 0 := by omega
    have q1 : (n + 1) / 2 ^ 23 ≠ 0 := by omega
    rw [if_neg q0, if_neg q1]
    have hm : max (n / 2 ^ 23) 1 = n / 2 ^ 23 := by omega
    rw [hm]
    by_cases hr : n % 2 ^ 23 + 1 < 2 ^ 23
    · have e1 : (n + 1) / 2 ^ 23 = n / 2 ^ 23 := by omega
      have e2 : (n + 1) % 2 ^ 23 = n % 2 ^ 23 + 1 := by omega
      rw [e1, e2]
      push_cast
      ring
    · have e1 : (n + 1) / 2 ^ 23 = n / 2 ^ 23 + 1 := by omega
      have e2 : (n + 1) % 2 ^ 23 = 0 := by omega
      have e3 : n % 2 ^ 23 = 2 ^ 23 - 1 := by omega
      rw [e1, e2, e3]
      generalize n / 2 ^ 23 = q
      rw [show (((q + 1 : ℕ) : ℤ) - 150) = ((q : ℤ) - 150) + 1 by push_cast; ring, zpow_add_one₀ (by norm_num : (2 : ℝ) ≠ 0)]
      norm_num
      ring

theorem fval_zero : fval 0 = 0 := by unfold fval; norm_num

theorem fval_strictMono : StrictMono fval :=
  strictMono_nat_of_lt_succ fun n => by rw [fval_succ]; linarith [gap_pos n]

theorem fval_nonneg (n : ℕ) : 0 ≤ fval n := by
  rw [← fval_zero]; exact fval_strictMono.monotone (Nat.zero_le n)

/-- A step is at most the least spacing, or a `2^23`-th of the value. -/
theorem gap_le (n : ℕ) : gap n ≤ max ((2 : ℝ) ^ (-100 : ℤ)) (fval n * (2 : ℝ) ^ (-23 : ℤ)) := by
  rcases Nat.lt_or_ge n (2 ^ 23) with h | h
  · apply le_max_of_le_left
    unfold gap
    have q0 : n / 2 ^ 23 = 0 := Nat.div_eq_of_lt h
    rw [q0]; norm_num
  · apply le_max_of_le_right
    have q0 : n / 2 ^ 23 ≠ 0 := by omega
    unfold gap fval
    rw [if_neg q0, (by omega : max (n / 2 ^ 23) 1 = n / 2 ^ 23)]
    have hp : (0 : ℝ) < (2 : ℝ) ^ ((n / 2 ^ 23 : ℕ) - 150 : ℤ) := by positivity
    have h2 : (1 : ℝ) ≤ ((2 ^ 23 + n % 2 ^ 23 : ℕ) : ℝ) * (2 : ℝ) ^ (-23 : ℤ) := by
      push_cast
      rw [zpow_neg, ← div_eq_mul_inv, le_div_iff₀ (by positivity)]
      have : (0 : ℝ) ≤ ((n % 2 ^ 23 : ℕ) : ℝ) := Nat.cast_nonneg _
      push_cast at this
      norm_num at this ⊢
    calc _ = 1 * (2 : ℝ) ^ ((n / 2 ^ 23 : ℕ) - 150 : ℤ) := (one_mul _).symm
      _ ≤ (((2 ^ 23 + n % 2 ^ 23 : ℕ) : ℝ) * (2 : ℝ) ^ (-23 : ℤ)) * (2 : ℝ) ^ ((n / 2 ^ 23 : ℕ) - 150 : ℤ) :=
        mul_le_mul_of_nonneg_right h2 hp.le
      _ = _ := by ring

theorem fval_large : (2 : ℝ) ^ (127 : ℤ) ≤ fval 0x7F7FFFFF := by
  unfold fval; norm_num

/-- Between two numbers that lie apart by a float's spacing there is a float. -/
theorem exists_between (hi lo : ℝ) (h0 : 0 ≤ hi) (hbig : hi ≤ (2 : ℝ) ^ (127 : ℤ))
    (hgap : max (lo * (2 : ℝ) ^ (-23 : ℤ)) ((2 : ℝ) ^ (-100 : ℤ)) ≤ lo - hi) :
    ∃ b, b < 0x7F800000 ∧ hi ≤ fval b ∧ fval b ≤ lo := by
  have hlo : hi < lo := by
    have := le_trans (le_max_right _ _) hgap
    have : (0 : ℝ) < (2 : ℝ) ^ (-100 : ℤ) := by positivity
    linarith
  by_cases hc : fval 0x7F7FFFFF ≤ lo
  · exact ⟨_, by norm_num, hbig.trans fval_large, hc⟩
  · classical
    have hex : ∃ n, ¬ fval n ≤ lo := ⟨_, hc⟩
    have hs := Nat.find_spec hex
    have hle : Nat.find hex ≤ 0x7F7FFFFF := Nat.find_min' hex hc
    have hpos : Nat.find hex ≠ 0 := by
      intro h; rw [h, fval_zero] at hs; exact hs (by linarith)
    obtain ⟨b, hb⟩ := Nat.exists_eq_succ_of_ne_zero hpos
    have hbl : fval b ≤ lo := by
      by_contra hn; have := Nat.find_min' hex hn; omega
    rw [hb, Nat.succ_eq_add_one, fval_succ] at hs
    push Not at hs
    refine ⟨b, by omega, ?_, hbl⟩
    have hg := gap_le b
    have : max ((2 : ℝ) ^ (-100 : ℤ)) (fval b * (2 : ℝ) ^ (-23 : ℤ)) ≤ lo - hi := by
      refine le_trans (max_le (le_max_right _ _) (le_max_of_le_left ?_)) hgap
      exact mul_le_mul_of_nonneg_right hbl (by positivity)
    linarith

end Cert.Math

end
-- ==== Proof.Math.Row.lean ====
/- A row's selected negatives: a threshold found bit by bit splits them as the ranks do. -/
module

public import proofs.«01_k».proof.Proof.Math.Float

@[expose] public section

noncomputable section

namespace Cert.Math

/-- The arithmetic of one step of the search: the candidate is no more than the infinity's pattern. -/
theorem step_arith (i : ℕ) (hi : i < 31) (g : ℕ) (hd : 2 ^ (31 - i) ∣ g) (hg : g < 0x7F800000) :
    g + 2 ^ (30 - i) ≤ 0x7F800000 ∧ 2 ^ (30 - i) ∣ g + 2 ^ (30 - i) ∧ 2 ^ (30 - i) ∣ g ∧ 2 ^ (31 - i) = 2 * 2 ^ (30 - i) := by
  interval_cases i <;> norm_num at hd ⊢ <;> omega

/-- A search from the highest bit down finds the greatest pattern with a property that passes to smaller patterns and
    fails at the infinity (or zero, if no pattern has it). -/
theorem search (A : ℕ → Prop) (mono : ∀ c c', c ≤ c' → c' ≤ 0x7F800000 → A c' → A c) (top : ¬ A 0x7F800000)
    (g : ℕ → ℕ) (g0 : g 0 = 0)
    (gs : ∀ i, i < 31 → (A (g i + 2 ^ (30 - i)) ∧ g (i + 1) = g i + 2 ^ (30 - i)) ∨ (¬ A (g i + 2 ^ (30 - i)) ∧ g (i + 1) = g i)) :
    g 31 < 0x7F800000 ∧ (g 31 = 0 ∨ A (g 31)) ∧ ∀ b, b ≤ 0x7F800000 → A b → b ≤ g 31 := by
  have inv : ∀ i, i ≤ 31 → 2 ^ (31 - i) ∣ g i ∧ g i < 0x7F800000 ∧ (g i = 0 ∨ A (g i)) ∧
      ∀ b, b ≤ 0x7F800000 → A b → b < g i + 2 ^ (31 - i) := by
    intro i
    induction i with
    | zero =>
      intro _
      rw [g0]
      refine ⟨dvd_zero _, by norm_num, .inl rfl, fun b hb _ => by norm_num; omega⟩
    | succ i ih =>
      intro hi
      obtain ⟨hd, hl, ha, hb⟩ := ih (by omega)
      obtain ⟨a1, a2, a3, a4⟩ := step_arith i (by omega) (g i) hd hl
      have e : 31 - (i + 1) = 30 - i := by omega
      rw [e]
      rcases gs i (by omega) with ⟨hA, hg⟩ | ⟨hA, hg⟩
      · rw [hg]
        refine ⟨a2, lt_of_le_of_ne a1 fun h => top (h ▸ hA), .inr hA, fun b hb' hAb => ?_⟩
        have := hb b hb' hAb
        rw [a4] at this; omega
      · rw [hg]
        refine ⟨a3, hl, ha, fun b hb' hAb => ?_⟩
        by_contra hn
        exact hA (mono _ b (by omega) hb' hAb)
  obtain ⟨_, h2, h3, h4⟩ := inv 31 le_rfl
  exact ⟨h2, h3, fun b hb hA => by have := h4 b hb hA; simpa using Nat.lt_succ_iff.mp this⟩

theorem pat_mono {c c' : ℕ} (h : c ≤ c') (h' : c' ≤ 0x7F800000) : pat c ≤ pat c' := by
  rcases Nat.lt_or_ge c' 0x7F800000 with hl | hg
  · rw [pat_eq c (by omega), pat_eq c' hl]
    exact EReal.coe_le_coe_iff.mpr (fval_strictMono.monotone h)
  · have : c' = 0x7F800000 := le_antisymm h' hg
    rw [this, pat_inf]; exact le_top

open Classical in
/-- How many of the row's values reach a bound. -/
def reach {ι : Type} [Fintype ι] (m : ι → ℝ) (v : EReal) : ℕ := (Finset.univ.filter fun j => v ≤ (m j : EReal)).card

open Classical in
/-- The sum over a set that lies between the values above `v` and those at least `v`. -/
theorem sum_between {ι : Type} [Fintype ι] (m : ι → ℝ) (S : Finset ι) (v : ℝ) (h1 : ∀ j ∈ S, v ≤ m j)
    (h2 : ∀ j, v < m j → j ∈ S) :
    ∑ j ∈ S, m j = ∑ j ∈ Finset.univ.filter (fun j => v < m j), m j
      + ((S.card : ℝ) - ((Finset.univ.filter fun j => v < m j).card : ℝ)) * v := by
  have hsub : (Finset.univ.filter fun j => v < m j) ⊆ S := fun j hj => h2 j (Finset.mem_filter.mp hj).2
  rw [← Finset.sum_sdiff hsub, add_comm]
  congr 1
  have hc : ∀ j ∈ S \ Finset.univ.filter (fun j => v < m j), m j = v := by
    intro j hj
    rw [Finset.mem_sdiff, Finset.mem_filter] at hj
    have := h1 j hj.1
    have h3 : ¬ v < m j := fun h => hj.2 ⟨Finset.mem_univ _, h⟩
    linarith
  rw [Finset.sum_congr rfl hc, Finset.sum_const, nsmul_eq_mul, Finset.card_sdiff_of_subset hsub,
    Nat.cast_sub (Finset.card_le_card hsub)]

open Classical in
/-- The sum of the selected values, read off the threshold the search finds. -/
theorem row {ι : Type} [Fintype ι] (m : ι → ℝ) (N S : Finset ι) (k : ℕ) (hk : 1 ≤ k) (hN : ∀ j, j ∈ N ↔ 0 ≤ m j)
    (hSN : S ⊆ N)
    (hcase : (S = N ∧ N.card ≤ k) ∨
      (S.card = k ∧ ∃ b, b < 0x7F800000 ∧ (∀ j ∈ N, j ∉ S → m j ≤ fval b) ∧ ∀ j ∈ S, fval b ≤ m j))
    (g : ℕ → ℕ) (g0 : g 0 = 0)
    (gs : ∀ i, i < 31 → (k ≤ reach m (pat (g i + 2 ^ (30 - i))) ∧ g (i + 1) = g i + 2 ^ (30 - i))
      ∨ (¬ k ≤ reach m (pat (g i + 2 ^ (30 - i))) ∧ g (i + 1) = g i)) :
    g 31 < 0x7F800000 ∧
    ∑ j ∈ S, m j = ∑ j ∈ Finset.univ.filter (fun j => fval (g 31) < m j), m j
      + if (1 / 2 : ℝ) < (k : ℝ) - ((Finset.univ.filter fun j => fval (g 31) < m j).card : ℝ)
        then ((k : ℝ) - ((Finset.univ.filter fun j => fval (g 31) < m j).card : ℝ)) * fval (g 31) else 0 := by
  obtain ⟨hlt, hzero, hmax⟩ := search (fun c => k ≤ reach m (pat c))
    (fun c c' hcc hc' hA => hA.trans (Finset.card_le_card fun j hj => by
      rw [Finset.mem_filter] at hj ⊢
      exact ⟨hj.1, (pat_mono hcc hc').trans hj.2⟩))
    (by
      show ¬ k ≤ reach m (pat 0x7F800000)
      have : reach m (pat 0x7F800000) = 0 := by
        unfold reach
        rw [Finset.card_eq_zero, Finset.filter_eq_empty_iff, pat_inf]
        intro j _ h
        exact absurd h (not_le.mpr (EReal.coe_lt_top _))
      omega) g g0 gs
  refine ⟨hlt, ?_⟩
  have hreach : reach m (pat (g 31)) = (Finset.univ.filter fun j => fval (g 31) ≤ m j).card := by
    unfold reach
    rw [pat_eq _ hlt]
    congr 1
    ext j
    simp only [Finset.mem_filter, EReal.coe_le_coe_iff]
  generalize hvk : fval (g 31) = v at *
  have hv0 : 0 ≤ v := hvk ▸ fval_nonneg _
  -- above the threshold, selected; selected, at least the threshold
  have key : (∀ j, v < m j → j ∈ S) ∧ (∀ j ∈ S, v ≤ m j) ∧ (S.card = k ∨ v = 0) := by
    rcases hcase with ⟨rfl, hle⟩ | ⟨hcard, b, hb, hout, hin⟩
    · refine ⟨fun j hj => (hN j).mpr (hv0.trans hj.le), ?_⟩
      rcases hzero with h0 | hA
      · have hv : v = 0 := by rw [← hvk, h0, fval_zero]
        exact ⟨fun j hj => hv ▸ (hN j).mp hj, .inr hv⟩
      · rw [hreach] at hA
        have hsub : (Finset.univ.filter fun j => v ≤ m j) ⊆ S := fun j hj =>
          (hN j).mpr (hv0.trans (Finset.mem_filter.mp hj).2)
        have heq := Finset.eq_of_subset_of_card_le hsub (hle.trans hA)
        refine ⟨fun j hj => ?_, .inl (le_antisymm hle (hA.trans (Finset.card_le_card hsub)))⟩
        rw [← heq] at hj
        exact (Finset.mem_filter.mp hj).2
    · have hAb : k ≤ reach m (pat b) := by
        rw [← hcard]
        refine Finset.card_le_card fun j hj => Finset.mem_filter.mpr ⟨Finset.mem_univ _, ?_⟩
        rw [pat_eq b hb]
        exact EReal.coe_le_coe_iff.mpr (hin j hj)
      have hbg : fval b ≤ v := hvk ▸ fval_strictMono.monotone (hmax b hb.le hAb)
      have habove : ∀ j, v < m j → j ∈ S := fun j hj => by
        by_contra hn
        exact absurd (hout j ((hN j).mpr (hv0.trans hj.le)) hn) (not_le.mpr (hbg.trans_lt hj))
      refine ⟨habove, ?_, .inl hcard⟩
      by_cases hvb : v ≤ fval b
      · exact fun j hj => hvb.trans (hin j hj)
      · rcases hzero with h0 | hA
        · intro j hj
          have hv : v = 0 := by rw [← hvk, h0, fval_zero]
          exact hv ▸ (hN j).mp (hSN hj)
        · rw [hreach, ← hcard] at hA
          have hsub : (Finset.univ.filter fun j => v ≤ m j) ⊆ S := fun j hj => by
            have hj' := (Finset.mem_filter.mp hj).2
            by_contra hn
            exact hvb (hj'.trans (hout j ((hN j).mpr (hv0.trans hj')) hn))
          have heq := Finset.eq_of_subset_of_card_le hsub hA
          intro j hj
          rw [← heq] at hj
          exact (Finset.mem_filter.mp hj).2
  obtain ⟨k1, k2, k3⟩ := key
  rw [sum_between m S v k2 k1]
  congr 1
  rcases k3 with hc | hv
  · rw [hc]
    split_ifs with ht
    · rfl
    · have hge : (Finset.univ.filter fun j => v < m j).card ≤ k :=
        hc ▸ Finset.card_le_card fun j hj => k1 j (Finset.mem_filter.mp hj).2
      generalize (Finset.univ.filter fun j => v < m j).card = c at *
      have : k = c := by
        by_contra hne
        have h1 : c + 1 ≤ k := by omega
        have h2 : ((c + 1 : ℕ) : ℝ) ≤ k := by exact_mod_cast h1
        push_cast at h2
        exact ht (by linarith)
      rw [this]; ring
  · rw [hv]; simp

end Cert.Math

end
-- ==== Proof.Value.Final.lean ====
/- What the kernel's last point computes from the finished scratch, over the extended reals. -/
module

public import proofs.«01_k».proof.Proof.KernelIdealRun.Lanes
public import proofs.«01_k».proof.Proof.Math.Row
public import Idealize.ShloMosaic.PureOps.Ideal.Laws
public import Idealize.ShloMosaic.Lib.IdealHost
public import Idealize.ShloMosaic.Lib.Pointwise.Index

@[expose] public section

set_option maxRecDepth 16384

noncomputable section

namespace Cert.Value

open Idealize.ShloMosaic hiding ix1 ix2 ix3 ix4
open Idealize.ShloMosaic.ValueIdx Cert.KernelIdeal Cert.KernelIdeal.Gen Cert.KernelIdeal.Hand Cert.Math

/-- A sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a rank-3 shape, coordinate by coordinate. -/
theorem sum_ix3 {n0 n1 n2 : ℕ} (f : (⟨3, ![n0, n1, n2]⟩ : Shape).Idx → EReal) : ∑ i, f i = ∑ a, ∑ b, ∑ c, f (ix3 a b c) := sum_idx3 f

theorem ofBits_half : Ideal.ofBits .f32 0x3F000000#32 = ((1 / 2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num

open Classical in
/-- A sum of ones over the places where a bit is set counts them. -/
theorem sum_ones {ι : Type} [Fintype ι] (b : ι → BitVec 1) :
    ∑ i, Scalar.select (b i) (Ideal.ofBits .f32 0x3F800000#32) (Ideal.ofBits .f32 0x00000000#32)
      = (((Finset.univ.filter fun i => b i = 1#1).card : ℝ) : EReal) := by
  have : ∀ i, Scalar.select (b i) (Ideal.ofBits .f32 0x3F800000#32) (Ideal.ofBits .f32 0x00000000#32)
      = ((if b i = 1#1 then 1 else 0 : ℝ) : EReal) := by
    intro i
    by_cases h : b i = 1#1
    · rw [h, select_one, if_pos rfl, Ideal.ofBits_one_f32]; rfl
    · rw [eq_zero_of_ne_one h, select_zero, if_neg (by decide), Ideal.ofBits_zero_f32]; rfl
  rw [Finset.sum_congr rfl fun i _ => this i, ← coe_sum, Finset.sum_boole]

theorem lift_row (h : S64x8832.Reduces [1] S64) (r : Fin 64) (l : Fin 8832) : h.lift (ix1 r) l = ix2 r l := by
  funext a; apply Fin.ext
  fin_cases a <;> rfl
theorem lift_row8 (h : S8x8832.Reduces [1] S8) (r : Fin 8) (l : Fin 8832) : h.lift (ix1 r) l = ix2 r l := by
  funext a; apply Fin.ext
  fin_cases a <;> rfl

/-- A row sum. -/
theorem rowSum (V : FVec Ideal S64x8832 .f32) (r : Fin 64) (u : Fin 1) :
    shapeCast S64x1 (multiReduction .add [1] S64 V 0x00000000#32 reduces_S64x8832_S64 (.inl rfl) rfl : FVec Ideal S64 .f32) shapeCasts_S64_S64x1 (ix2 r u)
      = ∑ l : Fin 8832, V (ix2 r l) := by
  rw [shapeCast_a_a1_apply]
  refine (Ideal.multiReduction_add_single _ _ _ _ _ _).trans ?_
  exact Finset.sum_congr rfl fun l _ => congrArg V (lift_row _ r l)
theorem rowSum8 (V : FVec Ideal S8x8832 .f32) (r : Fin 8) (u : Fin 1) :
    shapeCast S8x1 (multiReduction .add [1] S8 V 0x00000000#32 reduces_S8x8832_S8 (.inl rfl) rfl : FVec Ideal S8 .f32) shapeCasts_S8_S8x1 (ix2 r u)
      = ∑ l : Fin 8832, V (ix2 r l) := by
  rw [shapeCast_a_a1_apply]
  refine (Ideal.multiReduction_add_single _ _ _ _ _ _).trans ?_
  exact Finset.sum_congr rfl fun l _ => congrArg V (lift_row8 _ r l)

/-- A column of 64, summed. -/
theorem colSum (V : FVec Ideal S64x1 .f32) :
    extractAt ![0, 0, 0] (shapeCast S1x1x1 (multiReduction .add [1, 2] S1 (shapeCast S1x64x1 V shapeCasts_S64x1_S1x64x1) 0x00000000#32
      reduces_S1x64x1_S1 (.inl rfl) rfl : FVec Ideal S1 .f32) shapeCasts_S1_S1x1x1) inpos_S1x1x1_p0_0_0 = ∑ r : Fin 64, V (ix2 r 0) := by
  show multiReduction .add [1, 2] S1 (shapeCast S1x64x1 V shapeCasts_S64x1_S1x64x1) 0x00000000#32 reduces_S1x64x1_S1 (.inl rfl) rfl _ = _
  refine (Ideal.multiReduction_add_total _ _ _ (by intro b; fin_cases b; rfl) _ _ _).trans ?_
  rw [sum_ix3]
  simp only [Fin.sum_univ_one, shapeCast_ab_1ab_apply]
/-- The sum of a block's lanes. -/
theorem tot_eq (V : FVec Ideal S8x8832 .f32) : tot (F := Ideal) V = ∑ r : Fin 8, ∑ l : Fin 8832, V (ix2 r l) := by
  unfold tot
  show multiReduction .add [1, 2] S1 (shapeCast S1x8x8832 V shapeCasts_S8x8832_S1x8x8832) 0x00000000#32 reduces_S1x8x8832_S1 (.inl rfl) rfl _ = _
  refine (Ideal.multiReduction_add_total _ _ _ (by intro b; fin_cases b; rfl) _ _ _).trans ?_
  rw [sum_ix3]
  simp only [Fin.sum_univ_one, shapeCast_ab_1ab_apply]

theorem ldC (X : S64x1.Idx → EReal) : View.ld (Val := Elt Ideal) (e' := .f32) X (Rect.unit (s := S64x1) ![0, 0] S64x1.size inb_S64x1_S64x1_0_0) = X := by
  funext j
  show X _ = X _
  congr 1; funext a; apply Fin.ext
  show ![0, 0] a + 1 * (j a).val = (j a).val
  fin_cases a <;> simp
theorem ldM (X : S64x8832.Idx → EReal) : View.ld (Val := Elt Ideal) (e' := .f32) X (Rect.unit (s := S64x8832) ![0, 0] S64x8832.size inb_S64x8832_S64x8832_0_0) = X := by
  funext j
  show X _ = X _
  congr 1; funext a; apply Fin.ext
  show ![0, 0] a + 1 * (j a).val = (j a).val
  fin_cases a <;> simp

/-- The number of positives: the column's sum. -/
theorem out7_eq (NP : S64x1.Idx → EReal) (j : S1x1.Idx) : out7 (F := Ideal) NP j = ∑ r : Fin 64, NP (ix2 r 0) := by
  unfold out7 k0_pay11
  dsimp only
  rw [ldC]
  exact colSum NP

theorem bcast_row (v : S64x1.Idx → EReal) (r : Fin 64) (l : Fin 8832) :
    broadcastTo S64x8832 v broadcasts_S64x1_S64x8832 (ix2 r l) = v (ix2 r 0) :=
  broadcastTo_apply v _ _ _ (by intro a; fin_cases a <;> rfl)

end Cert.Value

end
-- ==== Proof.Value.Search.lean ====
/- The kernel's search for each row's threshold, over the extended reals. -/
module

public import proofs.«01_k».proof.Proof.Value.Final

@[expose] public section

set_option maxRecDepth 16384

noncomputable section

namespace Cert.Value

open Idealize.ShloMosaic hiding ix1 ix2 ix3 ix4
open Idealize.ShloMosaic.ValueIdx Cert.KernelIdeal Cert.KernelIdeal.Gen Cert.KernelIdeal.Hand Cert.Math

theorem ofBool_one (p : Prop) [Decidable p] : BitVec.ofBool (decide p) = 1#1 ↔ p := by
  by_cases h : p <;> simp [h]
theorem oge_iff (x y : EReal) : FloatOps.cmpf (F := Ideal) (φ := .f32) .oge x y = 1#1 ↔ y ≤ x := ofBool_one _
theorem ogt_iff (x y : EReal) : FloatOps.cmpf (F := Ideal) (φ := .f32) .ogt x y = 1#1 ↔ y < x := ofBool_one _
theorem olt_iff (x y : EReal) : FloatOps.cmpf (F := Ideal) (φ := .f32) .olt x y = 1#1 ↔ x < y := ofBool_one _
theorem ole_iff (x y : EReal) : FloatOps.cmpf (F := Ideal) (φ := .f32) .ole x y = 1#1 ↔ x ≤ y := ofBool_one _

open Classical in
/-- A selection by a bit that says `p`. -/
theorem select_of_iff {α : Type} {b : BitVec 1} {p : Prop} (h : b = 1#1 ↔ p) (x y : α) : Scalar.select b x y = if p then x else y := by
  by_cases hp : p
  · rw [h.mpr hp, select_one, if_pos hp]
  · rw [eq_zero_of_ne_one (fun e => hp (h.mp e)), select_zero, if_neg hp]

/-- A fold over the trips is the last of any sequence that follows it. -/
theorem foldl_seq {σ : Type} : ∀ (n : ℕ) (g : Fin n → σ → σ) (st : ℕ → σ), (∀ k : Fin n, st (k.val + 1) = g k (st k.val)) →
    (List.finRange n).foldl (fun acc k => g k acc) (st 0) = st n
  | 0, _, _, _ => rfl
  | n + 1, g, st, h => by
    rw [List.finRange_succ_last, List.foldl_append, List.foldl_map]
    have := foldl_seq n (fun k acc => g k.castSucc acc) st fun k => h k.castSucc
    rw [this]
    exact (h (Fin.last n)).symm

/-- Setting a bit below a multiple of the next power adds it. -/
theorem or_bit (a j : ℕ) (hd : 2 ^ (j + 1) ∣ a) : a ||| 2 ^ j = a + 2 ^ j := by
  obtain ⟨q, rfl⟩ := hd
  exact (Nat.two_pow_add_eq_or_of_lt (Nat.pow_lt_pow_right (by norm_num) (by omega)) q).symm

theorem bit_arith (i : ℕ) (hi : i < 31) (a : ℕ) (hd : 2 ^ (31 - i) ∣ a) (ha : a < 2 ^ 31) :
    a + 2 ^ (30 - i) < 2 ^ 31 ∧ 2 ^ (30 - i) ∣ a + 2 ^ (30 - i) ∧ 2 ^ (30 - i) ∣ a := by
  interval_cases i <;> norm_num at hd ha ⊢ <;> omega

theorem bit_eq : ∀ t : Fin 31, Scalar.shli 1#32 (Scalar.subi 30#32 (Scf.iv 0#32 1#32 t)) = BitVec.ofNat 32 (2 ^ (30 - t.val)) := by decide

theorem trips_eq : k0_t1_loop.trips = 31 := by decide

/-- The search's words after so many trips. -/
def words (NP : S64x1.Idx → EReal) (M : S64x8832.Idx → EReal) : ℕ → IVec S64x1 32
  | 0 => k0_pay7
  | i + 1 => if h : i < k0_t1_loop.trips then k0_pay8 (F := Ideal) NP M ⟨i, h⟩ (words NP M i) else words NP M i

theorem bits_eq (NP : S64x1.Idx → EReal) (M : S64x8832.Idx → EReal) : bits (F := Ideal) NP M = words NP M 31 := by
  unfold bits
  rw [ldC, ldM, Scf.fold_eq]
  refine (foldl_seq k0_t1_loop.trips _ (words NP M) fun k => ?_).trans (by rw [trips_eq])
  show (if h : k.val < k0_t1_loop.trips then _ else _) = _
  rw [dif_pos k.isLt]

/-- One row's word after a trip. -/
theorem words_succ (NP : S64x1.Idx → EReal) (M : S64x8832.Idx → EReal) (np : Fin 64 → ℕ) (mr : Fin 64 → Fin 8832 → ℝ)
    (hNP : ∀ r, NP (ix2 r 0) = ((np r : ℝ) : EReal)) (hM : ∀ r l, M (ix2 r l) = (mr r l : EReal)) (r : Fin 64) (i : ℕ) (hi : i < 31) :
    (3 * np r ≤ reach (mr r) (pat (words NP M i (ix2 r 0) ||| BitVec.ofNat 32 (2 ^ (30 - i))).toNat)
        ∧ words NP M (i + 1) (ix2 r 0) = words NP M i (ix2 r 0) ||| BitVec.ofNat 32 (2 ^ (30 - i)))
      ∨ (¬ 3 * np r ≤ reach (mr r) (pat (words NP M i (ix2 r 0) ||| BitVec.ofNat 32 (2 ^ (30 - i))).toNat)
        ∧ words NP M (i + 1) (ix2 r 0) = words NP M i (ix2 r 0)) := by
  have e : words NP M (i + 1) = k0_pay8 (F := Ideal) NP M ⟨i, by rw [trips_eq]; exact hi⟩ (words NP M i) := by
    show (if h : i < k0_t1_loop.trips then _ else _) = _
    rw [dif_pos]
  rw [e]
  generalize words NP M i = w
  have hb : Scalar.shli 1#32 (Scalar.subi 30#32 (Scf.iv 0#32 1#32 (⟨i, by rw [trips_eq]; exact hi⟩ : Fin k0_t1_loop.trips))) = BitVec.ofNat 32 (2 ^ (30 - i)) := bit_eq ⟨i, hi⟩
  unfold k0_pay8
  dsimp only
  rw [hb]
  generalize hc : BitVec.ofNat 32 (2 ^ (30 - i)) = b
  have hpat : ∀ v : BitVec 32, Ideal.ofBits .f32 v = pat v.toNat := fun v => by unfold pat; rw [BitVec.ofNat_toNat, BitVec.setWidth_eq]
  have hiff : cmpf (F := Ideal) .oge (shapeCast S64x1 (multiReduction (F := Ideal) .add [1] S64 (select (cmpf .oge M
        (broadcastTo S64x8832 (bitcastToFloat .f32 (ori w (broadcast S64x1 b)) : FVec Ideal S64x1 .f32) broadcasts_S64x1_S64x8832))
        (broadcast S64x8832 (Scalar.ofBits .f32 0x3F800000#32)) (broadcast S64x8832 (Scalar.ofBits .f32 0x00000000#32)) : FVec Ideal S64x8832 .f32)
        0x00000000#32 reduces_S64x8832_S64 (.inl rfl) rfl : FVec Ideal S64 .f32) shapeCasts_S64_S64x1 : FVec Ideal S64x1 .f32) (k0_pay5 NP) (ix2 r 0) = 1#1
      ↔ 3 * np r ≤ reach (mr r) (pat (w (ix2 r 0) ||| b).toNat) := by
    refine (oge_iff _ _).trans ?_
    rw [rowSum]
    have h1 : k0_pay5 (F := Ideal) NP (ix2 r 0) = (((3 * np r : ℕ) : ℝ) : EReal) := by
      show NP (ix2 r 0) * Ideal.ofBits .f32 0x40400000#32 = _
      rw [hNP, ofBits_three, ← EReal.coe_mul]
      congr 1; push_cast; ring
    rw [h1]
    have h2 : (∑ l : Fin 8832, (select (cmpf (F := Ideal) .oge M
        (broadcastTo S64x8832 (bitcastToFloat .f32 (ori w (broadcast S64x1 b)) : FVec Ideal S64x1 .f32) broadcasts_S64x1_S64x8832))
        (broadcast S64x8832 (Scalar.ofBits .f32 0x3F800000#32)) (broadcast S64x8832 (Scalar.ofBits .f32 0x00000000#32)) : FVec Ideal S64x8832 .f32) (ix2 r l))
        = ((reach (mr r) (pat (w (ix2 r 0) ||| b).toNat) : ℝ) : EReal) := by
      refine (sum_ones _).trans ?_
      unfold reach
      congr 3
      ext l
      simp only [Finset.mem_filter]
      refine and_congr_right fun _ => (oge_iff _ _).trans ?_
      rw [bcast_row, hM]
      show Ideal.ofBits .f32 (w (ix2 r 0) ||| b) ≤ _ ↔ _
      rw [hpat]
    rw [h2, EReal.coe_le_coe_iff, Nat.cast_le]
  by_cases h : 3 * np r ≤ reach (mr r) (pat (w (ix2 r 0) ||| b).toNat)
  · exact .inl ⟨h, (select_of_iff hiff _ _).trans (if_pos h)⟩
  · exact .inr ⟨h, (select_of_iff hiff _ _).trans (if_neg h)⟩

/-- The search, row by row, in the form `row` takes. -/
theorem words_search (NP : S64x1.Idx → EReal) (M : S64x8832.Idx → EReal) (np : Fin 64 → ℕ) (mr : Fin 64 → Fin 8832 → ℝ)
    (hNP : ∀ r, NP (ix2 r 0) = ((np r : ℝ) : EReal)) (hM : ∀ r l, M (ix2 r l) = (mr r l : EReal)) (r : Fin 64) :
    ∀ i, i < 31 → (3 * np r ≤ reach (mr r) (pat ((words NP M i (ix2 r 0)).toNat + 2 ^ (30 - i)))
        ∧ (words NP M (i + 1) (ix2 r 0)).toNat = (words NP M i (ix2 r 0)).toNat + 2 ^ (30 - i))
      ∨ (¬ 3 * np r ≤ reach (mr r) (pat ((words NP M i (ix2 r 0)).toNat + 2 ^ (30 - i)))
        ∧ (words NP M (i + 1) (ix2 r 0)).toNat = (words NP M i (ix2 r 0)).toNat) := by
  have hor : ∀ i, i < 31 → ∀ w : BitVec 32, 2 ^ (31 - i) ∣ w.toNat → (w ||| BitVec.ofNat 32 (2 ^ (30 - i))).toNat = w.toNat + 2 ^ (30 - i) := by
    intro i hi w hd
    rw [BitVec.toNat_or, BitVec.toNat_ofNat, Nat.mod_eq_of_lt (Nat.pow_lt_pow_right (by norm_num) (by omega))]
    exact or_bit _ _ (by rwa [show 30 - i + 1 = 31 - i by omega])
  have inv : ∀ i, i ≤ 31 → 2 ^ (31 - i) ∣ (words NP M i (ix2 r 0)).toNat ∧ (words NP M i (ix2 r 0)).toNat < 2 ^ 31 := by
    intro i
    induction i with
    | zero => intro _; exact ⟨dvd_zero _, by show (0#32).toNat < _; decide⟩
    | succ i ih =>
      intro hi
      obtain ⟨h1, h2⟩ := ih (by omega)
      obtain ⟨a1, a2, a3⟩ := bit_arith i (by omega) _ h1 h2
      rw [show 31 - (i + 1) = 30 - i by omega]
      rcases words_succ NP M np mr hNP hM r i (by omega) with ⟨_, e⟩ | ⟨_, e⟩ <;> rw [e]
      · rw [hor i (by omega) _ h1]; exact ⟨a2, a1⟩
      · exact ⟨a3, h2⟩
  intro i hi
  have h := words_succ NP M np mr hNP hM r i hi
  rw [hor i hi _ (inv i hi.le).1] at h
  rcases h with ⟨h, e⟩ | ⟨h, e⟩
  · exact .inl ⟨h, by rw [e, hor i hi _ (inv i hi.le).1]⟩
  · exact .inr ⟨h, by rw [e]⟩

end Cert.Value

end
-- ==== Proof.Value.Slow.lean ====
/- The sum the kernel's search path gives, and what its test of the fast path says, over the extended reals. -/
module

public import proofs.«01_k».proof.Proof.Value.Search

@[expose] public section

set_option maxRecDepth 16384

noncomputable section

namespace Cert.Value

open Idealize.ShloMosaic hiding ix1 ix2 ix3 ix4
open Idealize.ShloMosaic.ValueIdx Cert.KernelIdeal Cert.KernelIdeal.Gen Cert.KernelIdeal.Hand Cert.Math

/-- The threshold's share of a row. -/
theorem sel_gap (x y : EReal) (a v : ℝ) (hx : x = (a : EReal)) (hy : y = (v : EReal)) :
    Scalar.select (FloatOps.cmpf (F := Ideal) (φ := .f32) .ogt x (Ideal.ofBits .f32 0x3F000000#32)) (x * y) (Ideal.ofBits .f32 0x00000000#32)
      = ((if (1 / 2 : ℝ) < a then a * v else 0 : ℝ) : EReal) := by
  refine (select_of_iff (ogt_iff _ _) _ _).trans ?_
  rw [hx, hy, ofBits_half, Ideal.ofBits_zero_f32, ← EReal.coe_mul]
  simp only [EReal.coe_lt_coe_iff]
  split_ifs <;> rfl

open Classical in
/-- The search path's sum is the sum of the selected values, row by row. -/
theorem slowSum_eq (NP : S64x1.Idx → EReal) (M : S64x8832.Idx → EReal) (np : Fin 64 → ℕ) (mr : Fin 64 → Fin 8832 → ℝ)
    (hNP : ∀ r, NP (ix2 r 0) = ((np r : ℝ) : EReal)) (hM : ∀ r l, M (ix2 r l) = (mr r l : EReal))
    (N S : Fin 64 → Finset (Fin 8832)) (hk : ∀ r, 1 ≤ np r) (hN : ∀ r j, j ∈ N r ↔ 0 ≤ mr r j) (hSN : ∀ r, S r ⊆ N r)
    (hcase : ∀ r, (S r = N r ∧ (N r).card ≤ 3 * np r) ∨
      ((S r).card = 3 * np r ∧ ∃ b, b < 0x7F800000 ∧ (∀ j ∈ N r, j ∉ S r → mr r j ≤ fval b) ∧ ∀ j ∈ S r, fval b ≤ mr r j)) :
    slowSum (F := Ideal) NP M = ((∑ r, ∑ j ∈ S r, mr r j : ℝ) : EReal) := by
  have hrow := fun r => row (mr r) (N r) (S r) (3 * np r) (by have := hk r; omega) (hN r) (hSN r) (hcase r)
    (fun i => (words NP M i (ix2 r 0)).toNat) (by show (0#32).toNat = 0; rfl) (words_search NP M np mr hNP hM r)
  unfold slowSum k0_pay9
  rw [ldC, ldM, bits_eq]
  dsimp only
  refine (colSum _).trans ?_
  rw [coe_sum]
  refine Finset.sum_congr rfl fun r _ => ?_
  obtain ⟨hlt, hr⟩ := hrow r
  rw [hr]
  have hv : Ideal.ofBits .f32 (words NP M 31 (ix2 r 0)) = (fval (words NP M 31 (ix2 r 0)).toNat : EReal) := by
    rw [← pat_eq _ hlt]; unfold pat; rw [BitVec.ofNat_toNat, BitVec.setWidth_eq]
  generalize words NP M 31 = w at *
  generalize hx : fval (w (ix2 r 0)).toNat = v at *
  have hgt : ∀ l, cmpf (F := Ideal) .ogt M (broadcastTo S64x8832 (bitcastToFloat .f32 w : FVec Ideal S64x1 .f32) broadcasts_S64x1_S64x8832) (ix2 r l) = 1#1
      ↔ v < mr r l := fun l => by
    refine (ogt_iff _ _).trans ?_
    rw [bcast_row, hM]
    show Ideal.ofBits .f32 (w (ix2 r 0)) < _ ↔ _
    rw [hv, EReal.coe_lt_coe_iff]
  have h1 : ∑ l : Fin 8832, (select (cmpf (F := Ideal) .ogt M (broadcastTo S64x8832 (bitcastToFloat .f32 w : FVec Ideal S64x1 .f32) broadcasts_S64x1_S64x8832))
        (broadcast S64x8832 (Scalar.ofBits .f32 0x3F800000#32)) (broadcast S64x8832 (Scalar.ofBits .f32 0x00000000#32)) : FVec Ideal S64x8832 .f32) (ix2 r l)
      = (((Finset.univ.filter fun j => v < mr r j).card : ℝ) : EReal) := by
    refine (sum_ones _).trans ?_
    congr 3
    ext l
    simp only [Finset.mem_filter]
    exact and_congr_right fun _ => hgt l
  have h2 : ∑ l : Fin 8832, (select (cmpf (F := Ideal) .ogt M (broadcastTo S64x8832 (bitcastToFloat .f32 w : FVec Ideal S64x1 .f32) broadcasts_S64x1_S64x8832))
        M (broadcast S64x8832 (Scalar.ofBits .f32 0x00000000#32)) : FVec Ideal S64x8832 .f32) (ix2 r l)
      = ((∑ j ∈ Finset.univ.filter (fun j => v < mr r j), mr r j : ℝ) : EReal) := by
    rw [Finset.sum_filter, coe_sum]
    refine Finset.sum_congr rfl fun l _ => ?_
    refine (select_of_iff (hgt l) _ _).trans ?_
    split_ifs
    · exact hM r l
    · exact Ideal.ofBits_zero_f32
  have h3 : k0_pay5 (F := Ideal) NP (ix2 r 0) = (((3 * np r : ℕ) : ℝ) : EReal) := by
    show NP (ix2 r 0) * Ideal.ofBits .f32 0x40400000#32 = _
    rw [hNP, ofBits_three, ← EReal.coe_mul]
    congr 1; push_cast; ring
  have h4 := (rowSum _ r 0).trans h1
  have h5 := (rowSum _ r 0).trans h2
  have h6 : FloatOps.subf (F := Ideal) (φ := .f32) (k0_pay5 (F := Ideal) NP (ix2 r 0)) _
      = (((3 * np r : ℕ) : ℝ) - ((Finset.univ.filter fun j => v < mr r j).card : ℝ) : ℝ) :=
    (congrArg₂ (fun a b : EReal => a - b) h3 h4).trans (EReal.coe_sub _ _).symm
  rw [EReal.coe_add]
  refine congrArg₂ (fun a b : EReal => a + b) h5 ?_
  exact sel_gap _ _ _ _ h6 hv

/-- A positive minimum over a column is over positive entries. -/
theorem pos_of_colMin (V : FVec Ideal S64x1 .f32)
    (h : (0 : EReal) < extractAt ![0, 0, 0] (shapeCast S1x1x1 (multiReduction .minimumf [1, 2] S1 (shapeCast S1x64x1 V shapeCasts_S64x1_S1x64x1) 0x7F800000#32
      reduces_S1x64x1_S1 (.inl rfl) rfl : FVec Ideal S1 .f32) shapeCasts_S1_S1x1x1) inpos_S1x1x1_p0_0_0) (r : Fin 64) : 0 < V (ix2 r 0) := by
  have key : ∀ j : S1.Idx, (0 : EReal) < multiReduction (F := Ideal) .minimumf [1, 2] S1 (shapeCast S1x64x1 V shapeCasts_S64x1_S1x64x1) 0x7F800000#32
      reduces_S1x64x1_S1 (.inl rfl) rfl j → 0 < V (ix2 r 0) := by
    intro j hj
    have e := multiReduction_minimumf_eq_fold (F := Ideal) (shapeCast S1x64x1 V shapeCasts_S64x1_S1x64x1) 0x7F800000#32 reduces_S1x64x1_S1 (.inl rfl) rfl j
    have h2 := (Finset.lt_fold_min (α := S1x64x1.Idx) (β := EReal) (b := Ideal.ofBits .f32 0x7F800000#32) (c := 0)
      (f := shapeCast S1x64x1 V shapeCasts_S64x1_S1x64x1)).mp (lt_of_lt_of_eq hj e)
    have h3 := h2.2 (ix3 0 r 0) (Finset.mem_filter.mpr ⟨Finset.mem_univ _, funext fun b => Fin.ext (by
      have h1 := (reduces_S1x64x1_S1.drop (ix3 0 r 0) b).isLt
      have h2 := (j b).isLt
      have h3 : S1.size b = 1 := by fin_cases b; rfl
      omega)⟩)
    rwa [shapeCast_ab_1ab_apply] at h3
  exact key _ h

/-- The fast path is taken only when every row has room for all its negatives. -/
theorem roomy_le (NP NN : S64x1.Idx → EReal) (np nn : Fin 64 → ℕ)
    (hNP : ∀ r, NP (ix2 r 0) = ((np r : ℝ) : EReal)) (hNN : ∀ r, NN (ix2 r 0) = ((nn r : ℝ) : EReal))
    (h : roomy (F := Ideal) NP NN) (r : Fin 64) : nn r ≤ 3 * np r := by
  unfold roomy at h
  rw [ldC, ldC] at h
  have h1 : ∀ b : BitVec 1, Scalar.cmpi .ne (Scalar.extui b : BitVec 32) 0#32 = 1#1 → b = 1#1 := by decide
  have h2 := (ogt_iff _ _).mp (h1 _ h)
  have h0 : FloatOps.ofBits (F := Ideal) .f32 0#32 = (0 : EReal) := Ideal.ofBits_zero_f32
  rw [h0] at h2
  have h3 := pos_of_colMin _ h2 r
  have h5 : FloatOps.cmpf (F := Ideal) (φ := .f32) .oge (k0_pay5 (F := Ideal) NP (ix2 r 0)) (NN (ix2 r 0)) = 1#1 := by
    by_contra hn
    refine lt_irrefl (0 : EReal) (lt_of_lt_of_eq h3 ?_)
    show Scalar.select (FloatOps.cmpf (F := Ideal) (φ := .f32) .oge (k0_pay5 (F := Ideal) NP (ix2 r 0)) (NN (ix2 r 0))) _ _ = _
    rw [eq_zero_of_ne_one hn, select_zero]
    exact Ideal.ofBits_zero_f32
  have h6 := (oge_iff _ _).mp h5
  have h7 : k0_pay5 (F := Ideal) NP (ix2 r 0) = (((3 * np r : ℕ) : ℝ) : EReal) := by
    show NP (ix2 r 0) * Ideal.ofBits .f32 0x40400000#32 = _
    rw [hNP, ofBits_three, ← EReal.coe_mul]
    congr 1; push_cast; ring
  rw [h7, hNN, EReal.coe_le_coe_iff, Nat.cast_le] at h6
  exact h6

end Cert.Value

end
-- ==== Proof.Value.Blocks.lean ====
/- The kernel's blocks and its results, in terms of the launched arrays. -/
module

public import proofs.«01_k».proof.Proof.KernelIdealRun.Run
public import proofs.«01_k».proof.Proof.Value.Slow
public import Idealize.ShloMosaic.Lib.Claim

@[expose] public section

set_option maxRecDepth 16384

noncomputable section

namespace Cert.Value

open Idealize.ShloMosaic hiding ix1 ix2 ix3 ix4
open Idealize.ShloMosaic.TcCoe Idealize.ShloMosaic.ValueIdx Idealize.ShloMosaic.Tactic
open Cert.KernelIdeal Cert.KernelIdeal.Gen Cert.KernelIdeal.Hand Cert.Math

variable (m : (ℓ : Loc nD τ sig) → Buf (Elt Ideal) ℓ) (c : Dev nD)

/-- The four arrays as launched. -/
def aX : S64x8732x21.Idx → EReal := m ((c.tc : Thread nD τ).loc main_arg0)
def aP : S64x8732x4.Idx → EReal := m ((c.tc : Thread nD τ).loc main_arg1)
def aW : S64x8732.Idx → BitVec 32 := m ((c.tc : Thread nD τ).loc main_arg2)
def aG : S64x8732x4.Idx → EReal := m ((c.tc : Thread nD τ).loc main_arg3)

theorem V_v0 : V m c main_v0 = transpose S21x64x8732 [2, 0, 1] (aX m c) transposes_S64x8732x21_S21x64x8732_2_0_1 := by
  unfold aX; unfold_abbrev_sides; simp only [List.flatten_cons, List.flatten_nil, List.append_nil]; after_results
theorem V_v1 : V m c main_v1 = transpose S4x64x8732 [2, 0, 1] (aP m c) transposes_S64x8732x4_S4x64x8732_2_0_1 := by
  unfold aP; unfold_abbrev_sides; simp only [List.flatten_cons, List.flatten_nil, List.append_nil]; after_results
theorem V_v2 : V m c main_v2 = transpose S4x64x8732 [2, 0, 1] (aG m c) transposes_S64x8732x4_S4x64x8732_2_0_1 := by
  unfold aG; unfold_abbrev_sides; simp only [List.flatten_cons, List.flatten_nil, List.append_nil]; after_results

/-- A row of the arrays: the point's block and the row in it. -/
def rowOf (t : Fin cfg0.N) (r : Fin 8) : Fin 64 := ⟨8 * t.val + r.val, by have h := t.isLt; have : cfg0.N = 8 := N_0; omega⟩
/-- A column of the arrays among the block's. -/
def colIn (l : Fin 8732) : Fin 8832 := ⟨l.val, by omega⟩

theorem index_1 (t : Fin cfg0.N) : win0_1.index t 0 = t.val ∧ win0_1.index t 1 = 0 := by
  rcases fin_N0 t with rfl | rfl | rfl | rfl | rfl | rfl | rfl | rfl <;> decide
theorem B2_apply (t : Fin cfg0.N) (r : Fin 8) (l : Fin 8732) : B2 m c t (ix2 r (colIn l)) = aW m c (ix2 (rowOf t r) l) := by
  unfold B2 Pipeline.Window.fill
  rw [dif_pos ((win0_1.moved_iff (grid0.coords t) (ix2 r (colIn l))).mpr fun a => by
    have hx : ∀ a, win0_1.xsize (grid0.coords t) a = (![8, 8732] : Fin 2 → ℕ) a := by
      rcases fin_N0 t with rfl | rfl | rfl | rfl | rfl | rfl | rfl | rfl <;> decide
    rw [hx a]
    fin_cases a
    · exact r.isLt
    · exact l.isLt)]
  unfold iblk
  show V m c main_arg2 _ = _
  rw [V_main_arg2]
  show aW m c _ = _
  congr 1; funext a; apply Fin.ext
  refine (win0_1.rect_emb_val t _ a rfl).trans ?_
  fin_cases a
  · show win0_1.index t 0 * 8 + r.val = 8 * t.val + r.val
    rw [(index_1 t).1]; omega
  · show win0_1.index t 1 * 8832 + l.val = l.val
    rw [(index_1 t).2]; omega

theorem index_0 (t : Fin cfg0.N) : win0_0.index t 0 = 0 ∧ win0_0.index t 1 = t.val ∧ win0_0.index t 2 = 0 := by
  rcases fin_N0 t with rfl | rfl | rfl | rfl | rfl | rfl | rfl | rfl <;> decide
theorem B1_apply (t : Fin cfg0.N) (k : Fin 21) (r : Fin 8) (l : Fin 8732) : B1 m c t (ix3 k r (colIn l)) = aX m c (ix3 (rowOf t r) l k) := by
  unfold B1 Pipeline.Window.fill
  rw [dif_pos ((win0_0.moved_iff (grid0.coords t) (ix3 k r (colIn l))).mpr fun a => by
    have hx : ∀ a, win0_0.xsize (grid0.coords t) a = (![21, 8, 8732] : Fin 3 → ℕ) a := by
      rcases fin_N0 t with rfl | rfl | rfl | rfl | rfl | rfl | rfl | rfl <;> decide
    rw [hx a]
    fin_cases a
    · exact k.isLt
    · exact r.isLt
    · exact l.isLt)]
  unfold iblk
  show V m c main_v0 _ = _
  rw [V_v0]
  refine (congrArg (transpose S21x64x8732 [2, 0, 1] (aX m c) transposes_S64x8732x21_S21x64x8732_2_0_1)
    (show _ = ix3 k (rowOf t r) l from ?_)).trans ?_
  · funext a; apply Fin.ext
    refine (win0_0.rect_emb_val t _ a rfl).trans ?_
    fin_cases a
    · show win0_0.index t 0 * 21 + k.val = k.val
      rw [(index_0 t).1]; omega
    · show win0_0.index t 1 * 8 + r.val = 8 * t.val + r.val
      rw [(index_0 t).2.1]; omega
    · show win0_0.index t 2 * 8832 + l.val = l.val
      rw [(index_0 t).2.2]; omega
  · show aX m c _ = aX m c _
    congr 1; funext a; apply Fin.ext
    fin_cases a <;> rfl

theorem index_2 (t : Fin cfg0.N) : win0_2.index t 0 = 0 ∧ win0_2.index t 1 = t.val ∧ win0_2.index t 2 = 0 := by
  rcases fin_N0 t with rfl | rfl | rfl | rfl | rfl | rfl | rfl | rfl <;> decide
theorem B3_apply (t : Fin cfg0.N) (k : Fin 4) (r : Fin 8) (l : Fin 8732) : B3 m c t (ix3 k r (colIn l)) = aP m c (ix3 (rowOf t r) l k) := by
  unfold B3 Pipeline.Window.fill
  rw [dif_pos ((win0_2.moved_iff (grid0.coords t) (ix3 k r (colIn l))).mpr fun a => by
    have hx : ∀ a, win0_2.xsize (grid0.coords t) a = (![4, 8, 8732] : Fin 3 → ℕ) a := by
      rcases fin_N0 t with rfl | rfl | rfl | rfl | rfl | rfl | rfl | rfl <;> decide
    rw [hx a]
    fin_cases a
    · exact k.isLt
    · exact r.isLt
    · exact l.isLt)]
  unfold iblk
  show V m c main_v1 _ = _
  rw [V_v1]
  refine (congrArg (transpose S4x64x8732 [2, 0, 1] (aP m c) transposes_S64x8732x4_S4x64x8732_2_0_1)
    (show _ = ix3 k (rowOf t r) l from ?_)).trans ?_
  · funext a; apply Fin.ext
    refine (win0_2.rect_emb_val t _ a rfl).trans ?_
    fin_cases a
    · show win0_2.index t 0 * 4 + k.val = k.val
      rw [(index_2 t).1]; omega
    · show win0_2.index t 1 * 8 + r.val = 8 * t.val + r.val
      rw [(index_2 t).2.1]; omega
    · show win0_2.index t 2 * 8832 + l.val = l.val
      rw [(index_2 t).2.2]; omega
  · show aP m c _ = aP m c _
    congr 1; funext a; apply Fin.ext
    fin_cases a <;> rfl

theorem index_3 (t : Fin cfg0.N) : win0_3.index t 0 = 0 ∧ win0_3.index t 1 = t.val ∧ win0_3.index t 2 = 0 := by
  rcases fin_N0 t with rfl | rfl | rfl | rfl | rfl | rfl | rfl | rfl <;> decide
theorem B4_apply (t : Fin cfg0.N) (k : Fin 4) (r : Fin 8) (l : Fin 8732) : B4 m c t (ix3 k r (colIn l)) = aG m c (ix3 (rowOf t r) l k) := by
  unfold B4 Pipeline.Window.fill
  rw [dif_pos ((win0_3.moved_iff (grid0.coords t) (ix3 k r (colIn l))).mpr fun a => by
    have hx : ∀ a, win0_3.xsize (grid0.coords t) a = (![4, 8, 8732] : Fin 3 → ℕ) a := by
      rcases fin_N0 t with rfl | rfl | rfl | rfl | rfl | rfl | rfl | rfl <;> decide
    rw [hx a]
    fin_cases a
    · exact k.isLt
    · exact r.isLt
    · exact l.isLt)]
  unfold iblk
  show V m c main_v2 _ = _
  rw [V_v2]
  refine (congrArg (transpose S4x64x8732 [2, 0, 1] (aG m c) transposes_S64x8732x4_S4x64x8732_2_0_1)
    (show _ = ix3 k (rowOf t r) l from ?_)).trans ?_
  · funext a; apply Fin.ext
    refine (win0_3.rect_emb_val t _ a rfl).trans ?_
    fin_cases a
    · show win0_3.index t 0 * 4 + k.val = k.val
      rw [(index_3 t).1]; omega
    · show win0_3.index t 1 * 8 + r.val = 8 * t.val + r.val
      rw [(index_3 t).2.1]; omega
    · show win0_3.index t 2 * 8832 + l.val = l.val
      rw [(index_3 t).2.2]; omega
  · show aG m c _ = aG m c _
    congr 1; funext a; apply Fin.ext
    fin_cases a <;> rfl

end Cert.Value

end
-- ==== Proof.Value.Tail.lean ====
/- The host's last operations: the three words divided. -/
module

public import proofs.«01_k».proof.Proof.Value.Blocks
public import Idealize.ShloMosaic.Lib.Pipeline.ValueKit.Geometry

@[expose] public section

set_option maxRecDepth 16384

noncomputable section

namespace Cert.Value

open Idealize.ShloMosaic hiding ix1 ix2 ix3 ix4
open Idealize.ShloMosaic.TcCoe Idealize.ShloMosaic.ValueIdx Idealize.ShloMosaic.Tactic
open Cert.KernelIdeal Cert.KernelIdeal.Gen Cert.KernelIdeal.Hand Cert.Math

variable (m : (ℓ : Loc nD τ sig) → Buf (Elt Ideal) ℓ) (ρ : Dev nD → PrngReg) (c : Dev nD)

/-- The kernel's three words. -/
theorem arr4 : (dats m 0 c).arrAt 4 cfg0.N = out5 (F := Ideal) (accA m c 8) :=
  (dats m 0 c).arrAt_eq_of_after_last 4 (pt 7) (by decide +kernel) _ fun j => rfl
theorem arr5 : (dats m 0 c).arrAt 5 cfg0.N = out6 (F := Ideal) (NPfin m c) (NNfin m c) (Mfin m c) (accA m c 8) :=
  (dats m 0 c).arrAt_eq_of_after_last 5 (pt 7) (by decide +kernel) _ fun j => rfl
theorem arr6 : (dats m 0 c).arrAt 6 cfg0.N = out7 (F := Ideal) (NPfin m c) :=
  (dats m 0 c).arrAt_eq_of_after_last 6 (pt 7) (by decide +kernel) _ fun j => rfl

theorem left4 : Pipeline.withArrays (cfgs 0).spec c (V0 m c) (fun w => (dats m 0 c).arrAt w (cfgs 0).N) (Proc.tc.devRef main_v3_0) = out5 (F := Ideal) (accA m c 8) :=
  (Pipeline.withArrays_arr (cfgs 0).spec (by decide) c (V0 m c) (fun w => (dats m 0 c).arrAt w (cfgs 0).N) 4).trans (arr4 m c)
theorem left5 : Pipeline.withArrays (cfgs 0).spec c (V0 m c) (fun w => (dats m 0 c).arrAt w (cfgs 0).N) (Proc.tc.devRef main_v3_1)
    = out6 (F := Ideal) (NPfin m c) (NNfin m c) (Mfin m c) (accA m c 8) :=
  (Pipeline.withArrays_arr (cfgs 0).spec (by decide) c (V0 m c) (fun w => (dats m 0 c).arrAt w (cfgs 0).N) 5).trans (arr5 m c)
theorem left6 : Pipeline.withArrays (cfgs 0).spec c (V0 m c) (fun w => (dats m 0 c).arrAt w (cfgs 0).N) (Proc.tc.devRef main_v3_2) = out7 (F := Ideal) (NPfin m c) :=
  (Pipeline.withArrays_arr (cfgs 0).spec (by decide) c (V0 m c) (fun w => (dats m 0 c).arrAt w (cfgs 0).N) 6).trans (arr6 m c)

/-- The first result: the smooth L1 sum over the number of positives. -/
theorem W_v6 : Pipeline.afterTail₀ cfgs (dats m) 0 (V0 m) [hostOps1] c main_v6
    = fun _ => Ideal.div (accA m c 8 (ix1 1)) (∑ r : Fin 64, NPfin m c (ix2 r 0)) := by
  unfold Pipeline.afterTail₀
  simp only [List.flatten_cons, List.flatten_nil, List.append_nil]
  after_results
  rw [left4, left6]
  funext i
  exact congrArg (Ideal.div _) (out7_eq (NPfin m c) _)
/-- The second result: the classification sum over the number of positives. -/
theorem W_v8 : Pipeline.afterTail₀ cfgs (dats m) 0 (V0 m) [hostOps1] c main_v8
    = fun _ => Ideal.div (accA m c 8 (ix1 0) + negSum (F := Ideal) (NPfin m c) (NNfin m c) (Mfin m c) (accA m c 8)) (∑ r : Fin 64, NPfin m c (ix2 r 0)) := by
  unfold Pipeline.afterTail₀
  simp only [List.flatten_cons, List.flatten_nil, List.append_nil]
  after_results
  rw [left5, left6]
  funext i
  exact congrArg (Ideal.div _) (out7_eq (NPfin m c) _)

/-- The kernel's run: its two results and its arguments. -/
theorem run_value : θ_run (defs (F := Ideal)) (onTc (τ := τ) (main (F := Ideal))) ⟨m, fun _ => 0, ρ⟩ (fun r => ∀ c : Dev nD,
      (r.2.mem ((c.tc : Thread nD τ).loc main_v6) = (fun _ => Ideal.div (accA m c 8 (ix1 1)) (∑ r : Fin 64, NPfin m c (ix2 r 0))))
      ∧ (r.2.mem ((c.tc : Thread nD τ).loc main_v8)
        = (fun _ => Ideal.div (accA m c 8 (ix1 0) + negSum (F := Ideal) (NPfin m c) (NNfin m c) (Mfin m c) (accA m c 8)) (∑ r : Fin 64, NPfin m c (ix2 r 0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v6 (Pipeline.mem_restRefs_of main_v6 (by decide) (by decide))).trans (W_v6 m c),
      ((h.1 c).2 main_v8 (Pipeline.mem_restRefs_of main_v8 (by decide) (by decide))).trans (W_v8 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 1).trans (((dats m 0 c).arrAt_in 1 rfl _).trans (V_main_arg2 m c)),
      ((h.1 c).2 main_arg3 (Pipeline.mem_restRefs_of main_arg3 (by decide) (by decide))).trans (W_main_arg3 m (dats m) c)⟩) (Hand.run m ρ)

end Cert.Value

end
-- ==== Proof.Value.Lane.lean ====
/- What the kernel computes at one lane, in real numbers. -/
module

public import proofs.«01_k».proof.Proof.KernelIdealRun.Lanes
public import Idealize.ShloMosaic.PureOps.Ideal.Laws
public import Idealize.ShloMosaic.Lib.IdealHost

@[expose] public section

set_option maxRecDepth 16384

noncomputable section

namespace Cert.Value

open Idealize.ShloMosaic Idealize.ShloMosaic.ValueIdx Cert.KernelIdeal.Hand

/-- The logarithm of the sum of the exponentials of a lane's confidences. -/
def lse (x : Fin 21 → ℝ) : ℝ := Real.log (∑ k, Real.exp (x k))

theorem expSum_pos (x : Fin 21 → ℝ) : 0 < ∑ k, Real.exp (x k) :=
  Finset.sum_pos (fun k _ => Real.exp_pos _) ⟨0, Finset.mem_univ _⟩

/-- The log of a sum of exponentials is at least each exponent. -/
theorem le_lse (x : Fin 21 → ℝ) (k : Fin 21) : x k ≤ lse x := by
  rw [← Real.log_exp (x k)]
  exact Real.log_le_log (Real.exp_pos _) (Finset.single_le_sum (f := fun k => Real.exp (x k)) (fun _ _ => (Real.exp_pos _).le) (Finset.mem_univ k))

/-- The shift of a log of a sum of exponentials by any number. -/
theorem lse_shift (x : Fin 21 → ℝ) (m : ℝ) : Real.log (∑ k, Real.exp (x k - m)) = lse x - m := by
  have : ∑ k, Real.exp (x k - m) = (∑ k, Real.exp (x k)) * Real.exp (-m) := by
    rw [Finset.sum_mul]
    exact Finset.sum_congr rfl fun k _ => by rw [← Real.exp_add]; rfl
  rw [this, Real.log_mul (expSum_pos x).ne' (Real.exp_pos _).ne', Real.log_exp]; rfl

theorem coe_exp (r : ℝ) : Ideal.exp (r : EReal) = (Real.exp r : EReal) := rfl
theorem coe_log {r : ℝ} (h : 0 < r) : Ideal.log (r : EReal) = (Real.log r : EReal) := by
  show (if r ≤ 0 then (⊥ : EReal) else (Real.log r : EReal)) = _
  rw [if_neg (not_le.mpr h)]

theorem sumL_coe (x : Fin 21 → ℝ) : sumL (F := Ideal) (fun k => (x k : EReal)) = ((∑ k, Real.exp (x k) : ℝ) : EReal) := by
  simp only [Fin.sum_univ_castSucc, Fin.sum_univ_zero, zero_add, EReal.coe_add]
  rfl

theorem logSum_coe (x : Fin 21 → ℝ) : (FloatOps.log (sumL (F := Ideal) fun k => (x k : EReal)) : EReal) = (lse x : EReal) := by
  rw [sumL_coe]; exact coe_log (expSum_pos x)

/-- The mining loss of a lane. -/
def mine (x : Fin 21 → ℝ) : ℝ := lse x - x 0
theorem mine_nonneg (x : Fin 21 → ℝ) : 0 ≤ mine x := sub_nonneg.mpr (le_lse x 0)

theorem mineL_coe (x : Fin 21 → ℝ) : mineL (F := Ideal) (fun k => (x k : EReal)) = (mine x : EReal) := by
  unfold mineL
  rw [logSum_coe]
  show max ((lse x : EReal) - (x 0 : EReal)) (Ideal.ofBits .f32 0x00000000#32) = _
  rw [Ideal.ofBits_zero_f32, ← EReal.coe_sub, max_eq_left]
  · rfl
  · exact_mod_cast mine_nonneg x

theorem selL_eq (w : BitVec 32) (hw : w.toNat < 21) (h0 : w ≠ 0#32) (s : Fin 21 → EReal) : selL (F := Ideal) w s = s ⟨w.toNat, hw⟩ := by
  obtain ⟨n, hn, rfl⟩ : ∃ n, n < 21 ∧ w = BitVec.ofNat 32 n := ⟨w.toNat, hw, by simp⟩
  interval_cases n
  · exact absurd rfl h0
  all_goals rfl

/-- The cross entropy of a lane with a label. -/
def ce (w : BitVec 32) (x : Fin 21 → ℝ) : ℝ := if h : w.toNat < 21 then lse x - x ⟨w.toNat, h⟩ else 0

theorem ce_zero (x : Fin 21 → ℝ) : ce 0#32 x = mine x := by
  unfold ce mine; rw [dif_pos (by decide)]; rfl

theorem posL_iff (w : BitVec 32) (hw : w.toNat < 21) (l : ℕ) (hl : l < 8732) : posL w l = if w = 0#32 then 0#1 else 1#1 := by
  unfold posL
  rw [okL_of_lt l hl]
  obtain ⟨n, hn, rfl⟩ : ∃ n, n < 21 ∧ w = BitVec.ofNat 32 n := ⟨w.toNat, hw, by simp⟩
  interval_cases n <;> decide
theorem negL_iff (w : BitVec 32) (hw : w.toNat < 21) (l : ℕ) (hl : l < 8732) : negL w l = if w = 0#32 then 1#1 else 0#1 := by
  unfold negL
  rw [okL_of_lt l hl]
  obtain ⟨n, hn, rfl⟩ : ∃ n, n < 21 ∧ w = BitVec.ofNat 32 n := ⟨w.toNat, hw, by simp⟩
  interval_cases n <;> decide

theorem ceL_coe (w : BitVec 32) (hw : w.toNat < 21) (l : ℕ) (hl : l < 8732) (x : Fin 21 → ℝ) :
    ceL (F := Ideal) w l (fun k => (x k : EReal)) = ((if w = 0#32 then 0 else ce w x : ℝ) : EReal) := by
  unfold ceL
  rw [posL_iff w hw l hl, logSum_coe]
  split_ifs with h
  · exact Ideal.ofBits_zero_f32
  · rw [selL_eq w hw h]
    show (lse x : EReal) - (x _ : EReal) = _
    unfold ce; rw [dif_pos hw, EReal.coe_sub]

theorem ofBits_neg_one : Ideal.ofBits .f32 0xBF800000#32 = ((-1 : ℝ) : EReal) := by
  simp [Ideal.ofBits, Ideal.ieee, -EReal.coe_mul, -EReal.coe_neg]; norm_num

theorem mL_coe (w : BitVec 32) (hw : w.toNat < 21) (l : ℕ) (hl : l < 8732) (x : Fin 21 → ℝ) :
    mL (F := Ideal) w l (fun k => (x k : EReal)) = ((if w = 0#32 then mine x else -1 : ℝ) : EReal) := by
  unfold mL
  rw [negL_iff w hw l hl, mineL_coe]
  split_ifs with h
  · rfl
  · exact ofBits_neg_one

theorem mL_out (w : BitVec 32) (l : Fin 8832) (hl : ¬ l.val < 8732) (s : Fin 21 → EReal) :
    mL (F := Ideal) w l.val s = ((-1 : ℝ) : EReal) := by
  unfold mL; rw [negL_out w l hl]; exact ofBits_neg_one
theorem ceL_out (w : BitVec 32) (l : Fin 8832) (hl : ¬ l.val < 8732) (s : Fin 21 → EReal) : ceL (F := Ideal) w l.val s = 0 := by
  unfold ceL; rw [posL_out w l hl]; exact Ideal.ofBits_zero_f32
theorem locL_out (w : BitVec 32) (l : Fin 8832) (hl : ¬ l.val < 8732) (p g : EReal) : locL (F := Ideal) w l.val p g = 0 := by
  unfold locL; rw [posL_out w l hl]; exact Ideal.ofBits_zero_f32

end Cert.Value

end
-- ==== Proof.Value.Sums.lean ====
/- The kernel's sums over its blocks, as sums over the arrays. -/
module

public import proofs.«01_k».proof.Proof.Value.Tail
public import proofs.«01_k».proof.Proof.Value.Lane

@[expose] public section

set_option maxRecDepth 16384

noncomputable section

namespace Cert.Value

open Idealize.ShloMosaic hiding ix1 ix2 ix3 ix4
open Idealize.ShloMosaic.TcCoe Idealize.ShloMosaic.ValueIdx Idealize.ShloMosaic.Tactic
open Cert.KernelIdeal Cert.KernelIdeal.Gen Cert.KernelIdeal.Hand Cert.Math

/-- A sum over a block's columns whose terms past the arrays' end are zero. -/
theorem sum_cols (f : Fin 8832 → EReal) (h : ∀ l, ¬ l.val < 8732 → f l = 0) : ∑ l, f l = ∑ l : Fin 8732, f (colIn l) := by
  have e := Fin.sum_univ_add (a := 8732) (b := 100) f
  refine e.trans ?_
  rw [Finset.sum_eq_zero (s := (Finset.univ : Finset (Fin 100))) fun i _ => h _ (by show ¬ 8732 + i.val < 8732; omega), add_zero]
  rfl

/-- The eight blocks' sums are the arrays' sum. -/
theorem sum_blocks (V : ℕ → FVec Ideal S8x8832 .f32) (f : Fin 64 → Fin 8732 → EReal)
    (hin : ∀ t r l, V t (ix2 r (colIn l)) = f (rowOf (pt t) r) l) (hout : ∀ t r (l : Fin 8832), ¬ l.val < 8732 → V t (ix2 r l) = 0) :
    ∑ t ∈ Finset.range 8, tot (F := Ideal) (V t) = ∑ r, ∑ l, f r l := by
  have h1 : ∀ t, tot (F := Ideal) (V t) = ∑ r : Fin 8, ∑ l : Fin 8732, f (rowOf (pt t) r) l := fun t => by
    rw [tot_eq]
    refine Finset.sum_congr rfl fun r _ => ?_
    rw [sum_cols _ (hout t r)]
    exact Finset.sum_congr rfl fun l _ => hin t r l
  rw [Finset.sum_congr rfl fun t _ => h1 t, Finset.sum_range fun t => ∑ r : Fin 8, ∑ l : Fin 8732, f (rowOf (pt t) r) l,
    ← Fintype.sum_prod_type' fun (t : Fin 8) (r : Fin 8) => ∑ l : Fin 8732, f (rowOf (pt t.val) r) l]
  rw [← Equiv.sum_comp (finProdFinEquiv (m := 8) (n := 8)) fun r : Fin (8 * 8) => ∑ l : Fin 8732, f r l]
  refine Finset.sum_congr rfl fun p _ => ?_
  have : rowOf (pt p.1.val) p.2 = finProdFinEquiv p := by
    apply Fin.ext
    show 8 * (p.1.val % 8) + p.2.val = p.2.val + 8 * p.1.val
    have := p.1.isLt; omega
  rw [this]

variable (m : (ℓ : Loc nD τ sig) → Buf (Elt Ideal) ℓ) (c : Dev nD)

theorem accA_0 (n : ℕ) : accA m c n (ix1 0) = ∑ t ∈ Finset.range n, tot (F := Ideal) (ceV (B1 m c (pt t)) (B2 m c (pt t))) := by
  induction n with
  | zero => exact Ideal.ofBits_zero_f32
  | succ n ih =>
    rw [Finset.sum_range_succ, ← ih]
    show accStep (F := Ideal) _ _ _ _ _ (ix1 0) = _
    rw [accStep_eq]; rfl
theorem accA_2 (n : ℕ) : accA m c n (ix1 2) = ∑ t ∈ Finset.range n, tot (F := Ideal) (mineV (B1 m c (pt t)) (B2 m c (pt t))) := by
  induction n with
  | zero => exact Ideal.ofBits_zero_f32
  | succ n ih =>
    rw [Finset.sum_range_succ, ← ih]
    show accStep (F := Ideal) _ _ _ _ _ (ix1 2) = _
    rw [accStep_eq]; rfl
theorem accA_1 (n : ℕ) : accA m c n (ix1 1) = ∑ t ∈ Finset.range n, ∑ k : Fin 4, tot (F := Ideal) (locV k (B2 m c (pt t)) (B3 m c (pt t)) (B4 m c (pt t))) := by
  induction n with
  | zero => exact Ideal.ofBits_zero_f32
  | succ n ih =>
    rw [Finset.sum_range_succ, ← ih]
    show accStep (F := Ideal) _ _ _ _ _ (ix1 1) = _
    rw [accStep_eq]
    rw [Fin.sum_univ_four]
    show accA m c n (ix1 1) + (Ideal.ofBits .f32 0x00000000#32 + _ + _ + _ + _) = _
    rw [Ideal.ofBits_zero_f32, zero_add]

/-- A row, by its block and its place in it. -/
theorem rowOf_eq (r : Fin 64) : rowOf (pt (r.val / 8)) ⟨r.val % 8, Nat.mod_lt _ (by decide)⟩ = r := by
  apply Fin.ext
  show 8 * (r.val / 8 % 8) + r.val % 8 = r.val
  have := r.isLt; omega

/-- The label of a lane. -/
def lab (r : Fin 64) (l : Fin 8732) : BitVec 32 := aW m c (ix2 r l)

variable (x : Fin 64 → Fin 8732 → Fin 21 → ℝ) (hx : ∀ r l k, aX m c (ix3 r l k) = (x r l k : EReal)) (hw : ∀ r l, (lab m c r l).toNat < 21)

include hx in
theorem B1_coe (t : Fin cfg0.N) (r : Fin 8) (l : Fin 8732) : (fun k => B1 m c t (ix3 k r (colIn l))) = fun k => (x (rowOf t r) l k : EReal) :=
  funext fun k => (B1_apply m c t k r l).trans (hx _ _ _)

include hx hw in
/-- The positives' cross entropies. -/
theorem sum_ce : accA m c 8 (ix1 0) = ((∑ r, ∑ l, (if lab m c r l = 0#32 then 0 else ce (lab m c r l) (x r l)) : ℝ) : EReal) := by
  rw [accA_0, coe_sum]
  refine (sum_blocks _ (fun r l => ((if lab m c r l = 0#32 then 0 else ce (lab m c r l) (x r l) : ℝ) : EReal)) ?_ ?_).trans ?_
  · intro t r l
    show ceL (F := Ideal) (B2 m c (pt t) (ix2 r (colIn l))) l.val (fun k => B1 m c (pt t) (ix3 k r (colIn l))) = _
    rw [B1_coe m c x hx, B2_apply]
    exact ceL_coe _ (hw _ _) _ l.isLt _
  · intro t r l hl
    exact ceL_out _ l hl _
  · exact Finset.sum_congr rfl fun r _ => (coe_sum _ _).symm

include hx hw in
/-- The negatives' mining losses, all of them. -/
theorem sum_mine : accA m c 8 (ix1 2) = ((∑ r, ∑ l, (if lab m c r l = 0#32 then mine (x r l) else 0) : ℝ) : EReal) := by
  rw [accA_2, coe_sum]
  refine (sum_blocks _ (fun r l => ((if lab m c r l = 0#32 then mine (x r l) else 0 : ℝ) : EReal)) ?_ ?_).trans ?_
  · intro t r l
    show max (mL (F := Ideal) (B2 m c (pt t) (ix2 r (colIn l))) l.val (fun k => B1 m c (pt t) (ix3 k r (colIn l)))) (Ideal.ofBits .f32 0x00000000#32) = _
    rw [B1_coe m c x hx, B2_apply, Ideal.ofBits_zero_f32]
    rw [show aW m c (ix2 (rowOf (pt t) r) l) = lab m c (rowOf (pt t) r) l from rfl, mL_coe _ (hw _ _) _ l.isLt]
    split_ifs
    · exact max_eq_left (EReal.coe_nonneg.mpr (mine_nonneg _))
    · exact max_eq_right (EReal.coe_nonpos.mpr (by norm_num))
  · intro t r l hl
    show max (mL (F := Ideal) _ l.val _) (Ideal.ofBits .f32 0x00000000#32) = 0
    rw [mL_out _ l hl, Ideal.ofBits_zero_f32]
    exact max_eq_right (EReal.coe_nonpos.mpr (by norm_num))
  · exact Finset.sum_congr rfl fun r _ => (coe_sum _ _).symm

include hw in
/-- The positives' smooth L1 losses. -/
theorem sum_loc : accA m c 8 (ix1 1)
    = ∑ r, ∑ l, ∑ k, (if lab m c r l = 0#32 then 0 else slL (F := Ideal) (aP m c (ix3 r l k)) (aG m c (ix3 r l k))) := by
  rw [accA_1, Finset.sum_comm]
  have h : ∀ k : Fin 4, ∑ t ∈ Finset.range 8, tot (F := Ideal) (locV k (B2 m c (pt t)) (B3 m c (pt t)) (B4 m c (pt t)))
      = ∑ r, ∑ l, (if lab m c r l = 0#32 then 0 else slL (F := Ideal) (aP m c (ix3 r l k)) (aG m c (ix3 r l k))) := by
    intro k
    refine sum_blocks _ _ ?_ ?_
    · intro t r l
      show locL (F := Ideal) (B2 m c (pt t) (ix2 r (colIn l))) l.val (B3 m c (pt t) (ix3 k r (colIn l))) (B4 m c (pt t) (ix3 k r (colIn l))) = _
      rw [B2_apply, B3_apply, B4_apply]
      unfold locL
      rw [show aW m c (ix2 (rowOf (pt t) r) l) = lab m c (rowOf (pt t) r) l from rfl, posL_iff _ (hw _ _) _ l.isLt]
      split_ifs
      · exact Ideal.ofBits_zero_f32
      · rfl
    · intro t r l hl
      exact locL_out _ l hl _ _
  rw [Finset.sum_congr rfl fun k _ => h k, Finset.sum_comm]
  refine Finset.sum_congr rfl fun r _ => ?_
  rw [Finset.sum_comm]

/-- A row's mining losses as the scratch holds them: the negatives' losses, and -1 elsewhere. -/
def mrow (r : Fin 64) (l : Fin 8832) : ℝ := if h : l.val < 8732 then (if lab m c r ⟨l.val, h⟩ = 0#32 then mine (x r ⟨l.val, h⟩) else -1) else -1

include hx hw in
theorem Mfin_coe (r : Fin 64) (l : Fin 8832) : Mfin m c (ix2 r l) = (mrow m c x r l : EReal) := by
  show blkM (F := Ideal) (B1 m c (pt (r.val / 8))) (B2 m c (pt (r.val / 8))) (ix2 ⟨r.val % 8, Nat.mod_lt _ (by decide)⟩ l) = _
  rw [blkM_apply]
  unfold mrow
  by_cases h : l.val < 8732
  · rw [dif_pos h]
    obtain ⟨l', rfl⟩ : ∃ l' : Fin 8732, l = colIn l' := ⟨⟨l.val, h⟩, rfl⟩
    rw [B1_coe m c x hx, B2_apply, rowOf_eq]
    exact mL_coe _ (hw _ _) _ l'.isLt _
  · rw [dif_neg h]
    exact mL_out _ l h _

/-- A row's number of positives, and of negatives. -/
def npos (r : Fin 64) : ℕ := (Finset.univ.filter fun l => ¬ lab m c r l = 0#32).card
def nneg (r : Fin 64) : ℕ := (Finset.univ.filter fun l => lab m c r l = 0#32).card

theorem card_cols (p : Fin 8832 → Prop) [DecidablePred p] (q : Fin 8732 → Prop) [DecidablePred q] (h : ∀ l, p (colIn l) ↔ q l) (h' : ∀ l, p l → l.val < 8732) :
    (Finset.univ.filter p).card = (Finset.univ.filter q).card := by
  refine (Finset.card_bij (fun l _ => colIn l) ?_ ?_ ?_).symm
  · intro l hl; exact Finset.mem_filter.mpr ⟨Finset.mem_univ _, (h l).mpr (Finset.mem_filter.mp hl).2⟩
  · intro a _ b _ e; exact Fin.ext (congrArg (fun z : Fin 8832 => z.val) e)
  · intro l hl
    have hp := (Finset.mem_filter.mp hl).2
    exact ⟨⟨l.val, h' l hp⟩, Finset.mem_filter.mpr ⟨Finset.mem_univ _, (h _).mp hp⟩, rfl⟩

include hw in
theorem NPfin_coe (r : Fin 64) : NPfin m c (ix2 r 0) = ((npos m c r : ℝ) : EReal) := by
  show k0_pay1 (F := Ideal) (k0_pay13 (labs (B2 m c (pt (r.val / 8))))) (ix2 ⟨r.val % 8, Nat.mod_lt _ (by decide)⟩ 0) = _
  unfold k0_pay1
  refine (shapeCast_apply _ shapeCasts_S8x1_S8x1 _ _ rfl).trans ?_
  refine (rowSum8 _ _ 0).trans ?_
  refine (sum_ones fun l => k0_pay13 (F := Ideal) (labs (B2 m c (pt (r.val / 8)))) (ix2 ⟨r.val % 8, Nat.mod_lt _ (by decide)⟩ l)).trans ?_
  congr 2
  unfold npos
  refine card_cols _ _ ?_ ?_
  · intro l
    rw [pos_apply, B2_apply, rowOf_eq]
    show posL (lab m c r l) l.val = 1#1 ↔ _
    rw [posL_iff _ (hw _ _) _ l.isLt]
    split_ifs with h <;> simp [h]
  · intro l hl
    by_contra hn
    rw [pos_apply, posL_out _ l hn] at hl
    exact absurd hl (by decide)
include hw in
theorem NNfin_coe (r : Fin 64) : NNfin m c (ix2 r 0) = ((nneg m c r : ℝ) : EReal) := by
  show k0_pay48 (F := Ideal) (k0_pay14 (labs (B2 m c (pt (r.val / 8))))) (ix2 ⟨r.val % 8, Nat.mod_lt _ (by decide)⟩ 0) = _
  unfold k0_pay48
  refine (shapeCast_apply _ shapeCasts_S8x1_S8x1 _ _ rfl).trans ?_
  refine (rowSum8 _ _ 0).trans ?_
  refine (sum_ones fun l => k0_pay14 (F := Ideal) (labs (B2 m c (pt (r.val / 8)))) (ix2 ⟨r.val % 8, Nat.mod_lt _ (by decide)⟩ l)).trans ?_
  congr 2
  unfold nneg
  refine card_cols _ _ ?_ ?_
  · intro l
    rw [Hand.neg_apply, B2_apply, rowOf_eq]
    show negL (lab m c r l) l.val = 1#1 ↔ _
    rw [negL_iff _ (hw _ _) _ l.isLt]
    split_ifs with h <;> simp [h]
  · intro l hl
    by_contra hn
    rw [Hand.neg_apply, negL_out _ l hn] at hl
    exact absurd hl (by decide)

end Cert.Value

end
-- ==== Proof.Value.RefLogp.lean ====
/- The reference's log-softmax, mining loss and cross entropy at one lane, over the extended reals. -/
module

public import proofs.«01_k».proof.Proof.RefRun
public import proofs.«01_k».proof.Proof.Value.Lane
public import proofs.«01_k».proof.Proof.Value.Final
public import Idealize.ShloMosaic.Lib.ReduceAll
public import Idealize.ShloMosaic.Lib.Pipeline.Value

@[expose] public section

set_option maxRecDepth 16384

noncomputable section

namespace Cert.Value

open Idealize.ShloMosaic hiding ix1 ix2 ix3 ix4
open Idealize.ShloMosaic.TcCoe Idealize.ShloMosaic.ValueIdx
open Cert.ReferenceIdeal Cert.ReferenceIdeal.Gen

/-- Each lane's shift: the maximum of its logits. -/
def rMax (a0 : FVec Ideal S64x8732x21 .f32) : FVec Ideal S64x8732 .f32 :=
  maximumf (broadcastInDim S64x8732 ![] bcast_S_S64x8732 (constant S_ .f32 0xFF800000#32)) (Host.reduce FloatOps.maximumf a0 (constant S_ .f32 0xFF800000#32) reducesTo_S64x8732x21_S64x8732_d2 h_S_)

/-- A lane's value laid over its logits. -/
def over (v : FVec Ideal S64x8732x1 .f32) : FVec Ideal S64x8732x21 .f32 := broadcastInDim S64x8732x21 ![0, 1, 2] bcast_S64x8732x1_S64x8732x21_0_1_2 v
def wide (v : FVec Ideal S64x8732 .f32) : FVec Ideal S64x8732x1 .f32 := broadcastInDim S64x8732x1 ![0, 1] bcast_S64x8732_S64x8732x1_0_1 v

/-- The shifted logits. -/
def rSh (a0 : FVec Ideal S64x8732x21 .f32) : FVec Ideal S64x8732x21 .f32 := subf a0 (over (wide (rMax a0)))
/-- The log-softmax. -/
def rLogp (a0 : FVec Ideal S64x8732x21 .f32) : FVec Ideal S64x8732x21 .f32 :=
  subf (rSh a0) (over (Host.log (wide (Host.reduceAdd (Host.exp (rSh a0)) (constant S_ .f32 0x00000000#32) reducesTo_S64x8732x21_S64x8732_d2 h_S_))))
/-- The mining loss. -/
def rMine (a0 : FVec Ideal S64x8732x21 .f32) : FVec Ideal S64x8732 .f32 :=
  Host.negf (shapeCast S64x8732 (extractStridedSlice S64x8732x1 ![0, 0, 0] (rLogp a0) slices_S64x8732x21_S64x8732x1_0_0_0) shapeCasts_S64x8732x1_S64x8732)

theorem wide_apply (v : FVec Ideal S64x8732 .f32) (r : Fin 64) (l : Fin 8732) (u : Fin 1) : wide v (ix3 r l u) = v (ix2 r l) := by
  refine broadcastInDim_apply _ _ v (ix3 r l u) (ix2 r l) ?_
  intro a; fin_cases a <;> rfl
theorem over_apply (v : FVec Ideal S64x8732x1 .f32) (r : Fin 64) (l : Fin 8732) (k : Fin 21) : over v (ix3 r l k) = v (ix3 r l 0) := by
  refine broadcastInDim_apply _ _ v (ix3 r l k) (ix3 r l 0) ?_
  intro a; fin_cases a <;> rfl

theorem reduces_k : S64x8732x21.Reduces [2] S64x8732 := by decide
theorem lift_k (r : Fin 64) (l : Fin 8732) (k : Fin 21) : reduces_k.lift (ix2 r l) k = ix3 r l k := by
  funext a; apply Fin.ext
  fin_cases a <;> rfl

theorem ofBits_neg_inf : Ideal.ofBits .f32 0xFF800000#32 = ⊥ := by simp [Ideal.ofBits, Ideal.ieee]

theorem maxf_apply {s : Shape} (x y : FVec Ideal s .f32) (i : s.Idx) : maximumf x y i = (max : EReal → EReal → EReal) (x i) (y i) := rfl
theorem negf_apply {s : Shape} (x : FVec Ideal s .f32) (i : s.Idx) : Host.negf x i = (-(x i : EReal) : EReal) := rfl

/-- A lane's maximum, folded over its logits. -/
theorem rMax_eq (a0 : FVec Ideal S64x8732x21 .f32) (r : Fin 64) (l : Fin 8732) :
    rMax a0 (ix2 r l) = max (⊥ : EReal) ((Finset.univ : Finset (Fin 21)).fold max (⊥ : EReal) fun k => a0 (ix3 r l k)) := by
  have e := Host.reduce_eq_fold_single (FloatOps.maximumf (F := Ideal) (φ := .f32)) a0 (constant S_ .f32 0xFF800000#32)
    reducesTo_S64x8732x21_S64x8732_d2 reduces_k h_S_ (ix2 r l)
  have hi : (constant (F := Ideal) S_ .f32 0xFF800000#32) (Shape.Idx.first h_S_) = (⊥ : EReal) := ofBits_neg_inf
  rw [hi, show a0 ∘ reduces_k.lift (ix2 r l) = fun k : Fin 21 => a0 (ix3 r l k) from funext fun k => congrArg a0 (lift_k r l k)] at e
  have hb : (broadcastInDim S64x8732 ![] bcast_S_S64x8732 (constant (F := Ideal) S_ .f32 0xFF800000#32)) (ix2 r l) = (⊥ : EReal) := ofBits_neg_inf
  exact (maxf_apply _ _ _).trans (congrArg₂ (max : EReal → EReal → EReal) hb e)

/-- The maximum of finitely many real logits is real. -/
theorem rMax_coe (a0 : FVec Ideal S64x8732x21 .f32) (r : Fin 64) (l : Fin 8732) (y : Fin 21 → ℝ) (h : ∀ k, a0 (ix3 r l k) = (y k : EReal)) :
    ∃ M : ℝ, rMax a0 (ix2 r l) = (M : EReal) := by
  rw [rMax_eq]
  have hb : (⊥ : EReal) < (Finset.univ : Finset (Fin 21)).fold max (⊥ : EReal) fun k => a0 (ix3 r l k) :=
    (Finset.lt_fold_max _).mpr (Or.inr ⟨0, Finset.mem_univ _, by rw [h]; exact EReal.bot_lt_coe _⟩)
  have ht : ((Finset.univ : Finset (Fin 21)).fold max (⊥ : EReal) fun k => a0 (ix3 r l k)) < (⊤ : EReal) :=
    (Finset.fold_max_lt _).mpr ⟨bot_lt_top, fun k _ => by rw [h]; exact EReal.coe_lt_top _⟩
  rw [max_eq_right bot_le]
  exact ⟨_, (EReal.coe_toReal ht.ne hb.ne').symm⟩

/-- A lane's sum over its logits. -/
theorem laneSum (v : FVec Ideal S64x8732x21 .f32) (r : Fin 64) (l : Fin 8732) :
    Host.reduceAdd v (constant S_ .f32 0x00000000#32) reducesTo_S64x8732x21_S64x8732_d2 h_S_ (ix2 r l) = ∑ k : Fin 21, v (ix3 r l k) := by
  refine (Ideal.hostReduceAdd_single _ reduces_k _ _ _).trans ?_
  have hi : (constant (F := Ideal) S_ .f32 0x00000000#32) (Shape.Idx.first h_S_) = (0 : EReal) := Ideal.ofBits_zero_f32
  refine (congrArg₂ (· + ·) hi (Finset.sum_congr rfl fun k _ => congrArg v (lift_k r l k))).trans (zero_add _)

theorem less_log (p : FVec Ideal S64x8732x21 .f32) (w : FVec Ideal S64x8732 .f32) (r : Fin 64) (l : Fin 8732) (k : Fin 21) :
    subf p (over (Host.log (wide w))) (ix3 r l k) = p (ix3 r l k) - Ideal.log (w (ix2 r l)) := by
  have e : over (Host.log (wide w)) (ix3 r l k) = Ideal.log (w (ix2 r l)) :=
    (over_apply _ r l k).trans (congrArg Ideal.log (wide_apply w r l 0))
  exact congrArg (fun z : EReal => p (ix3 r l k) - z) e

/-- The log-softmax of real logits: the logit less the log of the sum of exponentials. -/
theorem rLogp_coe (a0 : FVec Ideal S64x8732x21 .f32) (r : Fin 64) (l : Fin 8732) (y : Fin 21 → ℝ) (h : ∀ k, a0 (ix3 r l k) = (y k : EReal)) (k : Fin 21) :
    rLogp a0 (ix3 r l k) = ((y k - lse y : ℝ) : EReal) := by
  obtain ⟨M, hM⟩ := rMax_coe a0 r l y h
  have hsh : ∀ k, rSh a0 (ix3 r l k) = ((y k - M : ℝ) : EReal) := fun k => by
    show a0 (ix3 r l k) - over (wide (rMax a0)) (ix3 r l k) = _
    rw [over_apply, wide_apply, hM, h, EReal.coe_sub]
  refine (less_log (rSh a0) _ r l k).trans ?_
  rw [laneSum, hsh]
  have hs : ∑ k : Fin 21, Host.exp (rSh a0) (ix3 r l k) = ((∑ k, Real.exp (y k - M) : ℝ) : EReal) := by
    rw [coe_sum]
    refine Finset.sum_congr rfl fun k _ => ?_
    exact (congrArg Ideal.exp (hsh k)).trans (coe_exp _)
  rw [hs, coe_log (expSum_pos _), lse_shift, ← EReal.coe_sub]
  exact congrArg (fun z : ℝ => (z : EReal)) (by ring)

/-- The mining loss of real logits. -/
theorem rMine_coe (a0 : FVec Ideal S64x8732x21 .f32) (r : Fin 64) (l : Fin 8732) (y : Fin 21 → ℝ) (h : ∀ k, a0 (ix3 r l k) = (y k : EReal)) :
    rMine a0 (ix2 r l) = (mine y : EReal) := by
  have e : shapeCast S64x8732 (extractStridedSlice S64x8732x1 ![0, 0, 0] (rLogp a0) slices_S64x8732x21_S64x8732x1_0_0_0) shapeCasts_S64x8732x1_S64x8732 (ix2 r l)
      = rLogp a0 (ix3 r l 0) := by
    refine (shapeCast_apply _ shapeCasts_S64x8732x1_S64x8732 _ (ix3 r l 0) ?_).trans ?_
    · rw [Shape.rowMajor_val_three, Shape.rowMajor_val_two]; show (r.val * 8732 + l.val) * 1 + 0 = r.val * 8732 + l.val; omega
    · refine extractStridedSlice_apply _ _ _ _ (ix3 r l 0) ?_
      intro a; fin_cases a <;> simp
  refine (negf_apply _ _).trans ((congrArg (fun z : EReal => -z) (e.trans (rLogp_coe a0 r l y h 0))).trans ?_)
  rw [← EReal.coe_neg]
  exact congrArg (fun z : ℝ => (z : EReal)) (by unfold mine; ring)

end Cert.Value

end
-- ==== Proof.Value.RefCe.lean ====
/- The reference's cross entropy at one lane: the gathered log-softmax, over the extended reals. -/
module

public import proofs.«01_k».proof.Proof.Value.RefLogp

@[expose] public section

set_option maxRecDepth 16384

noncomputable section

namespace Cert.Value

open Idealize.ShloMosaic hiding ix1 ix2 ix3 ix4
open Idealize.ShloMosaic.TcCoe Idealize.ShloMosaic.ValueIdx
open Cert.ReferenceIdeal Cert.ReferenceIdeal.Gen

/-- The labels as columns, and the labels brought into range from below. -/
def wideI (a2 : IVec S64x8732 32) : IVec S64x8732x1 32 := broadcastInDim S64x8732x1 ![0, 1] bcast_S64x8732_S64x8732x1_0_1 a2
def wrapI (a2 : IVec S64x8732 32) : IVec S64x8732x1 32 :=
  select (cmpi .slt (wideI a2) (broadcastInDim S64x8732x1 ![] bcast_S_S64x8732x1 (constantI S_ 32 0#32)))
    (addi (wideI a2) (broadcastInDim S64x8732x1 ![] bcast_S_S64x8732x1 (constantI S_ 32 21#32))) (wideI a2)
def rIdx (a2 : IVec S64x8732 32) : IVec S64x8732x1x1 32 := shapeCast S64x8732x1x1 (wrapI a2) shapeCasts_S64x8732x1_S64x8732x1x1
/-- Whether each start index lies in the table. -/
def rIns (a2 : IVec S64x8732 32) : IVec S64x8732x1x1 1 :=
  andi (cmpi .sge (rIdx a2) (broadcastInDim S64x8732x1x1 ![] bcast_S_S64x8732x1x1 (constantI S_ 32 0#32)))
    (cmpi .sle (rIdx a2) (broadcastInDim S64x8732x1x1 ![0, 1, 2, 3] bcast_S1x1x1x1_S64x8732x1x1_0_1_2_3 (broadcastInDim S1x1x1x1 ![3] bcast_S1_S1x1x1x1_3 (constantI S1 32 20#32))))
def rIn (a2 : IVec S64x8732 32) : IVec S64x8732x1 1 :=
  Host.reduce IntOp.andi (rIns a2) (constantI S_ 1 1#1) reducesTo_S64x8732x1x1_S64x8732x1_d3 h_S_
/-- The log-softmax at the labels. -/
def rGat (a0 : FVec Ideal S64x8732x21 .f32) (a2 : IVec S64x8732 32) : FVec Ideal S64x8732x1 .f32 :=
  select (rIn a2) (Host.gather gather_S64x8732x21_S64x8732x1x1_S64x8732x1_n_2_01_01_2_3_111 (rLogp a0) (rIdx a2))
    (broadcastInDim S64x8732x1 ![] bcast_S_S64x8732x1 (constant S_ .f32 0x7FC00000#32))
def rCe (a0 : FVec Ideal S64x8732x21 .f32) (a2 : IVec S64x8732 32) : FVec Ideal S64x8732 .f32 :=
  Host.negf (shapeCast S64x8732 (rGat a0 a2) shapeCasts_S64x8732x1_S64x8732)

/-- Dropping the last coordinate of extent one. -/
theorem flat_apply {α : Type} (v : S64x8732x1.Idx → α) (r : Fin 64) (l : Fin 8732) :
    shapeCast S64x8732 v shapeCasts_S64x8732x1_S64x8732 (ix2 r l) = v (ix3 r l 0) := by
  refine shapeCast_apply _ shapeCasts_S64x8732x1_S64x8732 _ (ix3 r l 0) ?_
  rw [Shape.rowMajor_val_three, Shape.rowMajor_val_two]
  show (r.val * 8732 + l.val) * 1 + 0 = r.val * 8732 + l.val
  omega

theorem sel_one {α : Type} (x y : α) : Scalar.select 1#1 x y = x := rfl
theorem sel_zero {α : Type} (x y : α) : Scalar.select 0#1 x y = y := rfl

/-- A word below 21 is a small signed number. -/
theorem toInt_small (w : BitVec 32) (hw : w.toNat < 21) : w.toInt = (w.toNat : ℤ) := by
  rw [BitVec.toInt_eq_toNat_cond, if_pos (by omega)]

theorem wrap_small (w : BitVec 32) (hw : w.toNat < 21) : Scalar.select (IntOp.cmpi .slt w 0#32) (IntOp.addi w 21#32) w = w := by
  have : IntOp.cmpi .slt w 0#32 = 0#1 := by
    show BitVec.ofBool (w.slt 0#32) = 0#1
    have : w.slt 0#32 = false := by
      rw [BitVec.slt, toInt_small w hw]; simp
    rw [this]; rfl
  rw [this]; rfl
theorem range_small (w : BitVec 32) (hw : w.toNat < 21) : IntOp.andi (IntOp.cmpi .sge w 0#32) (IntOp.cmpi .sle w 20#32) = 1#1 := by
  have h1 : IntOp.cmpi .sge w 0#32 = 1#1 := by
    show BitVec.ofBool ((0#32).sle w) = 1#1
    have : (0#32).sle w = true := by
      rw [BitVec.sle, toInt_small w hw]; simp
    rw [this]; rfl
  have h2 : IntOp.cmpi .sle w 20#32 = 1#1 := by
    show BitVec.ofBool (w.sle 20#32) = 1#1
    have : w.sle 20#32 = true := by
      rw [BitVec.sle, toInt_small w hw]
      have : (20#32).toInt = 20 := by decide
      rw [this]; simp; omega
    rw [this]; rfl
  rw [h1, h2]; rfl

variable (a0 : FVec Ideal S64x8732x21 .f32) (a2 : IVec S64x8732 32)

theorem wideI_apply (r : Fin 64) (l : Fin 8732) (u : Fin 1) : wideI a2 (ix3 r l u) = a2 (ix2 r l) := by
  refine broadcastInDim_apply _ _ a2 (ix3 r l u) (ix2 r l) ?_
  intro a; fin_cases a <;> rfl
theorem wrapI_apply (hw : ∀ r l, (a2 (ix2 r l)).toNat < 21) (r : Fin 64) (l : Fin 8732) (u : Fin 1) : wrapI a2 (ix3 r l u) = a2 (ix2 r l) := by
  have e : wrapI a2 (ix3 r l u) = Scalar.select (IntOp.cmpi .slt (wideI a2 (ix3 r l u)) 0#32) (IntOp.addi (wideI a2 (ix3 r l u)) 21#32) (wideI a2 (ix3 r l u)) := rfl
  rw [e, wideI_apply, wrap_small _ (hw r l)]
theorem rIdx_apply (hw : ∀ r l, (a2 (ix2 r l)).toNat < 21) (r : Fin 64) (l : Fin 8732) (u v : Fin 1) : rIdx a2 (ix4 r l u v) = a2 (ix2 r l) := by
  refine (shapeCast_apply _ shapeCasts_S64x8732x1_S64x8732x1x1 _ (ix3 r l u) ?_).trans (wrapI_apply a2 hw r l u)
  rw [Shape.rowMajor_val_three, Shape.rowMajor_val_four]
  show (r.val * 8732 + l.val) * 1 + u.val = ((r.val * 8732 + l.val) * 1 + u.val) * 1 + v.val
  have := v.isLt; omega
theorem rIns_apply (hw : ∀ r l, (a2 (ix2 r l)).toNat < 21) (i : S64x8732x1x1.Idx) : rIns a2 i = 1#1 := by
  have hi : i = ix4 (i 0) (i 1) (i 2) (i 3) := by
    funext a; fin_cases a <;> rfl
  have e : rIns a2 i = IntOp.andi (IntOp.cmpi .sge (rIdx a2 i) 0#32) (IntOp.cmpi .sle (rIdx a2 i) 20#32) := rfl
  have hx : rIdx a2 i = a2 (ix2 (i 0) (i 1)) := (congrArg (rIdx a2) hi).trans (rIdx_apply a2 hw _ _ _ _)
  rw [e, hx]
  exact range_small _ (hw _ _)
theorem rIn_apply (hw : ∀ r l, (a2 (ix2 r l)).toNat < 21) (j : S64x8732x1.Idx) : rIn a2 j = 1#1 :=
  Host.reduce_andi_one _ _ _ _ _ rfl fun i => rIns_apply a2 hw i

/-- The gather's start index for a lane: the lane's label. -/
theorem gat_idx (r : Fin 64) (l : Fin 8732) (c) :
    gather_S64x8732x21_S64x8732x1x1_S64x8732x1_n_2_01_01_2_3_111.siIdx (ix3 r l 0) c = ix4 r l 0 0 := by
  have hc : c.val = 0 := by
    have h : c.val < 1 := c.isLt
    omega
  funext b; apply Fin.ext
  fin_cases b
  · rfl
  · rfl
  · rfl
  · exact hc

/-- The gather at a lane: the table's entry the label names. -/
theorem gat_apply (T : FVec Ideal S64x8732x21 .f32) (I : IVec S64x8732x1x1 32) (r : Fin 64) (l : Fin 8732) (w : BitVec 32) (hI : I (ix4 r l 0 0) = w) (hw : w.toNat < 21) :
    Host.gather gather_S64x8732x21_S64x8732x1x1_S64x8732x1_n_2_01_01_2_3_111 T I (ix3 r l 0) = T (ix3 r l ⟨w.toNat, hw⟩) := by
  unfold Host.gather
  refine congrArg T (funext fun a => Fin.ext ?_)
  fin_cases a
  · show 0 + r.val + 0 = r.val
    omega
  · show 0 + l.val + 0 = l.val
    omega
  · show gather_S64x8732x21_S64x8732x1x1_S64x8732x1_n_2_01_01_2_3_111.start (ix3 r l 0) I 2 + 0 + 0 = w.toNat
    have h2 : (2 : Fin S64x8732x21.rank) ∈ gather_S64x8732x21_S64x8732x1x1_S64x8732x1_n_2_01_01_2_3_111.startIndexMap := List.mem_singleton.mpr rfl
    unfold GatherDims.start
    rw [dif_pos h2, gat_idx, hI, toInt_small w hw]
    show min ((w.toNat : ℤ).toNat) 20 + 0 + 0 = w.toNat
    omega

/-- The cross entropy of a lane with real logits. -/
theorem rCe_coe (hw : ∀ r l, (a2 (ix2 r l)).toNat < 21) (r : Fin 64) (l : Fin 8732) (y : Fin 21 → ℝ) (h : ∀ k, a0 (ix3 r l k) = (y k : EReal)) :
    rCe a0 a2 (ix2 r l) = (ce (a2 (ix2 r l)) y : EReal) := by
  have e1 : rGat a0 a2 (ix3 r l 0) = rLogp a0 (ix3 r l ⟨(a2 (ix2 r l)).toNat, hw r l⟩) := by
    have e : rGat a0 a2 (ix3 r l 0) = Scalar.select (rIn a2 (ix3 r l 0)) (Host.gather gather_S64x8732x21_S64x8732x1x1_S64x8732x1_n_2_01_01_2_3_111 (rLogp a0) (rIdx a2) (ix3 r l 0)) (Ideal.ofBits .f32 0x7FC00000#32) := rfl
    rw [e, rIn_apply a2 hw]
    refine (sel_one _ _).trans ?_
    exact gat_apply _ _ r l _ (rIdx_apply a2 hw r l 0 0) (hw r l)
  refine (negf_apply _ _).trans ((congrArg (fun z : EReal => -z) ((flat_apply _ r l).trans (e1.trans (rLogp_coe a0 r l y h _)))).trans ?_)
  rw [← EReal.coe_neg]
  exact congrArg (fun z : ℝ => (z : EReal)) (by unfold ce; rw [dif_pos (hw r l)]; ring)

end Cert.Value

end
-- ==== Proof.Math.Rank.lean ====
/- The rank a double argsort gives: the entries of a set that sorts first have the first ranks. -/
module

public import Idealize.ShloMosaic.PureOps.Ideal.Laws

@[expose] public section

namespace Cert.Math

/-- Of a set whose keys are all below the others', as many members have a rank below `k` as there are, or `k`. -/
theorem rank_card {n : ℕ} {α : Type} [LinearOrder α] (key : Fin n → α) (σ τ : Fin n → Fin n)
    (hσ : Function.Injective σ) (hτ : Function.Injective τ)
    (hinc : ∀ i j, i < j → ¬ σ (τ j) < σ (τ i)) (hkey : ∀ i j, i < j → ¬ key (σ j) < key (σ i))
    (N : Finset (Fin n)) (hN : ∀ j ∈ N, ∀ j', j' ∉ N → key j < key j') (k : ℕ) :
    (N.filter fun j => (τ j).val < k).card = min k N.card := by
  have hmono : StrictMono (σ ∘ τ) := fun i j hij =>
    lt_of_le_of_ne (not_lt.mp (hinc i j hij)) fun h => hij.ne ((hσ.comp hτ) h)
  have hid : ∀ j, σ (τ j) = j := by
    have : σ ∘ τ = id := by
      funext j
      have hs : Function.Surjective (σ ∘ τ) := Finite.injective_iff_surjective.mp (hσ.comp hτ)
      let e : Fin n ≃o Fin n := StrictMono.orderIsoOfSurjective _ hmono hs
      exact le_antisymm ((OrderEmbedding.ofStrictMono _ hmono).toOrderHom.2 |> fun _ => by
        have h := e.symm.strictMono.le_apply (x := (σ ∘ τ) j)
        have h2 : e.symm ((σ ∘ τ) j) = j := e.symm_apply_apply j
        rw [h2] at h; exact h) hmono.le_apply
    exact fun j => congrFun this j
  have hid' : ∀ i, τ (σ i) = i := fun i => hσ (hid (σ i))
  have hlt : ∀ j ∈ N, ∀ j', j' ∉ N → τ j < τ j' := by
    intro j hj j' hj'
    by_contra hn
    rcases lt_or_eq_of_le (not_lt.mp hn) with h | h
    · exact hkey _ _ h (by rw [hid, hid]; exact hN j hj j' hj')
    · exact hj' (hτ h ▸ hj)
  have hbound : ∀ j ∈ N, (τ j).val < N.card := by
    intro j hj
    have hsub : (Finset.Iic (τ j)).image σ ⊆ N := by
      intro i hi
      obtain ⟨a, ha, rfl⟩ := Finset.mem_image.mp hi
      by_contra hn
      have := hlt j hj _ hn
      rw [hid'] at this
      exact absurd (Finset.mem_Iic.mp ha) (not_le.mpr this)
    have hc := Finset.card_le_card hsub
    rw [Finset.card_image_of_injective _ hσ, Fin.card_Iic] at hc
    omega
  have hinj : Function.Injective fun j : Fin n => (τ j).val := fun a b h => hτ (Fin.ext h)
  have himg : N.image (fun j => (τ j).val) = Finset.range N.card := by
    refine Finset.eq_of_subset_of_card_le ?_ (by rw [Finset.card_image_of_injective _ hinj, Finset.card_range])
    intro i hi
    obtain ⟨j, hj, rfl⟩ := Finset.mem_image.mp hi
    exact Finset.mem_range.mpr (hbound j hj)
  rw [← Finset.card_image_of_injective _ hinj]
  have : (N.filter fun j => (τ j).val < k).image (fun j => (τ j).val) = Finset.range (min k N.card) := by
    ext i
    constructor
    · intro hi
      obtain ⟨j, hj, rfl⟩ := Finset.mem_image.mp hi
      rw [Finset.mem_filter] at hj
      exact Finset.mem_range.mpr (lt_min hj.2 (hbound j hj.1))
    · intro hi
      have hi' := lt_min_iff.mp (Finset.mem_range.mp hi)
      have : i ∈ N.image (fun j => (τ j).val) := himg ▸ Finset.mem_range.mpr hi'.2
      obtain ⟨j, hj, rfl⟩ := Finset.mem_image.mp this
      exact Finset.mem_image.mpr ⟨j, Finset.mem_filter.mpr ⟨hj, hi'.1⟩, rfl⟩
  rw [this, Finset.card_range]

end Cert.Math
-- ==== Proof.Value.RefRank.lean ====
/- The reference's mining: each negative's place in the order of decreasing mining loss, and how many negatives it takes. -/
module

public import proofs.«01_k».proof.Proof.Value.RefCe
public import proofs.«01_k».proof.Proof.Value.Search
public import proofs.«01_k».proof.Proof.Math.Rank
public import Idealize.ShloMosaic.Lib.SortFacts
public import Idealize.ShloMosaic.Lib.IndicatorCount

@[expose] public section

set_option maxRecDepth 16384

noncomputable section

namespace Cert.Value

open Idealize.ShloMosaic hiding ix1 ix2 ix3 ix4
open Idealize.ShloMosaic.TcCoe Idealize.ShloMosaic.ValueIdx
open Cert.ReferenceIdeal Cert.ReferenceIdeal.Gen

/-- A sort's second result along a row: the row's entries at the sorted positions. -/
theorem sort2_row {α β : Type} {n k : ℕ} (cmp : α × β → α × β → BitVec 1) (x : (⟨2, ![n, k]⟩ : Shape).Idx → α) (y : (⟨2, ![n, k]⟩ : Shape).Idx → β)
    (r : Fin n) (l : Fin k) :
    (Host.sort2 ⟨2, ![n, k]⟩ 1 cmp x y).2 (ix2 r l)
      = y (ix2 r (sortedFrom (fun i j : Fin k => cmp (x (ix2 r i), y (ix2 r i)) (x (ix2 r j), y (ix2 r j)) == 1#1) l)) := by
  have al : ∀ i : Fin k, Shape.Idx.along (s := ⟨2, ![n, k]⟩) (ix2 r l) 1 i = ix2 r i := fun i => by
    unfold Shape.Idx.along
    funext a; fin_cases a
    · simp [Function.update]
    · simp [Function.update]; rfl
  unfold Host.sort2
  rw [dif_pos (show 1 < (⟨2, ![n, k]⟩ : Shape).rank from Nat.one_lt_two)]
  show y (Shape.Idx.along (s := ⟨2, ![n, k]⟩) (ix2 r l) 1 (sortedFrom (fun i j : Fin k =>
    cmp (x (Shape.Idx.along (s := ⟨2, ![n, k]⟩) (ix2 r l) 1 i), y (Shape.Idx.along (s := ⟨2, ![n, k]⟩) (ix2 r l) 1 i))
      (x (Shape.Idx.along (s := ⟨2, ![n, k]⟩) (ix2 r l) 1 j), y (Shape.Idx.along (s := ⟨2, ![n, k]⟩) (ix2 r l) 1 j)) == 1#1) l)) = _
  simp only [al]
  exact congrArg y (al _)

/-- A sort by a key leaves no two positions whose keys decrease. -/
theorem sorted_key {n : ℕ} {α : Type} [LinearOrder α] (key : Fin n → α) (R : Fin n → Fin n → Bool) (hR : ∀ i j, R i j = true ↔ key i < key j)
    (i j : Fin n) (hij : i < j) : ¬ key (sortedFrom R j) < key (sortedFrom R i) := by
  have h := sortedFrom_noInversion R R
    (fun a b hab => by
      rw [Bool.eq_false_iff]
      exact fun hba => lt_asymm ((hR _ _).mp hab) ((hR _ _).mp hba))
    (fun a b h => h)
    (fun a b c hab hbc => by
      rw [Bool.eq_false_iff] at hab hbc ⊢
      intro hac
      have h1 := not_lt.mp fun h => hab ((hR _ _).mpr h)
      have h2 := not_lt.mp fun h => hbc ((hR _ _).mpr h)
      exact absurd ((hR _ _).mp hac) (not_lt.mpr (h2.trans h1))) i j hij
  rw [Bool.eq_false_iff] at h
  exact fun hlt => h ((hR _ _).mpr hlt)

/-- The float sort's comparator is the order on its keys. -/
theorem cmp_key (p q : Ideal .f32 × BitVec 32) : (comparator_f32_i32_d1 (F := Ideal) p q == 1#1) = true ↔ (p.1 : EReal) < q.1 := by
  have canon : ∀ x : EReal, Scalar.select (FloatOps.cmpf (F := Ideal) (φ := .f32) .une x x) (Ideal.ofBits .f32 0x7FC00000#32 : EReal)
      (Scalar.select (FloatOps.cmpf (F := Ideal) (φ := .f32) .oeq x (Ideal.ofBits .f32 0x00000000#32)) (Ideal.ofBits .f32 0x00000000#32 : EReal) x) = x := by
    intro x
    have h1 : FloatOps.cmpf (F := Ideal) (φ := .f32) .une x x = 0#1 := by
      show BitVec.ofBool (decide (x ≠ x)) = 0#1
      rw [decide_eq_false (by simp)]; rfl
    rw [h1, sel_zero]
    refine (select_of_iff (ofBool_one (x = Ideal.ofBits .f32 0x00000000#32)) _ _).trans ?_
    split_ifs with h
    · exact h.symm
    · rfl
  rw [beq_iff_eq]
  show FloatOps.cmpf (F := Ideal) (φ := .f32) .olt
    (Scalar.select (FloatOps.cmpf (F := Ideal) (φ := .f32) .une p.1 p.1) (Ideal.ofBits .f32 0x7FC00000#32 : EReal)
      (Scalar.select (FloatOps.cmpf (F := Ideal) (φ := .f32) .oeq p.1 (Ideal.ofBits .f32 0x00000000#32)) (Ideal.ofBits .f32 0x00000000#32 : EReal) p.1))
    (Scalar.select (FloatOps.cmpf (F := Ideal) (φ := .f32) .une q.1 q.1) (Ideal.ofBits .f32 0x7FC00000#32 : EReal)
      (Scalar.select (FloatOps.cmpf (F := Ideal) (φ := .f32) .oeq q.1 (Ideal.ofBits .f32 0x00000000#32)) (Ideal.ofBits .f32 0x00000000#32 : EReal) q.1)) = 1#1 ↔ _
  rw [canon, canon]
  exact olt_iff _ _

theorem ofNat_lt (a b : ℕ) (ha : a < 2 ^ 31) (hb : b < 2 ^ 31) : IntOp.cmpi .slt (BitVec.ofNat 32 a) (BitVec.ofNat 32 b) = 1#1 ↔ a < b := by
  have hi : ∀ x : ℕ, x < 2 ^ 31 → (BitVec.ofNat 32 x).toInt = (x : ℤ) := fun x hx => by
    rw [BitVec.toInt_eq_toNat_cond, BitVec.toNat_ofNat, Nat.mod_eq_of_lt (by omega), if_pos (by omega)]
  show BitVec.ofBool ((BitVec.ofNat 32 a).slt (BitVec.ofNat 32 b)) = 1#1 ↔ _
  rw [BitVec.slt, hi a ha, hi b hb, ofBool_one]
  omega

/-- The integer sort's comparator is the order on small words. -/
theorem cmp_word (a b : ℕ) (ha : a < 2 ^ 31) (hb : b < 2 ^ 31) (u v : BitVec 32) :
    (comparator_i32_i32_d1 (BitVec.ofNat 32 a, u) (BitVec.ofNat 32 b, v) == 1#1) = true ↔ a < b := by
  rw [beq_iff_eq]
  exact ofNat_lt a b ha hb

/-- Which lanes are positive, the sort's key, and each lane's place. -/
def rPos (a2 : IVec S64x8732 32) : IVec S64x8732 1 := cmpi .sgt a2 (broadcastInDim S64x8732 ![] bcast_S_S64x8732 (constantI S_ 32 0#32))
def rKey (a0 : FVec Ideal S64x8732x21 .f32) (a2 : IVec S64x8732 32) : FVec Ideal S64x8732 .f32 :=
  Host.negf (select (rPos a2) (broadcastInDim S64x8732 ![] bcast_S_S64x8732 (id (constant S_ .f32 0xFF800000#32))) (rMine a0))
def rSrc (a0 : FVec Ideal S64x8732x21 .f32) (a2 : IVec S64x8732 32) : IVec S64x8732 32 :=
  (Host.sort2 S64x8732 1 comparator_f32_i32_d1 (rKey a0 a2) (iotaInDim S64x8732 32 1)).2
def rOrd (a0 : FVec Ideal S64x8732x21 .f32) (a2 : IVec S64x8732 32) : IVec S64x8732 32 :=
  (Host.sort2 S64x8732 1 comparator_i32_i32_d1 (rSrc a0 a2) (iotaInDim S64x8732 32 1)).2
/-- Three times the number of positives of each row. -/
def rCnt (a2 : IVec S64x8732 32) : IVec S64 32 := Host.reduce IntOp.addi (extui 32 (rPos a2) natLt_1_32) (constantI S_ 32 0#32) reducesTo_S64x8732_S64_d1 h_S_
def rNum (a2 : IVec S64x8732 32) : IVec S64x1 32 :=
  muli (broadcastInDim S64x1 ![0] bcast_S64_S64x1_0 (rCnt a2)) (broadcastInDim S64x1 ![] bcast_S_S64x1 (constantI S_ 32 3#32))
/-- Which lanes' places are below that. -/
def rTop (a0 : FVec Ideal S64x8732x21 .f32) (a2 : IVec S64x8732 32) : IVec S64x8732 1 :=
  cmpi .slt (rOrd a0 a2) (broadcastInDim S64x8732 ![0, 1] bcast_S64x1_S64x8732_0_1 (rNum a2))

/-- A row's number of positives, and of negatives. -/
def posN (a2 : IVec S64x8732 32) (r : Fin 64) : ℕ := (Finset.univ.filter fun l : Fin 8732 => ¬ a2 (ix2 r l) = 0#32).card
def negN (a2 : IVec S64x8732 32) (r : Fin 64) : ℕ := (Finset.univ.filter fun l : Fin 8732 => a2 (ix2 r l) = 0#32).card
/-- The negatives the reference takes. -/
def taken (a0 : FVec Ideal S64x8732x21 .f32) (a2 : IVec S64x8732 32) (r : Fin 64) : Finset (Fin 8732) :=
  Finset.univ.filter fun l => a2 (ix2 r l) = 0#32 ∧ rTop a0 a2 (ix2 r l) = 1#1

theorem posN_le (a2 : IVec S64x8732 32) (r : Fin 64) : posN a2 r ≤ 8732 := by
  refine (Finset.card_le_univ _).trans ?_
  simp

theorem pos_word (w : BitVec 32) (hw : w.toNat < 21) : IntOp.cmpi .sgt w 0#32 = 1#1 ↔ ¬ w = 0#32 := by
  show BitVec.ofBool ((0#32).slt w) = 1#1 ↔ _
  rw [BitVec.slt, toInt_small w hw, ofBool_one, ← BitVec.toNat_inj]
  simp
  omega

variable (a0 : FVec Ideal S64x8732x21 .f32) (a2 : IVec S64x8732 32) (hw : ∀ r l, (a2 (ix2 r l)).toNat < 21)

include hw in
theorem rPos_iff (r : Fin 64) (l : Fin 8732) : rPos a2 (ix2 r l) = 1#1 ↔ ¬ a2 (ix2 r l) = 0#32 := pos_word _ (hw r l)

theorem reduces_l : S64x8732.Reduces [1] S64 := by decide
theorem lift_l (r : Fin 64) (l : Fin 8732) : reduces_l.lift (ix1 r) l = ix2 r l := by
  funext a; apply Fin.ext
  fin_cases a <;> rfl

instance : Std.Commutative (IntOp.addi (w := 32)) := ⟨fun a b => BitVec.add_comm a b⟩
instance : Std.Associative (IntOp.addi (w := 32)) := ⟨fun a b c => BitVec.add_assoc a b c⟩

/-- A row's count of set bits. -/
theorem count_row (b : IVec S64x8732 1) (r : Fin 64) :
    Host.reduce IntOp.addi (extui 32 b natLt_1_32) (constantI S_ 32 0#32) reducesTo_S64x8732_S64_d1 h_S_ (ix1 r)
      = BitVec.ofNat 32 (Finset.univ.filter fun l : Fin 8732 => b (ix2 r l) = 1#1).card := by
  have e := Host.reduce_eq_fold_single (IntOp.addi (w := 32)) (extui 32 b natLt_1_32) (constantI S_ 32 0#32) reducesTo_S64x8732_S64_d1 reduces_l h_S_ (ix1 r)
  rw [show (extui 32 b natLt_1_32) ∘ reduces_l.lift (ix1 r) = fun l : Fin 8732 => (b (ix2 r l)).setWidth 32 from
    funext fun l => congrArg (extui 32 b natLt_1_32) (lift_l r l)] at e
  exact e.trans (IndicatorCount.fold_addi_setWidth_eq_card (fun l : Fin 8732 => b (ix2 r l)) Finset.univ)

include hw in
theorem rNum_apply (r : Fin 64) : rNum a2 (ix2 r 0) = BitVec.ofNat 32 (3 * posN a2 r) := by
  have hc : rCnt a2 (ix1 r) = BitVec.ofNat 32 (posN a2 r) := by
    refine (count_row (rPos a2) r).trans (congrArg (BitVec.ofNat 32) ?_)
    unfold posN
    exact congrArg Finset.card (Finset.filter_congr fun l _ => rPos_iff a2 hw r l)
  have hb : broadcastInDim S64x1 ![0] bcast_S64_S64x1_0 (rCnt a2) (ix2 r 0) = rCnt a2 (ix1 r) := by
    refine broadcastInDim_apply _ _ _ (ix2 r 0) (ix1 r) ?_
    intro a; fin_cases a; rfl
  have e : rNum a2 (ix2 r 0) = broadcastInDim S64x1 ![0] bcast_S64_S64x1_0 (rCnt a2) (ix2 r 0) * 3#32 := rfl
  rw [e, hb, hc, Nat.mul_comm, BitVec.ofNat_mul]

/-- The sort's key: positives last, negatives by decreasing mining loss. -/
def keyN (y : Fin 64 → Fin 8732 → Fin 21 → ℝ) (r : Fin 64) (l : Fin 8732) : EReal := if a2 (ix2 r l) = 0#32 then ((-mine (y r l) : ℝ) : EReal) else ⊤

variable (y : Fin 64 → Fin 8732 → Fin 21 → ℝ) (h : ∀ r l k, a0 (ix3 r l k) = (y r l k : EReal))

include hw h in
theorem rKey_apply (r : Fin 64) (l : Fin 8732) : rKey a0 a2 (ix2 r l) = keyN a2 y r l := by
  have e : rKey a0 a2 (ix2 r l) = (-(Scalar.select (rPos a2 (ix2 r l)) (Ideal.ofBits .f32 0xFF800000#32 : EReal) (rMine a0 (ix2 r l))) : EReal) := rfl
  rw [e, rMine_coe a0 r l (y r l) (h r l), ofBits_neg_inf, select_of_iff (rPos_iff a2 hw r l)]
  unfold keyN
  split_ifs with hz
  · rw [EReal.coe_neg]
  · exact EReal.neg_bot

include hw h in
/-- Each lane's place is the number below, whose order rank sorts the keys. -/
theorem rOrd_spec (r : Fin 64) : ∃ σ τ : Fin 8732 → Fin 8732, Function.Injective σ ∧ Function.Injective τ ∧
    (∀ i j, i < j → ¬ σ (τ j) < σ (τ i)) ∧ (∀ i j, i < j → ¬ keyN a2 y r (σ j) < keyN a2 y r (σ i)) ∧
    ∀ l, rOrd a0 a2 (ix2 r l) = BitVec.ofNat 32 (τ l).val := by
  obtain ⟨R, hR, hs⟩ : ∃ R : Fin 8732 → Fin 8732 → Bool, (∀ i j, R i j = true ↔ keyN a2 y r i < keyN a2 y r j) ∧
      ∀ l, rSrc a0 a2 (ix2 r l) = BitVec.ofNat 32 (sortedFrom R l).val := by
    refine ⟨_, fun i j => ?_, fun l => sort2_row comparator_f32_i32_d1 (rKey a0 a2) (iotaInDim S64x8732 32 1) r l⟩
    rw [← rKey_apply a0 a2 hw y h, ← rKey_apply a0 a2 hw y h]
    exact cmp_key _ _
  obtain ⟨Q, hQ, ht⟩ : ∃ Q : Fin 8732 → Fin 8732 → Bool, (∀ i j, Q i j = true ↔ sortedFrom R i < sortedFrom R j) ∧
      ∀ l, rOrd a0 a2 (ix2 r l) = BitVec.ofNat 32 (sortedFrom Q l).val := by
    refine ⟨_, fun i j => ?_, fun l => sort2_row comparator_i32_i32_d1 (rSrc a0 a2) (iotaInDim S64x8732 32 1) r l⟩
    show (comparator_i32_i32_d1 (rSrc a0 a2 (ix2 r i), _) (rSrc a0 a2 (ix2 r j), _) == 1#1) = true ↔ _
    rw [hs, hs]
    refine (cmp_word _ _ ?_ ?_ _ _).trans Fin.lt_def.symm
    · have := (sortedFrom R i).isLt; omega
    · have := (sortedFrom R j).isLt; omega
  exact ⟨sortedFrom R, sortedFrom Q, sortedFrom_injective R, sortedFrom_injective Q, sorted_key (sortedFrom R) Q hQ,
    sorted_key (keyN a2 y r) R hR, ht⟩

include hw h in
/-- The reference takes three negatives a positive, or all of them. -/
theorem taken_card (r : Fin 64) : (taken a0 a2 r).card = min (3 * posN a2 r) (negN a2 r) := by
  obtain ⟨σ, τ, hσ, hτ, hinc, hkey, ho⟩ := rOrd_spec a0 a2 hw y h r
  have hp := posN_le a2 r
  have htop : ∀ l, rTop a0 a2 (ix2 r l) = 1#1 ↔ (τ l).val < 3 * posN a2 r := by
    intro l
    have hb : broadcastInDim S64x8732 ![0, 1] bcast_S64x1_S64x8732_0_1 (rNum a2) (ix2 r l) = rNum a2 (ix2 r 0) := by
      refine broadcastInDim_apply _ _ _ (ix2 r l) (ix2 r 0) ?_
      intro a; fin_cases a <;> rfl
    have e : rTop a0 a2 (ix2 r l) = IntOp.cmpi .slt (rOrd a0 a2 (ix2 r l)) (broadcastInDim S64x8732 ![0, 1] bcast_S64x1_S64x8732_0_1 (rNum a2) (ix2 r l)) := rfl
    rw [e, hb, rNum_apply a2 hw, ho]
    exact ofNat_lt _ _ (by have := (τ l).isLt; omega) (by omega)
  have hN : ∀ j ∈ Finset.univ.filter (fun l : Fin 8732 => a2 (ix2 r l) = 0#32), ∀ j', j' ∉ Finset.univ.filter (fun l : Fin 8732 => a2 (ix2 r l) = 0#32) →
      keyN a2 y r j < keyN a2 y r j' := by
    intro j hj j' hj'
    have h1 : a2 (ix2 r j) = 0#32 := (Finset.mem_filter.mp hj).2
    have h2 : ¬ a2 (ix2 r j') = 0#32 := fun hz => hj' (Finset.mem_filter.mpr ⟨Finset.mem_univ _, hz⟩)
    unfold keyN
    rw [if_pos h1, if_neg h2]
    exact EReal.coe_lt_top _
  have := Cert.Math.rank_card (keyN a2 y r) σ τ hσ hτ hinc hkey _ hN (3 * posN a2 r)
  rw [Finset.filter_filter] at this
  refine Eq.trans (congrArg Finset.card (Finset.filter_congr fun l _ => ?_)) this
  rw [htop]

end Cert.Value

end
-- ==== Proof.Value.RefValue.lean ====
/- The reference's two results, over the extended reals. -/
module

public import proofs.«01_k».proof.Proof.Value.RefRank

@[expose] public section

set_option maxRecDepth 16384

noncomputable section

namespace Cert.Value

open Idealize.ShloMosaic hiding ix1 ix2 ix3 ix4
open Idealize.ShloMosaic.TcCoe Idealize.ShloMosaic.ValueIdx
open Cert.ReferenceIdeal Cert.ReferenceIdeal.Gen

/-- The number of positives. -/
def rDen (a2 : IVec S64x8732 32) : FVec Ideal S_ .f32 :=
  sitofp .f32 (Host.reduce IntOp.addi (extui 32 (rPos a2) natLt_1_32) (constantI S_ 32 0#32) reducesTo_S64x8732_S_d0_1 h_S_)
/-- The classification losses of the lanes that count. -/
def rSel (a0 : FVec Ideal S64x8732x21 .f32) (a2 : IVec S64x8732 32) : FVec Ideal S64x8732 .f32 :=
  select (ori (rPos a2) (rTop a0 a2)) (rCe a0 a2) (broadcastInDim S64x8732 ![] bcast_S_S64x8732 (id (constant S_ .f32 0x00000000#32)))
def rCls (a0 : FVec Ideal S64x8732x21 .f32) (a2 : IVec S64x8732 32) : FVec Ideal S_ .f32 :=
  Host.reduceAdd (rSel a0 a2) (constant S_ .f32 0x00000000#32) reducesTo_S64x8732_S_d0_1 h_S_
/-- The smooth L1 losses, and those that count. -/
def rSl (a1 a3 : FVec Ideal S64x8732x4 .f32) : FVec Ideal S64x8732x4 .f32 :=
  select (cmpf .olt (Host.absf (subf a1 a3)) (broadcastInDim S64x8732x4 ![] bcast_S_S64x8732x4 (constant S_ .f32 0x3F800000#32)))
    (mulf (mulf (broadcastInDim S64x8732x4 ![] bcast_S_S64x8732x4 (constant S_ .f32 0x3F000000#32)) (subf a1 a3)) (subf a1 a3))
    (subf (Host.absf (subf a1 a3)) (broadcastInDim S64x8732x4 ![] bcast_S_S64x8732x4 (constant S_ .f32 0x3F000000#32)))
def rSm (a1 a3 : FVec Ideal S64x8732x4 .f32) (a2 : IVec S64x8732 32) : FVec Ideal S64x8732x4 .f32 :=
  select (broadcastInDim S64x8732x4 ![0, 1, 2] bcast_S64x8732x1_S64x8732x4_0_1_2 (broadcastInDim S64x8732x1 ![0, 1] bcast_S64x8732_S64x8732x1_0_1 (rPos a2)))
    (rSl a1 a3) (broadcastInDim S64x8732x4 ![] bcast_S_S64x8732x4 (id (constant S_ .f32 0x00000000#32)))
def rLoc (a1 a3 : FVec Ideal S64x8732x4 .f32) (a2 : IVec S64x8732 32) : FVec Ideal S_ .f32 :=
  Host.reduceAdd (rSm a1 a3 a2) (constant S_ .f32 0x00000000#32) reducesTo_S64x8732x4_S_d0_1_2 h_S_

variable (a0 : FVec Ideal S64x8732x21 .f32) (a1 a3 : FVec Ideal S64x8732x4 .f32) (a2 : IVec S64x8732 32) (hw : ∀ r l, (a2 (ix2 r l)).toNat < 21)

/-- A count over the whole array. -/
theorem count_all (b : IVec S64x8732 1) (j : S_.Idx) :
    Host.reduce IntOp.addi (extui 32 b natLt_1_32) (constantI S_ 32 0#32) reducesTo_S64x8732_S_d0_1 h_S_ j
      = BitVec.ofNat 32 (∑ r : Fin 64, (Finset.univ.filter fun l : Fin 8732 => b (ix2 r l) = 1#1).card) := by
  have e := Host.reduce_eq_fold (IntOp.addi (w := 32)) (extui 32 b natLt_1_32) (constantI S_ 32 0#32) reducesTo_S64x8732_S_d0_1 h_S_ j
  rw [Finset.filter_true_of_mem (fun i _ => funext fun a => a.elim0)] at e
  refine e.trans ((IndicatorCount.fold_addi_setWidth_eq_card (fun i : S64x8732.Idx => b i) Finset.univ).trans (congrArg (BitVec.ofNat 32) ?_))
  rw [Finset.card_filter, Idealize.ShloMosaic.ValueIdx.sum_idx2]
  exact Finset.sum_congr rfl fun r _ => (Finset.card_filter _ _).symm

include hw in
theorem rDen_apply (j : S_.Idx) : rDen a2 j = ((∑ r, (posN a2 r : ℝ) : ℝ) : EReal) := by
  have hc := count_all (rPos a2) j
  rw [Finset.sum_congr rfl fun r _ => congrArg Finset.card (Finset.filter_congr fun l _ => rPos_iff a2 hw r l)] at hc
  have hle : ∑ r, posN a2 r ≤ 558848 := by
    refine (Finset.sum_le_sum fun r _ => posN_le a2 r).trans ?_
    simp
  have hi : (BitVec.ofNat 32 (∑ r, posN a2 r)).toInt = ((∑ r, posN a2 r : ℕ) : ℤ) := by
    rw [BitVec.toInt_eq_toNat_cond, BitVec.toNat_ofNat, Nat.mod_eq_of_lt (by omega), if_pos (by omega)]
  refine (congrArg (fun z : BitVec 32 => ((z.toInt : ℝ) : EReal)) hc).trans ?_
  show (((BitVec.ofNat 32 (∑ r, posN a2 r)).toInt : ℝ) : EReal) = _
  rw [hi]
  refine congrArg (fun z : ℝ => (z : EReal)) ?_
  push_cast; rfl

/-- A sum over the whole of a rank-2 array. -/
theorem sum_all2 (v : FVec Ideal S64x8732 .f32) (j : S_.Idx) :
    Host.reduceAdd v (constant S_ .f32 0x00000000#32) reducesTo_S64x8732_S_d0_1 h_S_ j = ∑ r : Fin 64, ∑ l : Fin 8732, (v (ix2 r l) : EReal) := by
  refine (Ideal.hostReduceAdd_total _ (fun b => b.elim0) _ _ j).trans ?_
  have hi : (constant (F := Ideal) S_ .f32 0x00000000#32) (Shape.Idx.first h_S_) = (0 : EReal) := Ideal.ofBits_zero_f32
  refine (congrArg₂ (· + ·) hi (Idealize.ShloMosaic.ValueIdx.sum_idx2 (M := EReal) v)).trans (zero_add _)
/-- A sum over the whole of a rank-3 array. -/
theorem sum_all3 (v : FVec Ideal S64x8732x4 .f32) (j : S_.Idx) :
    Host.reduceAdd v (constant S_ .f32 0x00000000#32) reducesTo_S64x8732x4_S_d0_1_2 h_S_ j = ∑ r : Fin 64, ∑ l : Fin 8732, ∑ k : Fin 4, (v (ix3 r l k) : EReal) := by
  refine (Ideal.hostReduceAdd_total _ (fun b => b.elim0) _ _ j).trans ?_
  have hi : (constant (F := Ideal) S_ .f32 0x00000000#32) (Shape.Idx.first h_S_) = (0 : EReal) := Ideal.ofBits_zero_f32
  refine (congrArg₂ (· + ·) hi (sum_ix3 v)).trans (zero_add _)

include hw in
/-- The smooth L1 numerator. -/
theorem rLoc_apply (j : S_.Idx) : rLoc a1 a3 a2 j
    = ∑ r, ∑ l, ∑ k, (if a2 (ix2 r l) = 0#32 then 0 else Cert.KernelIdeal.Hand.slL (F := Ideal) (a1 (ix3 r l k)) (a3 (ix3 r l k)) : EReal) := by
  refine (sum_all3 _ j).trans (Finset.sum_congr rfl fun r _ => Finset.sum_congr rfl fun l _ => Finset.sum_congr rfl fun k _ => ?_)
  have hb : broadcastInDim S64x8732x4 ![0, 1, 2] bcast_S64x8732x1_S64x8732x4_0_1_2 (broadcastInDim S64x8732x1 ![0, 1] bcast_S64x8732_S64x8732x1_0_1 (rPos a2)) (ix3 r l k)
      = rPos a2 (ix2 r l) := by
    refine (broadcastInDim_apply _ _ _ (ix3 r l k) (ix3 r l 0) ?_).trans (broadcastInDim_apply _ _ _ (ix3 r l 0) (ix2 r l) ?_)
    · intro a; fin_cases a <;> rfl
    · intro a; fin_cases a <;> rfl
  have e : rSm a1 a3 a2 (ix3 r l k) = Scalar.select (broadcastInDim S64x8732x4 ![0, 1, 2] bcast_S64x8732x1_S64x8732x4_0_1_2 (broadcastInDim S64x8732x1 ![0, 1] bcast_S64x8732_S64x8732x1_0_1 (rPos a2)) (ix3 r l k))
      (Cert.KernelIdeal.Hand.slL (F := Ideal) (a1 (ix3 r l k)) (a3 (ix3 r l k))) (Ideal.ofBits .f32 0x00000000#32 : EReal) := rfl
  rw [e, hb, select_of_iff (rPos_iff a2 hw r l), Ideal.ofBits_zero_f32]
  split_ifs <;> rfl

variable (y : Fin 64 → Fin 8732 → Fin 21 → ℝ) (h : ∀ r l k, a0 (ix3 r l k) = (y r l k : EReal))

include hw h in
/-- The classification numerator: the positives' cross entropies and the taken negatives' mining losses. -/
theorem rCls_apply (j : S_.Idx) : rCls a0 a2 j
    = ((∑ r, ∑ l, (if a2 (ix2 r l) = 0#32 then 0 else ce (a2 (ix2 r l)) (y r l)) + ∑ r, ∑ l ∈ taken a0 a2 r, mine (y r l) : ℝ) : EReal) := by
  rw [← Finset.sum_add_distrib, coe_sum]
  refine (sum_all2 _ j).trans (Finset.sum_congr rfl fun r _ => ?_)
  unfold taken
  rw [Finset.sum_filter, ← Finset.sum_add_distrib, coe_sum]
  refine Finset.sum_congr rfl fun l _ => ?_
  have e : rSel a0 a2 (ix2 r l) = Scalar.select (IntOp.ori (rPos a2 (ix2 r l)) (rTop a0 a2 (ix2 r l))) (rCe a0 a2 (ix2 r l)) (Ideal.ofBits .f32 0x00000000#32 : EReal) := rfl
  rw [e, rCe_coe a0 a2 hw r l (y r l) (h r l), Ideal.ofBits_zero_f32]
  have hor : ∀ p q : BitVec 1, IntOp.ori p q = 1#1 ↔ p = 1#1 ∨ q = 1#1 := by decide
  rw [select_of_iff (hor _ _), rPos_iff a2 hw]
  by_cases hz : a2 (ix2 r l) = 0#32
  · by_cases ht : rTop a0 a2 (ix2 r l) = 1#1
    · simp [hz, ht, ce_zero]
    · simp [hz, ht]
  · simp [hz]

/-- The reference's results, by these names. -/
theorem res_v41 (m : (ℓ : Loc nD τ sig) → Buf (Elt Ideal) ℓ) (c : Dev nD) :
    Hand.res_main_v41 (F := Ideal) m c = Host.divf (rCls (m ((c.tc : Thread nD τ).loc main_arg0)) (m ((c.tc : Thread nD τ).loc main_arg2))) (rDen (m ((c.tc : Thread nD τ).loc main_arg2))) := rfl

theorem divf_apply (p q : FVec Ideal S_ .f32) (j : S_.Idx) : Host.divf p q j = Ideal.div (p j) (q j) := rfl

end Cert.Value

end
-- ==== Proof.Value.PreDecode.lean ====
/- What the precondition says: labels in range, real logits, a positive in every row, and a gap where the reference cuts. -/
module

public import proofs.«01_k».proof.Pre_mining_decided
public import proofs.«01_k».proof.Proof.Value.RefRank
public import proofs.«01_k».proof.Proof.Math.Float

@[expose] public section

set_option maxRecDepth 16384

noncomputable section

namespace Cert.Value

open Idealize.ShloMosaic hiding ix1 ix2 ix3 ix4
open Idealize.ShloMosaic.TcCoe Idealize.ShloMosaic.ValueIdx
open Cert.ReferenceIdeal Cert.ReferenceIdeal.Gen Cert.Math

/-- The precondition's shape relations. -/
instance preFacts : Cert.Pre_mining_decided.Facts where
  reducesTo_S64x8732x21_S64x8732_d2 := reducesTo_S64x8732x21_S64x8732_d2
  h_S_ := h_S_
  bcast_S_S64x8732 := bcast_S_S64x8732
  bcast_S64x8732_S64x8732x1_0_1 := bcast_S64x8732_S64x8732x1_0_1
  bcast_S64x8732x1_S64x8732x21_0_1_2 := bcast_S64x8732x1_S64x8732x21_0_1_2
  slices_S64x8732x21_S64x8732x1_0_0_0 := slices_S64x8732x21_S64x8732x1_0_0_0
  shapeCasts_S64x8732x1_S64x8732 := shapeCasts_S64x8732x1_S64x8732
  natLt_1_32 := natLt_1_32
  reducesTo_S64x8732_S64_d1 := reducesTo_S64x8732_S64_d1
  bcast_S64_S64x1_0 := bcast_S64_S64x1_0
  bcast_S_S64x1 := bcast_S_S64x1
  bcast_S64x1_S64x8732_0_1 := bcast_S64x1_S64x8732_0_1
  bcast_S_S64x8732x21 := by decide

/-- The lanes with label 0, as bits. -/
def pZero (a2 : IVec S64x8732 32) : IVec S64x8732 1 := cmpi .eq a2 (broadcastInDim S64x8732 ![] bcast_S_S64x8732 (constantI S_ 32 0#32))
/-- The losses of the taken negatives, and of those left. -/
def pTaken (a0 : FVec Ideal S64x8732x21 .f32) (a2 : IVec S64x8732 32) : FVec Ideal S64x8732 .f32 :=
  select (andi (pZero a2) (rTop a0 a2)) (rMine a0) (broadcastInDim S64x8732 ![] bcast_S_S64x8732 (constant S_ .f32 0x7F800000#32))
def pLeft (a0 : FVec Ideal S64x8732x21 .f32) (a2 : IVec S64x8732 32) : FVec Ideal S64x8732 .f32 :=
  select (andi (pZero a2) (noti (rTop a0 a2))) (rMine a0) (broadcastInDim S64x8732 ![] bcast_S_S64x8732 (constant S_ .f32 0x00000000#32))
/-- The least loss taken, and the greatest left. -/
def pLo (a0 : FVec Ideal S64x8732x21 .f32) (a2 : IVec S64x8732 32) : FVec Ideal S64 .f32 :=
  Host.reduce FloatOps.minimumf (pTaken a0 a2) (constant S_ .f32 0x7F800000#32) reducesTo_S64x8732_S64_d1 h_S_
def pHi (a0 : FVec Ideal S64x8732x21 .f32) (a2 : IVec S64x8732 32) : FVec Ideal S64 .f32 :=
  Host.reduce FloatOps.maximumf (pLeft a0 a2) (constant S_ .f32 0xFF800000#32) reducesTo_S64x8732_S64_d1 h_S_
def colF (v : FVec Ideal S64 .f32) : FVec Ideal S64x1 .f32 := broadcastInDim S64x1 ![0] bcast_S64_S64x1_0 v
def conF (b : BitVec 32) : FVec Ideal S64x1 .f32 := broadcastInDim S64x1 ![] bcast_S_S64x1 (constant S_ .f32 b)
/-- The test of the gap. -/
def pGap (lo hi : FVec Ideal S64x1 .f32) : IVec S64x1 1 :=
  andi (cmpf .oge (subf lo hi) (maximumf (mulf lo (conF 0x34000000#32)) (conF 0x0D800000#32))) (cmpf .ole hi (conF 0x7F000000#32))
def pCnt (a2 : IVec S64x8732 32) : IVec S64 32 := Host.reduce IntOp.addi (extui 32 (pZero a2) natLt_1_32) (constantI S_ 32 0#32) reducesTo_S64x8732_S64_d1 h_S_
def pRow (a0 : FVec Ideal S64x8732x21 .f32) (a2 : IVec S64x8732 32) : IVec S64x1 1 :=
  andi (cmpi .sge (rNum a2) (broadcastInDim S64x1 ![] bcast_S_S64x1 (constantI S_ 32 3#32)))
    (ori (cmpi .sge (rNum a2) (broadcastInDim S64x1 ![0] bcast_S64_S64x1_0 (pCnt a2))) (pGap (colF (pLo a0 a2)) (colF (pHi a0 a2))))
def pLane (a0 : FVec Ideal S64x8732x21 .f32) (a2 : IVec S64x8732 32) : IVec S64x8732 1 :=
  andi (andi (cmpi .sge a2 (broadcastInDim S64x8732 ![] bcast_S_S64x8732 (constantI S_ 32 0#32)))
      (cmpi .slt a2 (broadcastInDim S64x8732 ![] bcast_S_S64x8732 (constantI S_ 32 21#32))))
    (broadcastInDim S64x8732 ![0, 1] bcast_S64x1_S64x8732_0_1 (pRow a0 a2))
def pAll (a0 : FVec Ideal S64x8732x21 .f32) (a2 : IVec S64x8732 32) : IVec S64x8732x21 1 :=
  andi (broadcastInDim S64x8732x21 ![0, 1, 2] bcast_S64x8732x1_S64x8732x21_0_1_2 (broadcastInDim S64x8732x1 ![0, 1] bcast_S64x8732_S64x8732x1_0_1 (pLane a0 a2)))
    (cmpf .olt (Host.absf a0) (broadcastInDim S64x8732x21 ![] Cert.Pre_mining_decided.Facts.bcast_S_S64x8732x21 (constant S_ .f32 0x7F800000#32)))

variable (a0 : FVec Ideal S64x8732x21 .f32) (a1 a3 : FVec Ideal S64x8732x4 .f32) (a2 : IVec S64x8732 32)

/-- The precondition is these tests. -/
theorem fn_eq : Cert.Pre_mining_decided.fn (F := Ideal) a0 a1 a2 a3 = pAll a0 a2 := rfl

theorem and_one (p q : BitVec 1) : IntOp.andi p q = 1#1 ↔ p = 1#1 ∧ q = 1#1 := by revert p q; decide
theorem or_one (p q : BitVec 1) : IntOp.ori p q = 1#1 ↔ p = 1#1 ∨ q = 1#1 := by revert p q; decide
theorem not_one (p : BitVec 1) : (~~~p) = 1#1 ↔ ¬ p = 1#1 := by revert p; decide

/-- The tests at one lane. -/
theorem pAll_lane (hp : pAll a0 a2 = fun _ => 1#1) (r : Fin 64) (l : Fin 8732) (k : Fin 21) :
    (IntOp.cmpi .sge (a2 (ix2 r l)) 0#32 = 1#1 ∧ IntOp.cmpi .slt (a2 (ix2 r l)) 21#32 = 1#1) ∧ pRow a0 a2 (ix2 r 0) = 1#1
      ∧ FloatOps.cmpf (F := Ideal) (φ := .f32) .olt (max (a0 (ix3 r l k) : EReal) (-(a0 (ix3 r l k) : EReal))) (Ideal.ofBits .f32 0x7F800000#32) = 1#1 := by
  have h := congrFun hp (ix3 r l k)
  have h' := (and_one _ _).mp h
  have hb : broadcastInDim S64x8732x21 ![0, 1, 2] bcast_S64x8732x1_S64x8732x21_0_1_2 (broadcastInDim S64x8732x1 ![0, 1] bcast_S64x8732_S64x8732x1_0_1 (pLane a0 a2)) (ix3 r l k)
      = pLane a0 a2 (ix2 r l) := by
    refine (broadcastInDim_apply _ _ _ (ix3 r l k) (ix3 r l 0) ?_).trans (broadcastInDim_apply _ _ _ (ix3 r l 0) (ix2 r l) ?_)
    · intro a; fin_cases a <;> rfl
    · intro a; fin_cases a <;> rfl
  have h1 := hb.symm.trans h'.1
  have h2 := (and_one _ _).mp h1
  have h3 := (and_one _ _).mp h2.1
  have hr : broadcastInDim S64x8732 ![0, 1] bcast_S64x1_S64x8732_0_1 (pRow a0 a2) (ix2 r l) = pRow a0 a2 (ix2 r 0) := by
    refine broadcastInDim_apply _ _ _ (ix2 r l) (ix2 r 0) ?_
    intro a; fin_cases a <;> rfl
  exact ⟨h3, hr.symm.trans h2.2, h'.2⟩

/-- A word from 0 to 20, signed, is a number below 21. -/
theorem label_small (w : BitVec 32) (h0 : IntOp.cmpi .sge w 0#32 = 1#1) (h1 : IntOp.cmpi .slt w 21#32 = 1#1) : w.toNat < 21 := by
  have h0' : BitVec.ofBool ((0#32).sle w) = 1#1 := h0
  have h1' : BitVec.ofBool (w.slt 21#32) = 1#1 := h1
  rw [BitVec.sle, ofBool_one] at h0'
  rw [BitVec.slt, ofBool_one] at h1'
  have e0 : (0#32).toInt = 0 := by decide
  have e1 : (21#32).toInt = 21 := by decide
  rw [e0] at h0'; rw [e1] at h1'
  have := BitVec.toInt_eq_toNat_cond w
  have hl := w.isLt
  split_ifs at this <;> omega

/-- A value of finite magnitude is real. -/
theorem real_of_abs (x : EReal) (h : FloatOps.cmpf (F := Ideal) (φ := .f32) .olt (max x (-x)) (Ideal.ofBits .f32 0x7F800000#32) = 1#1) : ∃ t : ℝ, x = (t : EReal) := by
  have hi : Ideal.ofBits .f32 0x7F800000#32 = (⊤ : EReal) := by simp [Ideal.ofBits, Ideal.ieee]
  rw [hi] at h
  have h' := (olt_iff _ _).mp h
  have h1 : x < ⊤ := (le_max_left _ _).trans_lt h'
  have h2 : -x < ⊤ := (le_max_right _ _).trans_lt h'
  have h3 : x ≠ ⊥ := fun e => by rw [e, EReal.neg_bot] at h2; exact lt_irrefl _ h2
  exact ⟨x.toReal, (EReal.coe_toReal h1.ne h3).symm⟩

theorem ofNat_le (a b : ℕ) (ha : a < 2 ^ 31) (hb : b < 2 ^ 31) : IntOp.cmpi .sge (BitVec.ofNat 32 a) (BitVec.ofNat 32 b) = 1#1 ↔ b ≤ a := by
  have hi : ∀ x : ℕ, x < 2 ^ 31 → (BitVec.ofNat 32 x).toInt = (x : ℤ) := fun x hx => by
    rw [BitVec.toInt_eq_toNat_cond, BitVec.toNat_ofNat, Nat.mod_eq_of_lt (by omega), if_pos (by omega)]
  show BitVec.ofBool ((BitVec.ofNat 32 b).sle (BitVec.ofNat 32 a)) = 1#1 ↔ _
  rw [BitVec.sle, hi a ha, hi b hb, ofBool_one]
  omega

end Cert.Value

end
-- ==== Proof.Value.Pre.lean ====
/- The precondition decoded: for each row, either every negative is taken or some pattern's value separates those taken from those left. -/
module

public import proofs.«01_k».proof.Proof.Value.PreDecode

@[expose] public section

set_option maxRecDepth 16384

noncomputable section

namespace Cert.Value

open Idealize.ShloMosaic hiding ix1 ix2 ix3 ix4
open Idealize.ShloMosaic.TcCoe Idealize.ShloMosaic.ValueIdx
open Cert.ReferenceIdeal Cert.ReferenceIdeal.Gen Cert.Math

theorem ofBits_pos_inf : Ideal.ofBits .f32 0x7F800000#32 = (⊤ : EReal) := by simp [Ideal.ofBits, Ideal.ieee]
theorem ofBits_rel : Ideal.ofBits .f32 0x34000000#32 = (((2 : ℝ) ^ (-23 : ℤ) : ℝ) : EReal) := by
  simp [Ideal.ofBits, Ideal.ieee, -EReal.coe_mul]; norm_num
theorem ofBits_abs : Ideal.ofBits .f32 0x0D800000#32 = (((2 : ℝ) ^ (-100 : ℤ) : ℝ) : EReal) := by
  simp [Ideal.ofBits, Ideal.ieee, -EReal.coe_mul]; norm_num
theorem ofBits_top : Ideal.ofBits .f32 0x7F000000#32 = (((2 : ℝ) ^ (127 : ℤ) : ℝ) : EReal) := by
  have e : Ideal.ofBits .f32 0x7F000000#32 = ((170141183460469231731687303715884105728 : ℝ) : EReal) := by
    simp [Ideal.ofBits, Ideal.ieee, -EReal.coe_mul]; norm_num
  exact e.trans (congrArg (fun z : ℝ => (z : EReal)) (by norm_num))

/-- A minimum along a row, folded, and a maximum. -/
theorem row_min (v : FVec Ideal S64x8732 .f32) (r : Fin 64) :
    Host.reduce FloatOps.minimumf v (constant S_ .f32 0x7F800000#32) reducesTo_S64x8732_S64_d1 h_S_ (ix1 r)
      = (Finset.univ : Finset (Fin 8732)).fold min (⊤ : EReal) fun l => v (ix2 r l) := by
  have e := Host.reduce_eq_fold_single (FloatOps.minimumf (F := Ideal) (φ := .f32)) v (constant S_ .f32 0x7F800000#32)
    reducesTo_S64x8732_S64_d1 reduces_l h_S_ (ix1 r)
  have hi : (constant (F := Ideal) S_ .f32 0x7F800000#32) (Shape.Idx.first h_S_) = (⊤ : EReal) := ofBits_pos_inf
  rw [hi, show v ∘ reduces_l.lift (ix1 r) = fun l : Fin 8732 => v (ix2 r l) from funext fun l => congrArg v (lift_l r l)] at e
  exact e
theorem row_max (v : FVec Ideal S64x8732 .f32) (r : Fin 64) :
    Host.reduce FloatOps.maximumf v (constant S_ .f32 0xFF800000#32) reducesTo_S64x8732_S64_d1 h_S_ (ix1 r)
      = (Finset.univ : Finset (Fin 8732)).fold max (⊥ : EReal) fun l => v (ix2 r l) := by
  have e := Host.reduce_eq_fold_single (FloatOps.maximumf (F := Ideal) (φ := .f32)) v (constant S_ .f32 0xFF800000#32)
    reducesTo_S64x8732_S64_d1 reduces_l h_S_ (ix1 r)
  have hi : (constant (F := Ideal) S_ .f32 0xFF800000#32) (Shape.Idx.first h_S_) = (⊥ : EReal) := ofBits_neg_inf
  rw [hi, show v ∘ reduces_l.lift (ix1 r) = fun l : Fin 8732 => v (ix2 r l) from funext fun l => congrArg v (lift_l r l)] at e
  exact e

theorem eq_zero (w : BitVec 32) : IntOp.cmpi .eq w 0#32 = 1#1 ↔ w = 0#32 := by
  show BitVec.ofBool (w == 0#32) = 1#1 ↔ _
  by_cases h : w = 0#32
  · subst h; simp
  · rw [beq_eq_false_iff_ne.mpr h]; simp [h]

variable (a0 : FVec Ideal S64x8732x21 .f32) (a2 : IVec S64x8732 32)
variable (y : Fin 64 → Fin 8732 → Fin 21 → ℝ) (h : ∀ r l k, a0 (ix3 r l k) = (y r l k : EReal))

include h in
theorem pTaken_apply (r : Fin 64) (l : Fin 8732) : pTaken a0 a2 (ix2 r l) = if l ∈ taken a0 a2 r then (mine (y r l) : EReal) else ⊤ := by
  have e : pTaken a0 a2 (ix2 r l) = Scalar.select (IntOp.andi (IntOp.cmpi .eq (a2 (ix2 r l)) 0#32) (rTop a0 a2 (ix2 r l))) (rMine a0 (ix2 r l)) (Ideal.ofBits .f32 0x7F800000#32 : EReal) := rfl
  rw [e, rMine_coe a0 r l (y r l) (h r l), ofBits_pos_inf, select_of_iff (and_one _ _), eq_zero]
  simp [taken]
include h in
theorem pLeft_apply (r : Fin 64) (l : Fin 8732) : pLeft a0 a2 (ix2 r l) = if a2 (ix2 r l) = 0#32 ∧ l ∉ taken a0 a2 r then (mine (y r l) : EReal) else 0 := by
  have e : pLeft a0 a2 (ix2 r l) = Scalar.select (IntOp.andi (IntOp.cmpi .eq (a2 (ix2 r l)) 0#32) (~~~(rTop a0 a2 (ix2 r l)))) (rMine a0 (ix2 r l)) (Ideal.ofBits .f32 0x00000000#32 : EReal) := rfl
  rw [e, rMine_coe a0 r l (y r l) (h r l), Ideal.ofBits_zero_f32, select_of_iff (and_one _ _), eq_zero, not_one]
  by_cases hz : a2 (ix2 r l) = 0#32 <;> by_cases ht : rTop a0 a2 (ix2 r l) = 1#1 <;> simp [taken, hz, ht]

include h in
/-- A gap the precondition sees holds some pattern's value. -/
theorem gap_value (r : Fin 64) (hne : (taken a0 a2 r).Nonempty) (hg : pGap (colF (pLo a0 a2)) (colF (pHi a0 a2)) (ix2 r 0) = 1#1) :
    ∃ b < 0x7F800000, (∀ l, a2 (ix2 r l) = 0#32 → l ∉ taken a0 a2 r → mine (y r l) ≤ fval b) ∧ ∀ l ∈ taken a0 a2 r, fval b ≤ mine (y r l) := by
  have hcol : ∀ v : FVec Ideal S64 .f32, colF v (ix2 r 0) = v (ix1 r) := fun v => by
    refine broadcastInDim_apply _ _ _ (ix2 r 0) (ix1 r) ?_
    intro a; fin_cases a; rfl
  have elo : pLo a0 a2 (ix1 r) = (Finset.univ : Finset (Fin 8732)).fold min (⊤ : EReal) fun l => if l ∈ taken a0 a2 r then (mine (y r l) : EReal) else ⊤ := by
    refine (row_min (pTaken a0 a2) r).trans ?_
    simp only [pTaken_apply a0 a2 y h]
  have ehi : pHi a0 a2 (ix1 r) = (Finset.univ : Finset (Fin 8732)).fold max (⊥ : EReal) fun l => if a2 (ix2 r l) = 0#32 ∧ l ∉ taken a0 a2 r then (mine (y r l) : EReal) else 0 := by
    refine (row_max (pLeft a0 a2) r).trans ?_
    simp only [pLeft_apply a0 a2 y h]
  have eg : pGap (colF (pLo a0 a2)) (colF (pHi a0 a2)) (ix2 r 0) = IntOp.andi
      (FloatOps.cmpf (F := Ideal) (φ := .f32) .oge ((colF (pLo a0 a2) (ix2 r 0) : EReal) - colF (pHi a0 a2) (ix2 r 0))
        (max ((colF (pLo a0 a2) (ix2 r 0) : EReal) * Ideal.ofBits .f32 0x34000000#32) (Ideal.ofBits .f32 0x0D800000#32)))
      (FloatOps.cmpf (F := Ideal) (φ := .f32) .ole (colF (pHi a0 a2) (ix2 r 0)) (Ideal.ofBits .f32 0x7F000000#32)) := rfl
  rw [eg, hcol, hcol, elo, ehi, ofBits_rel, ofBits_abs, ofBits_top] at hg
  obtain ⟨hg1, hg2⟩ := (and_one _ _).mp hg
  rw [oge_iff] at hg1
  rw [ole_iff] at hg2
  generalize hlo : ((Finset.univ : Finset (Fin 8732)).fold min (⊤ : EReal) fun l => if l ∈ taken a0 a2 r then (mine (y r l) : EReal) else ⊤) = lo at hg1
  generalize hhi : ((Finset.univ : Finset (Fin 8732)).fold max (⊥ : EReal) fun l => if a2 (ix2 r l) = 0#32 ∧ l ∉ taken a0 a2 r then (mine (y r l) : EReal) else 0) = hi at hg1 hg2
  have l1 : ∀ l ∈ taken a0 a2 r, lo ≤ (mine (y r l) : EReal) := fun l hl => by
    have := ((Finset.le_fold_min lo).mp hlo.ge).2 l (Finset.mem_univ l)
    rwa [if_pos hl] at this
  have l0 : (0 : EReal) ≤ lo := by
    rw [← hlo]
    refine (Finset.le_fold_min _).mpr ⟨le_top, fun l _ => ?_⟩
    split_ifs
    · exact EReal.coe_nonneg.mpr (mine_nonneg _)
    · exact le_top
  have h1 : ∀ l, a2 (ix2 r l) = 0#32 → l ∉ taken a0 a2 r → (mine (y r l) : EReal) ≤ hi := fun l hz hl => by
    rw [← hhi]
    refine (Finset.le_fold_max _).mpr (Or.inr ⟨l, Finset.mem_univ l, ?_⟩)
    rw [if_pos ⟨hz, hl⟩]
  have h0 : (0 : EReal) ≤ hi := by
    rw [← hhi]
    refine (Finset.le_fold_max _).mpr (Or.inr ⟨0, Finset.mem_univ _, ?_⟩)
    split_ifs
    · exact EReal.coe_nonneg.mpr (mine_nonneg _)
    · exact le_refl _
  obtain ⟨j, hj⟩ := hne
  have lt : lo ≠ ⊤ := ((l1 j hj).trans_lt (EReal.coe_lt_top _)).ne
  have lb : lo ≠ ⊥ := (EReal.bot_lt_zero.trans_le l0).ne'
  have ht : hi ≠ ⊤ := (hg2.trans_lt (EReal.coe_lt_top _)).ne
  have hb : hi ≠ ⊥ := (EReal.bot_lt_zero.trans_le h0).ne'
  obtain ⟨L, rfl⟩ : ∃ L : ℝ, lo = (L : EReal) := ⟨lo.toReal, (EReal.coe_toReal lt lb).symm⟩
  obtain ⟨H, rfl⟩ : ∃ H : ℝ, hi = (H : EReal) := ⟨hi.toReal, (EReal.coe_toReal ht hb).symm⟩
  rw [← EReal.coe_mul, ← EReal.coe_sub] at hg1
  have hg3 : max (L * 2 ^ (-23 : ℤ)) (2 ^ (-100 : ℤ)) ≤ L - H :=
    max_le (EReal.coe_le_coe_iff.mp ((le_max_left _ _).trans hg1)) (EReal.coe_le_coe_iff.mp ((le_max_right _ _).trans hg1))
  rw [EReal.coe_le_coe_iff] at hg2
  obtain ⟨b, hb, hb1, hb2⟩ := Cert.Math.exists_between H L (EReal.coe_nonneg.mp h0) hg2 hg3
  exact ⟨b, hb, fun l hz hl => (EReal.coe_le_coe_iff.mp (h1 l hz hl)).trans hb1, fun l hl => hb2.trans (EReal.coe_le_coe_iff.mp (l1 l hl))⟩

omit y h in
/-- What the precondition gives. -/
theorem pre_spec (a1 a3 : FVec Ideal S64x8732x4 .f32) (hp : Cert.Pre_mining_decided.fn (F := Ideal) a0 a1 a2 a3 = fun _ => 1#1) :
    (∀ r l, (a2 (ix2 r l)).toNat < 21) ∧ ∃ y : Fin 64 → Fin 8732 → Fin 21 → ℝ, (∀ r l k, a0 (ix3 r l k) = (y r l k : EReal)) ∧ (∀ r, 1 ≤ posN a2 r) ∧
      ∀ r, ((taken a0 a2 r).card = negN a2 r ∧ negN a2 r ≤ 3 * posN a2 r) ∨ ((taken a0 a2 r).card = 3 * posN a2 r ∧
        ∃ b < 0x7F800000, (∀ l, a2 (ix2 r l) = 0#32 → l ∉ taken a0 a2 r → mine (y r l) ≤ fval b) ∧ ∀ l ∈ taken a0 a2 r, fval b ≤ mine (y r l)) := by
  have hall := pAll_lane a0 a2 ((fn_eq a0 a1 a3 a2).symm.trans hp)
  have hw : ∀ r l, (a2 (ix2 r l)).toNat < 21 := fun r l => label_small _ (hall r l 0).1.1 (hall r l 0).1.2
  have hr : ∀ r l k, ∃ t : ℝ, a0 (ix3 r l k) = (t : EReal) := fun r l k => real_of_abs _ (hall r l k).2.2
  choose y h using hr
  have hrow : ∀ r, 1 ≤ posN a2 r ∧ (negN a2 r ≤ 3 * posN a2 r ∨ pGap (colF (pLo a0 a2)) (colF (pHi a0 a2)) (ix2 r 0) = 1#1) := by
    intro r
    have hq := (hall r 0 0).2.1
    have e : pRow a0 a2 (ix2 r 0) = IntOp.andi (IntOp.cmpi .sge (rNum a2 (ix2 r 0)) 3#32)
      (IntOp.ori (IntOp.cmpi .sge (rNum a2 (ix2 r 0)) (broadcastInDim S64x1 ![0] bcast_S64_S64x1_0 (pCnt a2) (ix2 r 0))) (pGap (colF (pLo a0 a2)) (colF (pHi a0 a2)) (ix2 r 0))) := rfl
    have hb : broadcastInDim S64x1 ![0] bcast_S64_S64x1_0 (pCnt a2) (ix2 r 0) = pCnt a2 (ix1 r) := by
      refine broadcastInDim_apply _ _ _ (ix2 r 0) (ix1 r) ?_
      intro a; fin_cases a; rfl
    have hc : pCnt a2 (ix1 r) = BitVec.ofNat 32 (negN a2 r) := by
      refine (count_row (pZero a2) r).trans (congrArg (BitVec.ofNat 32) ?_)
      unfold negN
      exact congrArg Finset.card (Finset.filter_congr fun l _ => eq_zero _)
    have hpn := posN_le a2 r
    have hnn : negN a2 r ≤ 8732 := (Finset.card_le_univ _).trans (by simp)
    rw [e, hb, hc, rNum_apply a2 hw, and_one, or_one] at hq
    have q1 := (ofNat_le (3 * posN a2 r) 3 (by omega) (by omega)).mp hq.1
    refine ⟨by omega, hq.2.imp (fun q => (ofNat_le _ _ (by omega) (by omega)).mp q) id⟩
  refine ⟨hw, y, h, fun r => (hrow r).1, fun r => ?_⟩
  have hcard := taken_card a0 a2 hw y h r
  by_cases hle : negN a2 r ≤ 3 * posN a2 r
  · exact Or.inl ⟨hcard.trans (min_eq_right hle), hle⟩
  · have hc : (taken a0 a2 r).card = 3 * posN a2 r := hcard.trans (min_eq_left (by omega))
    have hp1 := (hrow r).1
    refine Or.inr ⟨hc, gap_value a0 a2 y h r (Finset.card_pos.mp (by omega)) ((hrow r).2.resolve_left hle)⟩

end Cert.Value

end
-- ==== Proof.Value.Equal.lean ====
/- The kernel's sums are the reference's, under the precondition. -/
module

public import proofs.«01_k».proof.Proof.Value.Sums
public import proofs.«01_k».proof.Proof.Value.Slow
public import proofs.«01_k».proof.Proof.Value.RefValue
public import proofs.«01_k».proof.Proof.Value.Pre

@[expose] public section

set_option maxRecDepth 16384

noncomputable section

namespace Cert.Value

open Idealize.ShloMosaic hiding ix1 ix2 ix3 ix4
open Idealize.ShloMosaic.TcCoe Idealize.ShloMosaic.ValueIdx
open Cert.KernelIdeal Cert.KernelIdeal.Gen Cert.KernelIdeal.Hand Cert.Math

variable (m : (ℓ : Loc nD τ sig) → Buf (Elt Ideal) ℓ) (c : Dev nD)

/-- The number of positives. -/
theorem den_eq (hw : ∀ r l, (lab m c r l).toNat < 21) (j : (⟨0, ![]⟩ : Shape).Idx) : ∑ r : Fin 64, NPfin m c (ix2 r 0) = rDen (aW m c) j := by
  rw [rDen_apply (aW m c) hw j, coe_sum]
  exact Finset.sum_congr rfl fun r _ => NPfin_coe m c hw r

/-- The smooth L1 sum. -/
theorem loc_eq (hw : ∀ r l, (lab m c r l).toNat < 21) (j : (⟨0, ![]⟩ : Shape).Idx) : accA m c 8 (ix1 1) = rLoc (aP m c) (aG m c) (aW m c) j := by
  rw [rLoc_apply (aP m c) (aG m c) (aW m c) hw j]
  exact sum_loc m c hw

/-- The arrays' columns among the block's. -/
def colE : Fin 8732 ↪ Fin 8832 := ⟨colIn, fun a b e => Fin.ext (congrArg (fun z : Fin 8832 => z.val) e)⟩

variable (x : Fin 64 → Fin 8732 → Fin 21 → ℝ)

theorem mrow_in (r : Fin 64) (l : Fin 8732) : mrow m c x r (colIn l) = if lab m c r l = 0#32 then mine (x r l) else -1 := by
  unfold mrow
  rw [dif_pos (show (colIn l).val < 8732 from l.isLt)]; rfl

theorem taken_zero (r : Fin 64) (l : Fin 8732) (h : l ∈ taken (aX m c) (aW m c) r) : lab m c r l = 0#32 := (Finset.mem_filter.mp h).2.1

/-- Over the block's columns, the taken negatives' losses sum as over the arrays'. -/
theorem sum_taken (r : Fin 64) : ∑ j ∈ (taken (aX m c) (aW m c) r).map colE, mrow m c x r j = ∑ l ∈ taken (aX m c) (aW m c) r, mine (x r l) := by
  rw [Finset.sum_map]
  refine Finset.sum_congr rfl fun l hl => ?_
  refine (mrow_in m c x r l).trans ?_
  rw [if_pos (taken_zero m c r l hl)]

/-- A row's negatives. -/
def zeros (r : Fin 64) : Finset (Fin 8732) := Finset.univ.filter fun l => lab m c r l = 0#32
theorem taken_sub (r : Fin 64) : taken (aX m c) (aW m c) r ⊆ zeros m c r := fun l hl => Finset.mem_filter.mpr ⟨Finset.mem_univ _, taken_zero m c r l hl⟩

theorem mem_neg (r : Fin 64) (j : Fin 8832) : j ∈ (zeros m c r).map colE ↔ 0 ≤ mrow m c x r j := by
  constructor
  · intro hj
    obtain ⟨l, hl, rfl⟩ := Finset.mem_map.mp hj
    have : mrow m c x r (colE l) = mine (x r l) := (mrow_in m c x r l).trans (if_pos (Finset.mem_filter.mp hl).2)
    rw [this]; exact mine_nonneg _
  · intro hj
    by_cases h : j.val < 8732
    · obtain ⟨l, rfl⟩ : ∃ l : Fin 8732, j = colIn l := ⟨⟨j.val, h⟩, rfl⟩
      rw [mrow_in] at hj
      refine Finset.mem_map.mpr ⟨l, Finset.mem_filter.mpr ⟨Finset.mem_univ _, ?_⟩, rfl⟩
      by_contra hz
      rw [if_neg hz] at hj
      norm_num at hj
    · unfold mrow at hj
      rw [dif_neg h] at hj
      norm_num at hj

/-- The classification sum. -/
theorem cls_eq (hp : Cert.Pre_mining_decided.fn (F := Ideal) (aX m c) (aP m c) (aW m c) (aG m c) = fun _ => 1#1) (j : (⟨0, ![]⟩ : Shape).Idx) :
    accA m c 8 (ix1 0) + negSum (F := Ideal) (NPfin m c) (NNfin m c) (Mfin m c) (accA m c 8) = rCls (aX m c) (aW m c) j := by
  obtain ⟨hw, x, hx, h1, hcase⟩ := pre_spec (aX m c) (aW m c) (aP m c) (aG m c) hp
  rw [rCls_apply (aX m c) (aW m c) hw x hx j, EReal.coe_add, sum_ce m c x hx hw]
  refine congrArg (fun z : EReal => _ + z) ?_
  unfold negSum
  split_ifs with hroom
  · have hle := roomy_le _ _ (npos m c) (nneg m c) (NPfin_coe m c hw) (NNfin_coe m c hw) hroom
    rw [sum_mine m c x hx hw]
    refine congrArg (fun z : ℝ => (z : EReal)) (Finset.sum_congr rfl fun r _ => ?_)
    have hcard : (zeros m c r).card ≤ (taken (aX m c) (aW m c) r).card := by
      rcases hcase r with h | h
      · exact h.1.ge
      · exact (hle r).trans h.1.ge
    rw [Finset.eq_of_subset_of_card_le (taken_sub m c r) hcard]
    exact (Finset.sum_filter _ _).symm
  · rw [slowSum_eq (NPfin m c) (Mfin m c) (npos m c) (mrow m c x) (NPfin_coe m c hw) (Mfin_coe m c x hx hw)
      (fun r => (zeros m c r).map colE) (fun r => (taken (aX m c) (aW m c) r).map colE) h1 (mem_neg m c x)
      (fun r => Finset.map_subset_map.mpr (taken_sub m c r)) ?_]
    · refine congrArg (fun z : ℝ => (z : EReal)) (Finset.sum_congr rfl fun r _ => sum_taken m c x r)
    · intro r
      rw [Finset.card_map, Finset.card_map]
      rcases hcase r with h | ⟨h, b, hb, hb1, hb2⟩
      · refine Or.inl ⟨congrArg (Finset.map colE) (Finset.eq_of_subset_of_card_le (taken_sub m c r) h.1.ge), h.2⟩
      · refine Or.inr ⟨h, b, hb, ?_, ?_⟩
        · intro j' hj hnj
          obtain ⟨l, hl, rfl⟩ := Finset.mem_map.mp hj
          have hz : lab m c r l = 0#32 := (Finset.mem_filter.mp hl).2
          have : mrow m c x r (colE l) = mine (x r l) := (mrow_in m c x r l).trans (if_pos hz)
          rw [this]
          exact hb1 l hz fun ht => hnj (Finset.mem_map_of_mem colE ht)
        · intro j' hj
          obtain ⟨l, hl, rfl⟩ := Finset.mem_map.mp hj
          have : mrow m c x r (colE l) = mine (x r l) := (mrow_in m c x r l).trans (if_pos (taken_zero m c r l hl))
          rw [this]
          exact hb2 l hl

end Cert.Value

end
-- ==== Proof.Value.Algebraic.lean ====
/- Kernel and reference end with the same two numbers. -/
module

public import proofs.«01_k».proof.Defs
public import proofs.«01_k».proof.Proof.RefRun
public import proofs.«01_k».proof.Proof.Value.Tail
public import proofs.«01_k».proof.Proof.Value.Equal

@[expose] public section

set_option maxRecDepth 16384

noncomputable section

namespace Cert.Value

open Idealize.ShloMosaic hiding ix1 ix2 ix3 ix4
open Idealize.ShloMosaic.TcCoe Idealize.ShloMosaic.ValueIdx Idealize.SL.Sem
open Cert.KernelIdeal.Hand

/-- The first result of the reference, by its name. -/
theorem ref_v40 (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v40)
        = Host.divf (rLoc (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg2)))
          (rDen (m ((c.tc : Thread Cert.ReferenceIdeal.nD Cert.ReferenceIdeal.τ).loc Cert.ReferenceIdeal.main_arg2)))
      ∧ r.2.mem ((c.tc : Thread Cert.ReferenceIdeal.nD Cert.ReferenceIdeal.τ).loc Cert.ReferenceIdeal.main_v41)
        = Host.divf (rCls (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)))
          (rDen (m ((c.tc : Thread Cert.ReferenceIdeal.nD Cert.ReferenceIdeal.τ).loc Cert.ReferenceIdeal.main_arg2)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono (fun _ h c => ⟨(h c).1.trans rfl, (h c).2.1.trans (res_v41 m c), (h c).2.2⟩)
    (Cert.ReferenceIdeal.Hand.run (F := Ideal) m ρ)

/-- From the same arguments, of which the precondition holds, the reference's quotients are the kernel's. -/
theorem algebraic : Cert.algebraic_KernelIdeal_ReferenceIdeal_pre_mining_decided (hKernelIdeal := Cert.KernelIdeal.Gen.facts)
    (hReferenceIdeal := Cert.ReferenceIdeal.Gen.facts) (hPre_mining_decided := preFacts) := by
  intro m g m' g' hp hm
  refine ⟨_, _, run_value m g, (θ_run Cert.ReferenceIdeal.defs _ _).mono (fun r h c => ?_) (ref_v40 m' g')⟩
  obtain ⟨h0, h1, h2, h3⟩ := hm c
  obtain ⟨e0, e1, e2⟩ := h c
  have hpc : Cert.Pre_mining_decided.fn (F := Ideal) (aX m c) (aP m c) (aW m c) (aG m c) = fun _ => 1#1 := hp c
  have hw := (pre_spec (aX m c) (aW m c) (aP m c) (aG m c) hpc).1
  refine ⟨e0.trans ?_, e1.trans ?_, e2⟩
  · rw [h1, h2, h3]
    funext j
    refine (divf_apply _ _ j).trans ?_
    exact congrArg₂ Ideal.div (loc_eq m c hw j).symm (den_eq m c hw j).symm
  · rw [h0, h2]
    funext j
    refine (divf_apply _ _ j).trans ?_
    exact congrArg₂ Ideal.div (cls_eq m c hpc j).symm (den_eq m c hw j).symm

end Cert.Value

end
-- ==== Proof.lean ====
module

public import proofs.«01_k».proof.Defs
public import proofs.«01_k».proof.Proof.KernelRun.Run
public import proofs.«01_k».proof.Proof.KernelIdealRun.Run
public import proofs.«01_k».proof.Proof.RefRun
public import proofs.«01_k».proof.Proof.Value.Algebraic

@[expose] public section

noncomputable section

namespace Cert.Proof

open Idealize.ShloMosaic Idealize.SL.Sem

/-- The reference ends without fault, its arguments as they were and no semaphore raised. -/
theorem frame_ref : Cert.quiescent_ReferenceIdeal := by
  intro m g _
  exact (θ_run Cert.ReferenceIdeal.defs _ _).mono
    (fun r h => ⟨fun c => (h c).2.2, Idealize.ShloMosaic.sem_eq_zero_of_no_sems (by decide) r.2⟩)
    (Cert.ReferenceIdeal.Hand.run (F := Ideal) m g)

/-- The certificate: the three frames, the ideal program being the kernel, and the kernel's two results being the reference's. -/
theorem claim : Cert.Claim :=
  ⟨Cert.Kernel.Gen.facts, Cert.KernelIdeal.Gen.facts, Cert.ReferenceIdeal.Gen.facts, Cert.Value.preFacts,
    fun m g _ => Cert.Kernel.Hand.frame_quiescent m g,
    fun m g _ => Cert.KernelIdeal.Hand.frame_quiescent m g,
    fun m g _ => Cert.KernelIdeal.Hand.frame_quiescent m g,
    frame_ref,
    fun m g _ => frame_ref m g trivial,
    trivial,
    Cert.Value.algebraic⟩

end Cert.Proof

end
